-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3)
      ∧ r.2.mem ((c.tc : Thread Cert.Swiglu.nD Cert.Swiglu.τ).loc Cert.Swiglu.main_arg4) = m ((c.tc : Thread Cert.Swiglu.nD Cert.Swiglu.τ).loc Cert.Swiglu.main_arg4))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)
      ∧ m' ((c.tc : Thread Cert.SwigluRefIdeal.nD Cert.SwigluRefIdeal.τ).loc Cert.SwigluRefIdeal.main_arg4) = m ((c.tc : Thread Cert.SwigluIdeal.nD Cert.SwigluIdeal.τ).loc Cert.SwigluIdeal.main_arg4)) →
    ∃ (v0 : (c : Dev Cert.SwigluIdeal.nD) → Buf (Elt Ideal) ((c.tc : Thread Cert.SwigluIdeal.nD Cert.SwigluIdeal.τ).loc Cert.SwigluIdeal.main_v5)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v5) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v33) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3)
          ∧ r.2.mem ((c.tc : Thread Cert.SwigluRefIdeal.nD Cert.SwigluRefIdeal.τ).loc Cert.SwigluRefIdeal.main_arg4) = m' ((c.tc : Thread Cert.SwigluRefIdeal.nD Cert.SwigluRefIdeal.τ).loc Cert.SwigluRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v34) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v9_0)) (v1 : (c : Dev Cert.ConvIdeal.nD) → Buf (Elt Ideal) ((c.tc : Thread Cert.ConvIdeal.nD Cert.ConvIdeal.τ).loc Cert.ConvIdeal.main_v9_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9_0) = v0 c
          ∧ r.2.mem ((c.tc : Thread Cert.ConvIdeal.nD Cert.ConvIdeal.τ).loc Cert.ConvIdeal.main_v9_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v273) = v0 c
          ∧ r.2.mem ((c.tc : Thread Cert.ConvRefIdeal.nD Cert.ConvRefIdeal.τ).loc Cert.ConvRefIdeal.main_v274) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluRefIdeal : Cert.SwigluRefIdeal.Facts) (hMemKv : Cert.MemKv.Facts) (hMemKvIdeal : Cert.MemKvIdeal.Facts) (hMemKvRefIdeal : Cert.MemKvRefIdeal.Facts) (hConv : Cert.Conv.Facts) (hConvIdeal : Cert.ConvIdeal.Facts) (hConvRefIdeal : Cert.ConvRefIdeal.Facts),
    quiescent_Kernel (hKernel := hKernel)
    ∧ quiescent_KernelIdeal (hKernelIdeal := hKernelIdeal)
    ∧ quiescent_ReferenceIdeal (hReferenceIdeal := hReferenceIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Conv (hConv := hConv)
    ∧ quiescent_ConvIdeal (hConvIdeal := hConvIdeal)
    ∧ quiescent_ConvRefIdeal (hConvRefIdeal := hConvRefIdeal)
    ∧ preserves_Kernel_KernelIdeal
    ∧ algebraic_KernelIdeal_ReferenceIdeal (hKernelIdeal := hKernelIdeal) (hReferenceIdeal := hReferenceIdeal)
    ∧ preserves_Swiglu_SwigluIdeal
    ∧ algebraic_SwigluIdeal_SwigluRefIdeal (hSwigluIdeal := hSwigluIdeal) (hSwigluRefIdeal := hSwigluRefIdeal)
    ∧ preserves_MemKv_MemKvIdeal
    ∧ algebraic_MemKvIdeal_MemKvRefIdeal (hMemKvIdeal := hMemKvIdeal) (hMemKvRefIdeal := hMemKvRefIdeal)
    ∧ preserves_Conv_ConvIdeal
    ∧ algebraic_ConvIdeal_ConvRefIdeal (hConvIdeal := hConvIdeal) (hConvRefIdeal := hConvRefIdeal)
-- ==== Kernel.lean ====
abbrev S8x8192x1024 : Shape := ⟨3, ![8, 8192, 1024]⟩
abbrev S8x8192x512 : Shape := ⟨3, ![8, 8192, 512]⟩
abbrev S8x256x2048 : Shape := ⟨3, ![8, 256, 2048]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S1x256x2048 : Shape := ⟨3, ![1, 256, 2048]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 17
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8x256x2048, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x256x2048, .bf16⟩
  | .local _ .vmem, ⟨7, _⟩ => ⟨S1x256x2048, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x8192x1024 : Shape := ⟨3, ![8, 8192, 1024]⟩
abbrev S8x8192x512 : Shape := ⟨3, ![8, 8192, 512]⟩
abbrev S8x256x2048 : Shape := ⟨3, ![8, 256, 2048]⟩
abbrev S1024x1024 : Shape := ⟨2, ![1024, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4x256 : Shape := ⟨4, ![8, 8192, 4, 256]⟩
abbrev S8x256x1024 : Shape := ⟨3, ![8, 256, 1024]⟩
abbrev S8x256x4x256 : Shape := ⟨4, ![8, 256, 4, 256]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8x256x2048, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S8x8192x512, .f32⟩
  | .hbm, ⟨11, _⟩ => ⟨S8x8192x512, .f32⟩
  | .hbm, ⟨12, _⟩ => ⟨S8x256x2048, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S_, .f32⟩
  | .hbm, ⟨37, _⟩ => ⟨S8x8192x1, .f32⟩
  | .hbm, ⟨38, _⟩ => ⟨S8x8192x1, .f32⟩
  | .hbm, ⟨39, _⟩ => ⟨S_, .f32⟩
  | .hbm, ⟨40, _⟩ => ⟨S8x8192x1, .f32⟩
  | .hbm, ⟨41, _⟩ => ⟨S8x8192x1, .f32⟩
  | .hbm, ⟨42, _⟩ => ⟨S8x8192x1, .f32⟩
  | .hbm, ⟨43, _⟩ => ⟨S8x8192x1024, .f32⟩
  | .hbm, ⟨44, _⟩ => ⟨S8x8192x1024, .f32⟩
  | .hbm, ⟨45, _⟩ => ⟨S1x1x1024, .f32⟩
  | .hbm, ⟨46, _⟩ => ⟨S8x8192x1024, .f32⟩
  | .hbm, ⟨47, _⟩ => ⟨S8x8192x1024, .f32⟩
  | .hbm, ⟨48, _⟩ => ⟨S8x8192x1024, .f32⟩
  | .hbm, ⟨49, _⟩ => ⟨S8x8192x4x256, .f32⟩
  | .hbm, ⟨50, _⟩ => ⟨S8x256x1024, .f32⟩
  | .hbm, ⟨51, _⟩ => ⟨S8x256x4x256, .f32⟩
  | .hbm, ⟨52, _⟩ => ⟨S8x256x1024, .f32⟩
  | .hbm, ⟨53, _⟩ => ⟨S8x256x4x256, .f32⟩
  | .hbm, ⟨54, _⟩ => ⟨S8x4x8192x256, .f32⟩
  | .hbm, ⟨55, _⟩ => ⟨S_, .f32⟩
  | .hbm, ⟨56, _⟩ => ⟨S8x4x8192x256, .f32⟩
  | .hbm, ⟨57, _⟩ => ⟨S8x4x8192x256, .f32⟩
  | .hbm, ⟨58, _⟩ => ⟨S_, .f32⟩
  | .hbm, ⟨59, _⟩ => ⟨S8x4x8192, .f32⟩
  | .hbm, ⟨60, _⟩ => ⟨S_, .f32⟩
  | .hbm, ⟨61, _⟩ => ⟨S8x4x8192, .f32⟩
  | .hbm, ⟨62, _⟩ => ⟨S8x4x8192, .f32⟩
  | .hbm, ⟨63, _⟩ => ⟨S8x4x8192x1, .f32⟩
  | .hbm, ⟨64, _⟩ => ⟨S8x4x8192x256, .f32⟩
  | .hbm, ⟨65, _⟩ => ⟨S8x4x8192x256, .f32⟩
  | .hbm, ⟨66, _⟩ => ⟨S8x4x8192x256, .f32⟩
  | .hbm, ⟨67, _⟩ => ⟨S_, .f32⟩
  | .hbm, ⟨68, _⟩ => ⟨S8x4x8192, .f32⟩
  | .hbm, ⟨69, _⟩ => ⟨S8x4x8192x1, .f32⟩
  | .hbm, ⟨70, _⟩ => ⟨S8x4x8192x256, .f32⟩
  | .hbm, ⟨71, _⟩ => ⟨S8x4x8192x256, .f32⟩
  | .hbm, ⟨72, _⟩ => ⟨S8x4x256x8192, .f32⟩
  | .hbm, ⟨73, _⟩ => ⟨S8x8192x4x256, .f32⟩
  | .hbm, ⟨74, _⟩ => ⟨S8x8192x1024, .f32⟩
  | .hbm, ⟨75, _⟩ => ⟨S8x8192x1024, .f32⟩
  | .hbm, ⟨76, _⟩ => ⟨S8x8192x1024, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S_, .f32⟩
  | .hbm, ⟨81, _⟩ => ⟨S8x8192x1, .f32⟩
  | .hbm, ⟨82, _⟩ => ⟨S8x8192x1, .f32⟩
  | .hbm, ⟨83, _⟩ => ⟨S_, .f32⟩
  | .hbm, ⟨84, _⟩ => ⟨S8x8192x1, .f32⟩
  | .hbm, ⟨85, _⟩ => ⟨S8x8192x1, .f32⟩
  | .hbm, ⟨86, _⟩ => ⟨S8x8192x1, .f32⟩
  | .hbm, ⟨87, _⟩ => ⟨S8x8192x1024, .f32⟩
  | .hbm, ⟨88, _⟩ => ⟨S8x8192x1024, .f32⟩
  | .hbm, ⟨89, _⟩ => ⟨S1x1x1024, .f32⟩
  | .hbm, ⟨90, _⟩ => ⟨S8x8192x1024, .f32⟩
  | .hbm, ⟨91, _⟩ => ⟨S8x8192x1024, .f32⟩
  | .hbm, ⟨92, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== Swiglu.lean ====
abbrev S8x8192x1024 : Shape := ⟨3, ![8, 8192, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SwigluRefIdeal.lean ====
abbrev S8x8192x1024 : Shape := ⟨3, ![8, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S65536x1024 : Shape := ⟨2, ![65536, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x5632, .f32⟩
  | .hbm, ⟨22, _⟩ => ⟨S8x8192x2816, .f32⟩
  | .hbm, ⟨23, _⟩ => ⟨S8x8192x2816, .f32⟩
  | .hbm, ⟨24, _⟩ => ⟨S8x8192x2816, .f32⟩
  | .hbm, ⟨25, _⟩ => ⟨S_, .f32⟩
  | .hbm, ⟨26, _⟩ => ⟨S8x8192x2816, .f32⟩
  | .hbm, ⟨27, _⟩ => ⟨S8x8192x2816, .f32⟩
  | .hbm, ⟨28, _⟩ => ⟨S_, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x2816, .f32⟩
  | .hbm, ⟨34, _⟩ => ⟨S8x8192x1024, .f32⟩
  | .hbm, ⟨35, _⟩ => ⟨S8x8192x1024, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S_, .f32⟩
  | .hbm, ⟨40, _⟩ => ⟨S8x8192x1, .f32⟩
  | .hbm, ⟨41, _⟩ => ⟨S8x8192x1, .f32⟩
  | .hbm, ⟨42, _⟩ => ⟨S_, .f32⟩
  | .hbm, ⟨43, _⟩ => ⟨S8x8192x1, .f32⟩
  | .hbm, ⟨44, _⟩ => ⟨S8x8192x1, .f32⟩
  | .hbm, ⟨45, _⟩ => ⟨S8x8192x1, .f32⟩
  | .hbm, ⟨46, _⟩ => ⟨S8x8192x1024, .f32⟩
  | .hbm, ⟨47, _⟩ => ⟨S8x8192x1024, .f32⟩
  | .hbm, ⟨48, _⟩ => ⟨S1x1x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== MemKv.lean ====
abbrev S8x256x1024 : Shape := ⟨3, ![8, 256, 1024]⟩
abbrev S1024 : Shape := ⟨1, ![1024]⟩
abbrev S4x1024x2048 : Shape := ⟨3, ![4, 1024, 2048]⟩
abbrev S2048x1024 : Shape := ⟨2, ![2048, 1024]⟩
abbrev S1x1024 : Shape := ⟨2, ![1, 1024]⟩
abbrev S4x2048x2048 : Shape := ⟨3, ![4, 2048, 2048]⟩
abbrev S1x1024x2048 : Shape := ⟨3, ![1, 1024, 2048]⟩
abbrev S1x2048x2048 : Shape := ⟨3, ![1, 2048, 2048]⟩
abbrev S2048 : Shape := ⟨1, ![2048]⟩
abbrev S2048x1 : Shape := ⟨2, ![2048, 1]⟩
abbrev S1024x2048 : Shape := ⟨2, ![1024, 2048]⟩
abbrev S2048x2048 : Shape := ⟨2, ![2048, 2048]⟩

abbrev nBuf : Space → Nat
  | .hbm => 7
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S4x1024x2048, .f32⟩
  | .hbm, ⟨3, _⟩ => ⟨S2048x1024, .f32⟩
  | .hbm, ⟨4, _⟩ => ⟨S1x1024, .f32⟩
  | .hbm, ⟨5, _⟩ => ⟨S4x1024x2048, .bf16⟩
  | .hbm, ⟨6, _⟩ => ⟨S4x2048x2048, .bf16⟩
  | .local _ .vmem, ⟨0, _⟩ => ⟨S2048x1024, .f32⟩
  | .local _ .vmem, ⟨1, _⟩ => ⟨S1x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x2048x2048, .bf16⟩
  | .local _ .vmem, ⟨5, _⟩ => ⟨S1x2048x2048, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S8x256x1024 : Shape := ⟨3, ![8, 256, 1024]⟩
abbrev S1024 : Shape := ⟨1, ![1024]⟩
abbrev S4x1024x2048 : Shape := ⟨3, ![4, 1024, 2048]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S8x256x2048 : Shape := ⟨3, ![8, 256, 2048]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S4x1024x2048, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S1x1024x2048, .f32⟩
  | .hbm, ⟨20, _⟩ => ⟨S1024x2048, .f32⟩
  | .hbm, ⟨21, _⟩ => ⟨S8x256x2048, .f32⟩
  | .hbm, ⟨22, _⟩ => ⟨S2048x2048, .f32⟩
  | .hbm, ⟨23, _⟩ => ⟨S1x1024x2048, .f32⟩
  | .hbm, ⟨24, _⟩ => ⟨S1024x2048, .f32⟩
  | .hbm, ⟨25, _⟩ => ⟨S8x256x2048, .f32⟩
  | .hbm, ⟨26, _⟩ => ⟨S2048x2048, .f32⟩
  | .hbm, ⟨27, _⟩ => ⟨S1x1024x2048, .f32⟩
  | .hbm, ⟨28, _⟩ => ⟨S1024x2048, .f32⟩
  | .hbm, ⟨29, _⟩ => ⟨S8x256x2048, .f32⟩
  | .hbm, ⟨30, _⟩ => ⟨S2048x2048, .f32⟩
  | .hbm, ⟨31, _⟩ => ⟨S1x1024x2048, .f32⟩
  | .hbm, ⟨32, _⟩ => ⟨S1024x2048, .f32⟩
  | .hbm, ⟨33, _⟩ => ⟨S8x256x2048, .f32⟩
  | .hbm, ⟨34, _⟩ => ⟨S2048x2048, .f32⟩
  | .hbm, ⟨35, _⟩ => ⟨S1x2048x2048, .f32⟩
  | .hbm, ⟨36, _⟩ => ⟨S1x2048x2048, .f32⟩
  | .hbm, ⟨37, _⟩ => ⟨S1x2048x2048, .f32⟩
  | .hbm, ⟨38, _⟩ => ⟨S1x2048x2048, .f32⟩
  | .hbm, ⟨39, _⟩ => ⟨S4x2048x2048, .f32⟩
  | .hbm, ⟨40, _⟩ => ⟨S4x2048x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Conv.lean ====
abbrev S8x8192x1024 : Shape := ⟨3, ![8, 8192, 1024]⟩
abbrev S1024 : Shape := ⟨1, ![1024]⟩
abbrev S1024x2848 : Shape := ⟨2, ![1024, 2848]⟩
abbrev S31x512 : Shape := ⟨2, ![31, 512]⟩
abbrev S512 : Shape := ⟨1, ![512]⟩
abbrev S1024x1024 : Shape := ⟨2, ![1024, 1024]⟩
abbrev S1024x1824 : Shape := ⟨2, ![1024, 1824]⟩
abbrev S_ : Shape := ⟨0, ![]⟩
abbrev S1024x1920 : Shape := ⟨2, ![1024, 1920]⟩
abbrev S1x1024 : Shape := ⟨2, ![1, 1024]⟩
abbrev S1x512 : Shape := ⟨2, ![1, 512]⟩
abbrev S8x8192x512 : Shape := ⟨3, ![8, 8192, 512]⟩
abbrev S8x8192x1920 : Shape := ⟨3, ![8, 8192, 1920]⟩
abbrev S1x512x1024 : Shape := ⟨3, ![1, 512, 1024]⟩
abbrev S1x512x512 : Shape := ⟨3, ![1, 512, 512]⟩
abbrev S1x512x1920 : Shape := ⟨3, ![1, 512, 1920]⟩
abbrev S512x1024 : Shape := ⟨2, ![512, 1024]⟩
abbrev S544x512 : Shape := ⟨2, ![544, 512]⟩
abbrev S7x544x512 : Shape := ⟨3, ![7, 544, 512]⟩
abbrev S32x512 : Shape := ⟨2, ![32, 512]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S1x128x256 : Shape := ⟨3, ![1, 128, 256]⟩
abbrev S1024x128 : Shape := ⟨2, ![1024, 128]⟩
abbrev S128x128 : Shape := ⟨2, ![128, 128]⟩
abbrev S1x128x128 : Shape := ⟨3, ![1, 128, 128]⟩
abbrev S1x32x512 : Shape := ⟨3, ![1, 32, 512]⟩
abbrev S24x512 : Shape := ⟨2, ![24, 512]⟩
abbrev S1x24x512 : Shape := ⟨3, ![1, 24, 512]⟩
abbrev S32 : Shape := ⟨1, ![32]⟩
abbrev S32x1 : Shape := ⟨2, ![32, 1]⟩

abbrev nBuf : Space → Nat
  | .hbm => 20
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2848, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024x1824, .f32⟩
  | .hbm, ⟨9, _⟩ => ⟨S_, .i32⟩
  | .hbm, ⟨10, _⟩ => ⟨S_, .f32⟩
  | .hbm, ⟨11, _⟩ => ⟨S1024x1920, .f32⟩
  | .hbm, ⟨12, _⟩ => ⟨S1024x1024, .bf16⟩
  | .hbm, ⟨13, _⟩ => ⟨S1024x1920, .bf16⟩
  | .hbm, ⟨14, _⟩ => ⟨S1x1024, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S8x8192x512, .bf16⟩
  | .hbm, ⟨19, _⟩ => ⟨S8x8192x1920, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1920, .bf16⟩
  | .local _ .vmem, ⟨5, _⟩ => ⟨S31x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512x512, .bf16⟩
  | .local _ .vmem, ⟨10, _⟩ => ⟨S1x512x512, .bf16⟩
  | .local _ .vmem, ⟨11, _⟩ => ⟨S1x512x1920, .bf16⟩
  | .local _ .vmem, ⟨12, _⟩ => ⟨S1x512x1920, .bf16⟩
  | .local _ .vmem, ⟨13, _⟩ => ⟨S512x1024, .bf16⟩
  | .local _ .vmem, ⟨14, _⟩ => ⟨S544x512, .f32⟩
  | .local _ .vmem, ⟨15, _⟩ => ⟨S7x544x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1920 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvRefIdeal.lean ====
abbrev S8x8192x1024 : Shape := ⟨3, ![8, 8192, 1024]⟩
abbrev S1024 : Shape := ⟨1, ![1024]⟩
abbrev S1024x2848 : Shape := ⟨2, ![1024, 2848]⟩
abbrev S31x512 : Shape := ⟨2, ![31, 512]⟩
abbrev S512 : Shape := ⟨1, ![512]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2848 : Shape := ⟨3, ![8, 8192, 2848]⟩
abbrev S8x8192x512 : Shape := ⟨3, ![8, 8192, 512]⟩
abbrev S8x8222x512 : Shape := ⟨3, ![8, 8222, 512]⟩
abbrev S1x512 : Shape := ⟨2, ![1, 512]⟩
abbrev S1x1x512 : Shape := ⟨3, ![1, 1, 512]⟩
abbrev S8x8192x1824 : Shape := ⟨3, ![8, 8192, 1824]⟩
abbrev S8x8192x1920 : Shape := ⟨3, ![8, 8192, 1920]⟩

abbrev nBuf : Space → Nat
  | .hbm => 305
  | .vmem => 0
  | .smem => 0
  | _ => 0

abbrev hbmTy0_0 (i : Nat) : BufTy := match i % 128 with
  | 0 => ⟨S8x8192x1024, .f32⟩
  | 1 => ⟨S1024, .f32⟩
  | 2 => ⟨S1024x2848, .f32⟩
  | 3 => ⟨S31x512, .f32⟩
  | 4 => ⟨S512, .f32⟩
  | 5 => ⟨S512, .f32⟩
  | 6 => ⟨S512, .f32⟩
  | 7 => ⟨S8x8192x1024, .f32⟩
  | 8 => ⟨S_, .f32⟩
  | 9 => ⟨S8x8192, .f32⟩
  | 10 => ⟨S8x8192x1, .f32⟩
  | 11 => ⟨S_, .f32⟩
  | 12 => ⟨S8x8192x1, .f32⟩
  | 13 => ⟨S8x8192x1, .f32⟩
  | 14 => ⟨S_, .f32⟩
  | 15 => ⟨S8x8192x1, .f32⟩
  | 16 => ⟨S8x8192x1, .f32⟩
  | 17 => ⟨S8x8192x1, .f32⟩
  | 18 => ⟨S8x8192x1024, .f32⟩
  | 19 => ⟨S8x8192x1024, .f32⟩
  | 20 => ⟨S1x1x1024, .f32⟩
  | 21 => ⟨S8x8192x1024, .f32⟩
  | 22 => ⟨S8x8192x1024, .f32⟩
  | 23 => ⟨S8x8192x2848, .f32⟩
  | 24 => ⟨S8x8192x1024, .f32⟩
  | 25 => ⟨S8x8192x512, .f32⟩
  | 26 => ⟨S8x8192x512, .f32⟩
  | 27 => ⟨S8x8192x512, .f32⟩
  | 28 => ⟨S8x8192x512, .f32⟩
  | 29 => ⟨S_, .f32⟩
  | 30 => ⟨S8x8192x512, .f32⟩
  | 31 => ⟨S8x8192x512, .f32⟩
  | 32 => ⟨S_, .f32⟩
  | 33 => ⟨S8x8192x512, .f32⟩
  | 34 => ⟨S8x8192x512, .f32⟩
  | 35 => ⟨S8x8192x512, .f32⟩
  | 36 => ⟨S_, .i32⟩
  | 37 => ⟨S_, .f32⟩
  | 38 => ⟨S8x8222x512, .f32⟩
  | 39 => ⟨S8x8192x512, .f32⟩
  | 40 => ⟨S1x512, .f32⟩
  | 41 => ⟨S512, .f32⟩
  | 42 => ⟨S1x1x512, .f32⟩
  | 43 => ⟨S8x8192x512, .f32⟩
  | 44 => ⟨S8x8192x512, .f32⟩
  | 45 => ⟨S_, .f32⟩
  | 46 => ⟨S8x8192x512, .f32⟩
  | 47 => ⟨S8x8192x512, .f32⟩
  | 48 => ⟨S8x8192x512, .f32⟩
  | 49 => ⟨S1x512, .f32⟩
  | 50 => ⟨S512, .f32⟩
  | 51 => ⟨S1x1x512, .f32⟩
  | 52 => ⟨S8x8192x512, .f32⟩
  | 53 => ⟨S8x8192x512, .f32⟩
  | 54 => ⟨S8x8192x512, .f32⟩
  | 55 => ⟨S8x8192x512, .f32⟩
  | 56 => ⟨S1x512, .f32⟩
  | 57 => ⟨S512, .f32⟩
  | 58 => ⟨S1x1x512, .f32⟩
  | 59 => ⟨S8x8192x512, .f32⟩
  | 60 => ⟨S8x8192x512, .f32⟩
  | 61 => ⟨S8x8192x512, .f32⟩
  | 62 => ⟨S8x8192x512, .f32⟩
  | 63 => ⟨S1x512, .f32⟩
  | 64 => ⟨S512, .f32⟩
  | 65 => ⟨S1x1x512, .f32⟩
  | 66 => ⟨S8x8192x512, .f32⟩
  | 67 => ⟨S8x8192x512, .f32⟩
  | 68 => ⟨S8x8192x512, .f32⟩
  | 69 => ⟨S8x8192x512, .f32⟩
  | 70 => ⟨S1x512, .f32⟩
  | 71 => ⟨S512, .f32⟩
  | 72 => ⟨S1x1x512, .f32⟩
  | 73 => ⟨S8x8192x512, .f32⟩
  | 74 => ⟨S8x8192x512, .f32⟩
  | 75 => ⟨S8x8192x512, .f32⟩
  | 76 => ⟨S8x8192x512, .f32⟩
  | 77 => ⟨S1x512, .f32⟩
  | 78 => ⟨S512, .f32⟩
  | 79 => ⟨S1x1x512, .f32⟩
  | 80 => ⟨S8x8192x512, .f32⟩
  | 81 => ⟨S8x8192x512, .f32⟩
  | 82 => ⟨S8x8192x512, .f32⟩
  | 83 => ⟨S8x8192x512, .f32⟩
  | 84 => ⟨S1x512, .f32⟩
  | 85 => ⟨S512, .f32⟩
  | 86 => ⟨S1x1x512, .f32⟩
  | 87 => ⟨S8x8192x512, .f32⟩
  | 88 => ⟨S8x8192x512, .f32⟩
  | 89 => ⟨S8x8192x512, .f32⟩
  | 90 => ⟨S8x8192x512, .f32⟩
  | 91 => ⟨S1x512, .f32⟩
  | 92 => ⟨S512, .f32⟩
  | 93 => ⟨S1x1x512, .f32⟩
  | 94 => ⟨S8x8192x512, .f32⟩
  | 95 => ⟨S8x8192x512, .f32⟩
  | 96 => ⟨S8x8192x512, .f32⟩
  | 97 => ⟨S8x8192x512, .f32⟩
  | 98 => ⟨S1x512, .f32⟩
  | 99 => ⟨S512, .f32⟩
  | 100 => ⟨S1x1x512, .f32⟩
  | 101 => ⟨S8x8192x512, .f32⟩
  | 102 => ⟨S8x8192x512, .f32⟩
  | 103 => ⟨S8x8192x512, .f32⟩
  | 104 => ⟨S8x8192x512, .f32⟩
  | 105 => ⟨S1x512, .f32⟩
  | 106 => ⟨S512, .f32⟩
  | 107 => ⟨S1x1x512, .f32⟩
  | 108 => ⟨S8x8192x512, .f32⟩
  | 109 => ⟨S8x8192x512, .f32⟩
  | 110 => ⟨S8x8192x512, .f32⟩
  | 111 => ⟨S8x8192x512, .f32⟩
  | 112 => ⟨S1x512, .f32⟩
  | 113 => ⟨S512, .f32⟩
  | 114 => ⟨S1x1x512, .f32⟩
  | 115 => ⟨S8x8192x512, .f32⟩
  | 116 => ⟨S8x8192x512, .f32⟩
  | 117 => ⟨S8x8192x512, .f32⟩
  | 118 => ⟨S8x8192x512, .f32⟩
  | 119 => ⟨S1x512, .f32⟩
  | 120 => ⟨S512, .f32⟩
  | 121 => ⟨S1x1x512, .f32⟩
  | 122 => ⟨S8x8192x512, .f32⟩
  | 123 => ⟨S8x8192x512, .f32⟩
  | 124 => ⟨S8x8192x512, .f32⟩
  | 125 => ⟨S8x8192x512, .f32⟩
  | 126 => ⟨S1x512, .f32⟩
  | 127 => ⟨S512, .f32⟩
  | _ => ⟨S8x8192x1024, .f32⟩

abbrev hbmTy0_1 (i : Nat) : BufTy := match i % 128 with
  | 0 => ⟨S1x1x512, .f32⟩
  | 1 => ⟨S8x8192x512, .f32⟩
  | 2 => ⟨S8x8192x512, .f32⟩
  | 3 => ⟨S8x8192x512, .f32⟩
  | 4 => ⟨S8x8192x512, .f32⟩
  | 5 => ⟨S1x512, .f32⟩
  | 6 => ⟨S512, .f32⟩
  | 7 => ⟨S1x1x512, .f32⟩
  | 8 => ⟨S8x8192x512, .f32⟩
  | 9 => ⟨S8x8192x512, .f32⟩
  | 10 => ⟨S8x8192x512, .f32⟩
  | 11 => ⟨S8x8192x512, .f32⟩
  | 12 => ⟨S1x512, .f32⟩
  | 13 => ⟨S512, .f32⟩
  | 14 => ⟨S1x1x512, .f32⟩
  | 15 => ⟨S8x8192x512, .f32⟩
  | 16 => ⟨S8x8192x512, .f32⟩
  | 17 => ⟨S8x8192x512, .f32⟩
  | 18 => ⟨S8x8192x512, .f32⟩
  | 19 => ⟨S1x512, .f32⟩
  | 20 => ⟨S512, .f32⟩
  | 21 => ⟨S1x1x512, .f32⟩
  | 22 => ⟨S8x8192x512, .f32⟩
  | 23 => ⟨S8x8192x512, .f32⟩
  | 24 => ⟨S8x8192x512, .f32⟩
  | 25 => ⟨S8x8192x512, .f32⟩
  | 26 => ⟨S1x512, .f32⟩
  | 27 => ⟨S512, .f32⟩
  | 28 => ⟨S1x1x512, .f32⟩
  | 29 => ⟨S8x8192x512, .f32⟩
  | 30 => ⟨S8x8192x512, .f32⟩
  | 31 => ⟨S8x8192x512, .f32⟩
  | 32 => ⟨S8x8192x512, .f32⟩
  | 33 => ⟨S1x512, .f32⟩
  | 34 => ⟨S512, .f32⟩
  | 35 => ⟨S1x1x512, .f32⟩
  | 36 => ⟨S8x8192x512, .f32⟩
  | 37 => ⟨S8x8192x512, .f32⟩
  | 38 => ⟨S8x8192x512, .f32⟩
  | 39 => ⟨S8x8192x512, .f32⟩
  | 40 => ⟨S1x512, .f32⟩
  | 41 => ⟨S512, .f32⟩
  | 42 => ⟨S1x1x512, .f32⟩
  | 43 => ⟨S8x8192x512, .f32⟩
  | 44 => ⟨S8x8192x512, .f32⟩
  | 45 => ⟨S8x8192x512, .f32⟩
  | 46 => ⟨S8x8192x512, .f32⟩
  | 47 => ⟨S1x512, .f32⟩
  | 48 => ⟨S512, .f32⟩
  | 49 => ⟨S1x1x512, .f32⟩
  | 50 => ⟨S8x8192x512, .f32⟩
  | 51 => ⟨S8x8192x512, .f32⟩
  | 52 => ⟨S8x8192x512, .f32⟩
  | 53 => ⟨S8x8192x512, .f32⟩
  | 54 => ⟨S1x512, .f32⟩
  | 55 => ⟨S512, .f32⟩
  | 56 => ⟨S1x1x512, .f32⟩
  | 57 => ⟨S8x8192x512, .f32⟩
  | 58 => ⟨S8x8192x512, .f32⟩
  | 59 => ⟨S8x8192x512, .f32⟩
  | 60 => ⟨S8x8192x512, .f32⟩
  | 61 => ⟨S1x512, .f32⟩
  | 62 => ⟨S512, .f32⟩
  | 63 => ⟨S1x1x512, .f32⟩
  | 64 => ⟨S8x8192x512, .f32⟩
  | 65 => ⟨S8x8192x512, .f32⟩
  | 66 => ⟨S8x8192x512, .f32⟩
  | 67 => ⟨S8x8192x512, .f32⟩
  | 68 => ⟨S1x512, .f32⟩
  | 69 => ⟨S512, .f32⟩
  | 70 => ⟨S1x1x512, .f32⟩
  | 71 => ⟨S8x8192x512, .f32⟩
  | 72 => ⟨S8x8192x512, .f32⟩
  | 73 => ⟨S8x8192x512, .f32⟩
  | 74 => ⟨S8x8192x512, .f32⟩
  | 75 => ⟨S1x512, .f32⟩
  | 76 => ⟨S512, .f32⟩
  | 77 => ⟨S1x1x512, .f32⟩
  | 78 => ⟨S8x8192x512, .f32⟩
  | 79 => ⟨S8x8192x512, .f32⟩
  | 80 => ⟨S8x8192x512, .f32⟩
  | 81 => ⟨S8x8192x512, .f32⟩
  | 82 => ⟨S1x512, .f32⟩
  | 83 => ⟨S512, .f32⟩
  | 84 => ⟨S1x1x512, .f32⟩
  | 85 => ⟨S8x8192x512, .f32⟩
  | 86 => ⟨S8x8192x512, .f32⟩
  | 87 => ⟨S8x8192x512, .f32⟩
  | 88 => ⟨S8x8192x512, .f32⟩
  | 89 => ⟨S1x512, .f32⟩
  | 90 => ⟨S512, .f32⟩
  | 91 => ⟨S1x1x512, .f32⟩
  | 92 => ⟨S8x8192x512, .f32⟩
  | 93 => ⟨S8x8192x512, .f32⟩
  | 94 => ⟨S8x8192x512, .f32⟩
  | 95 => ⟨S8x8192x512, .f32⟩
  | 96 => ⟨S1x512, .f32⟩
  | 97 => ⟨S512, .f32⟩
  | 98 => ⟨S1x1x512, .f32⟩
  | 99 => ⟨S8x8192x512, .f32⟩
  | 100 => ⟨S8x8192x512, .f32⟩
  | 101 => ⟨S8x8192x512, .f32⟩
  | 102 => ⟨S8x8192x512, .f32⟩
  | 103 => ⟨S1x512, .f32⟩
  | 104 => ⟨S512, .f32⟩
  | 105 => ⟨S1x1x512, .f32⟩
  | 106 => ⟨S8x8192x512, .f32⟩
  | 107 => ⟨S8x8192x512, .f32⟩
  | 108 => ⟨S8x8192x512, .f32⟩
  | 109 => ⟨S8x8192x512, .f32⟩
  | 110 => ⟨S1x512, .f32⟩
  | 111 => ⟨S512, .f32⟩
  | 112 => ⟨S1x1x512, .f32⟩
  | 113 => ⟨S8x8192x512, .f32⟩
  | 114 => ⟨S8x8192x512, .f32⟩
  | 115 => ⟨S8x8192x512, .f32⟩
  | 116 => ⟨S8x8192x512, .f32⟩
  | 117 => ⟨S1x512, .f32⟩
  | 118 => ⟨S512, .f32⟩
  | 119 => ⟨S1x1x512, .f32⟩
  | 120 => ⟨S8x8192x512, .f32⟩
  | 121 => ⟨S8x8192x512, .f32⟩
  | 122 => ⟨S8x8192x512, .f32⟩
  | 123 => ⟨S8x8192x512, .f32⟩
  | 124 => ⟨S1x512, .f32⟩
  | 125 => ⟨S512, .f32⟩
  | 126 => ⟨S1x1x512, .f32⟩
  | 127 => ⟨S8x8192x512, .f32⟩
  | _ => ⟨S8x8192x1024, .f32⟩

abbrev hbmTy0_2 (i : Nat) : BufTy := match i % 128 with
  | 0 => ⟨S8x8192x512, .f32⟩
  | 1 => ⟨S8x8192x512, .f32⟩
  | 2 => ⟨S1x1x512, .f32⟩
  | 3 => ⟨S8x8192x512, .f32⟩
  | 4 => ⟨S8x8192x512, .f32⟩
  | 5 => ⟨S_, .f32⟩
  | 6 => ⟨S8x8192, .f32⟩
  | 7 => ⟨S8x8192x1, .f32⟩
  | 8 => ⟨S_, .f32⟩
  | 9 => ⟨S8x8192x1, .f32⟩
  | 10 => ⟨S8x8192x1, .f32⟩
  | 11 => ⟨S8x8192x512, .f32⟩
  | 12 => ⟨S8x8192x512, .f32⟩
  | 13 => ⟨S8x8192x512, .f32⟩
  | 14 => ⟨S_, .f32⟩
  | 15 => ⟨S8x8192, .f32⟩
  | 16 => ⟨S8x8192x1, .f32⟩
  | 17 => ⟨S_, .f32⟩
  | 18 => ⟨S8x8192x1, .f32⟩
  | 19 => ⟨S8x8192x1, .f32⟩
  | 20 => ⟨S8x8192x512, .f32⟩
  | 21 => ⟨S8x8192x512, .f32⟩
  | 22 => ⟨S_, .f32⟩
  | 23 => ⟨S8x8192x1, .f32⟩
  | 24 => ⟨S8x8192x1, .f32⟩
  | 25 => ⟨S8x8192x1, .f32⟩
  | 26 => ⟨S8x8192x512, .f32⟩
  | 27 => ⟨S8x8192x512, .f32⟩
  | 28 => ⟨S1x1x512, .f32⟩
  | 29 => ⟨S8x8192x512, .f32⟩
  | 30 => ⟨S8x8192x512, .f32⟩
  | 31 => ⟨S1x1x512, .f32⟩
  | 32 => ⟨S8x8192x512, .f32⟩
  | 33 => ⟨S8x8192x512, .f32⟩
  | 34 => ⟨S8x8192x512, .f32⟩
  | 35 => ⟨S8x8192x512, .f32⟩
  | 36 => ⟨S_, .f32⟩
  | 37 => ⟨S8x8192x512, .f32⟩
  | 38 => ⟨S8x8192x512, .f32⟩
  | 39 => ⟨S_, .f32⟩
  | 40 => ⟨S8x8192x512, .f32⟩
  | 41 => ⟨S8x8192x512, .f32⟩
  | 42 => ⟨S8x8192x512, .f32⟩
  | 43 => ⟨S8x8192x1824, .f32⟩
  | 44 => ⟨S_, .i32⟩
  | 45 => ⟨S_, .f32⟩
  | 46 => ⟨S8x8192x1920, .f32⟩
  | 47 => ⟨S8x8192x512, .bf16⟩
  | 48 => ⟨S8x8192x1920, .bf16⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_cst_5 : Ref sig .tc := ⟨.hbm, 261, rfl⟩
abbrev main_v246 : Ref sig .tc := ⟨.hbm, 262, rfl⟩
abbrev main_v247 : Ref sig .tc := ⟨.hbm, 263, rfl⟩
abbrev main_cst_6 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_cst_7 : Ref sig .tc := ⟨.hbm, 270, rfl⟩
abbrev main_v253 : Ref sig .tc := ⟨.hbm, 271, rfl⟩
abbrev main_v254 : Ref sig .tc := ⟨.hbm, 272, rfl⟩
abbrev main_cst_8 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_cst_9 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_v269 : Ref sig .tc := ⟨.hbm, 289, rfl⟩
abbrev main_call1_v0 : Ref sig .tc := ⟨.hbm, 290, rfl⟩
abbrev main_call1_v1 : Ref sig .tc := ⟨.hbm, 291, rfl⟩
abbrev main_call1_cst : Ref sig .tc := ⟨.hbm, 292, rfl⟩
abbrev main_call1_v2 : Ref sig .tc := ⟨.hbm, 293, rfl⟩
abbrev main_call1_v3 : Ref sig .tc := ⟨.hbm, 294, rfl⟩
abbrev main_call1_cst_0 : Ref sig .tc := ⟨.hbm, 295, rfl⟩
abbrev main_call1_v4 : Ref sig .tc := ⟨.hbm, 296, rfl⟩
abbrev main_call1_v5 : Ref sig .tc := ⟨.hbm, 297, rfl⟩
abbrev main_v270 : Ref sig .tc := ⟨.hbm, 298, rfl⟩
abbrev main_v271 : Ref sig .tc := ⟨.hbm, 299, rfl⟩
abbrev main_c_10 : Ref sig .tc := ⟨.hbm, 300, rfl⟩
abbrev main_call2_v0 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩

abbrev nD : Nat := 1
abbrev τ : Topo := Topo.v7x

variable {F : FTy → Type} [FloatOps F]
-- ==== Proof.RowSpec.lean ====
/-
  Hand-written, untrusted. The layer's arithmetic on ONE row of activations, over the extended reals: what both the kernels and
  the references are shown to compute, row by row.
-/
module

public import Idealize.ShloMosaic.Lib.Pointwise

@[expose] public section

noncomputable section

namespace Cert.RowSpec

open Idealize.ShloMosaic

/-- The reciprocal root mean square of a row of 1024 values, with the small constant that both programs add. -/
def rmsScale (v : Fin 1024 → EReal) : EReal :=
  Ideal.rsqrt (Ideal.div (∑ k, v k * v k) (Ideal.ofBits .f32 0x44800000#32) + Ideal.ofBits .f32 0x358637BD#32)

/-- A row normalised by its root mean square and scaled by a gain. -/
def rmsRow (v g : Fin 1024 → EReal) (l : Fin 1024) : EReal := v l * rmsScale v * g l

/-- The gated hidden unit: `g · σ(g) · u`. -/
def gated (g u : EReal) : EReal := g * Ideal.logistic g * u

/-- The SwiGLU branch's inner product: the normalised row through the two halves of `w13`, gated, through `w2`. -/
def ffnRow (h : Fin 1024 → EReal) (w13 : Fin 1024 → Fin 5632 → EReal) (w2 : Fin 2816 → Fin 1024 → EReal) (l : Fin 1024) :
    EReal :=
  ∑ d : Fin 2816, gated (∑ k, h k * w13 k ⟨d.val, by omega⟩) (∑ k, h k * w13 k ⟨2816 + d.val, by omega⟩) * w2 d l

/-- One row of the SwiGLU sublayer: pre-normalisation, the branch, post-normalisation, the residual. -/
def swigluRow (x gpre : Fin 1024 → EReal) (w13 : Fin 1024 → Fin 5632 → EReal) (w2 : Fin 2816 → Fin 1024 → EReal)
    (gpost : Fin 1024 → EReal) (l : Fin 1024) : EReal :=
  x l + rmsRow (ffnRow (rmsRow x gpre) w13 w2) gpost l

theorem swigluRow_congr {x x' gpre gpre' : Fin 1024 → EReal} {w13 w13' : Fin 1024 → Fin 5632 → EReal}
    {w2 w2' : Fin 2816 → Fin 1024 → EReal} {gpost gpost' : Fin 1024 → EReal} {l l' : Fin 1024}
    (h1 : ∀ k, x k = x' k) (h2 : ∀ k, gpre k = gpre' k) (h3 : ∀ k d, w13 k d = w13' k d) (h4 : ∀ d k, w2 d k = w2' d k)
    (h5 : ∀ k, gpost k = gpost' k) (h6 : l = l') :
    swigluRow x gpre w13 w2 gpost l = swigluRow x' gpre' w13' w2' gpost' l' := by
  obtain rfl := funext h1; obtain rfl := funext h2; obtain rfl := funext h5
  obtain rfl := funext fun k => funext (h3 k)
  obtain rfl := funext fun k => funext (h4 k)
  rw [h6]

/-- One row of the memory's keys and values: the normalised memory row through the projection. -/
def kvRow (x g : Fin 1024 → EReal) (w : Fin 1024 → Fin 2048 → EReal) (d : Fin 2048) : EReal := ∑ k, rmsRow x g k * w k d

theorem kvRow_congr {x x' g g' : Fin 1024 → EReal} {w w' : Fin 1024 → Fin 2048 → EReal} {d d' : Fin 2048}
    (h1 : ∀ k, x k = x' k) (h2 : ∀ k, g k = g' k) (h3 : ∀ k d, w k d = w' k d) (h4 : d = d') :
    kvRow x g w d = kvRow x' g' w' d' := by
  obtain rfl := funext h1; obtain rfl := funext h2
  obtain rfl := funext fun k => funext (h3 k)
  rw [h4]

/-- The mixer's output projection of one row: its two halves through the upper and the lower half of the weight. -/
def mixRow (yc yr : Fin 512 → EReal) (w : Fin 1024 → Fin 1024 → EReal) (l : Fin 1024) : EReal :=
  (∑ k : Fin 512, yc k * w ⟨k.val, by omega⟩ l) + ∑ k : Fin 512, yr k * w ⟨512 + k.val, by omega⟩ l

/-- A projection of one row. -/
def projRow (h : Fin 1024 → EReal) (w : Fin 1024 → Fin 1024 → EReal) (l : Fin 1024) : EReal := ∑ k, h k * w k l

/-- The head that a feature belongs to, as the feature at `d` of the same head. -/
def sameHead (l : Fin 1024) (d : Fin 256) : Fin 1024 := ⟨l.val / 256 * 256 + d.val, by omega⟩

/-- The scaled score of one query row against memory position `j`, in the head of feature `l`. -/
def score (q : Fin 1024 → EReal) (kv : Fin 256 → Fin 2048 → EReal) (l : Fin 1024) (j : Fin 256) : EReal :=
  (∑ d : Fin 256, q (sameHead l d) * kv j ⟨(sameHead l d).val, by omega⟩) * Ideal.ofBits .f32 0x3D800000#32

/-- The largest of a row of scores, started from the pattern of minus infinity. -/
def rowMax (s : Fin 256 → EReal) : EReal := Finset.univ.fold max (Ideal.ofBits .f32 0xFF800000#32) s

/-- The unnormalised weights of a row of scores. -/
def expRow (s : Fin 256 → EReal) (j : Fin 256) : EReal := Ideal.exp (s j - rowMax s)

/-- The softmax of a row of scores. -/
def softmaxRow (s : Fin 256 → EReal) (j : Fin 256) : EReal := Ideal.div (expRow s j) (∑ i, expRow s i)

/-- One row of the memory cross-attention before its output projection. -/
def attRow (q : Fin 1024 → EReal) (kv : Fin 256 → Fin 2048 → EReal) (l : Fin 1024) : EReal :=
  ∑ j : Fin 256, softmaxRow (score q kv l) j * kv j ⟨1024 + l.val, by omega⟩

/-- The row after the mixer's residual. -/
def mixedRow (x : Fin 1024 → EReal) (yc yr : Fin 512 → EReal) (w : Fin 1024 → Fin 1024 → EReal) (gmix : Fin 1024 → EReal)
    (l : Fin 1024) : EReal := x l + rmsRow (mixRow yc yr w) gmix l

/-- The cross-attention sublayer of one row: pre-normalisation, queries, attention, output projection, post-normalisation and
    the residual. -/
def crossRow (y : Fin 1024 → EReal) (kv : Fin 256 → Fin 2048 → EReal) (gpre : Fin 1024 → EReal)
    (wq wo : Fin 1024 → Fin 1024 → EReal) (gpost : Fin 1024 → EReal) (l : Fin 1024) : EReal :=
  y l + rmsRow (projRow (attRow (projRow (rmsRow y gpre) wq) kv) wo) gpost l

/-- One row of the whole call. -/
def xattnRow (x : Fin 1024 → EReal) (yc yr : Fin 512 → EReal) (kv : Fin 256 → Fin 2048 → EReal) (w : Fin 1024 → Fin 1024 → EReal)
    (gmix gpre : Fin 1024 → EReal) (wq wo : Fin 1024 → Fin 1024 → EReal) (gpost : Fin 1024 → EReal) (l : Fin 1024) : EReal :=
  crossRow (mixedRow x yc yr w gmix) kv gpre wq wo gpost l

theorem xattnRow_congr {x x' : Fin 1024 → EReal} {yc yc' yr yr' : Fin 512 → EReal} {kv kv' : Fin 256 → Fin 2048 → EReal}
    {w w' : Fin 1024 → Fin 1024 → EReal} {gmix gmix' gpre gpre' : Fin 1024 → EReal} {wq wq' wo wo' : Fin 1024 → Fin 1024 → EReal}
    {gpost gpost' : Fin 1024 → EReal} {l l' : Fin 1024}
    (h0 : ∀ k, x k = x' k) (h1 : ∀ k, yc k = yc' k) (h2 : ∀ k, yr k = yr' k) (h3 : ∀ k d, kv k d = kv' k d)
    (h4 : ∀ k d, w k d = w' k d) (h5 : ∀ k, gmix k = gmix' k) (h6 : ∀ k, gpre k = gpre' k) (h7 : ∀ k d, wq k d = wq' k d)
    (h8 : ∀ k d, wo k d = wo' k d) (h9 : ∀ k, gpost k = gpost' k) (h10 : l = l') :
    xattnRow x yc yr kv w gmix gpre wq wo gpost l = xattnRow x' yc' yr' kv' w' gmix' gpre' wq' wo' gpost' l' := by
  obtain rfl := funext h0; obtain rfl := funext h1; obtain rfl := funext h2
  obtain rfl := funext fun k => funext (h3 k)
  obtain rfl := funext fun k => funext (h4 k)
  obtain rfl := funext h5; obtain rfl := funext h6
  obtain rfl := funext fun k => funext (h7 k)
  obtain rfl := funext fun k => funext (h8 k)
  obtain rfl := funext h9
  rw [h10]

/-- A factor that is a real and not negative moves out of a finite sum of extended reals. -/
theorem sum_mul_coe {n : ℕ} (f : Fin n → EReal) (c : ℝ) (hc : 0 ≤ c) : (∑ d, f d * (c : EReal)) = (∑ d, f d) * (c : EReal) := by
  have h : ∀ s : Finset (Fin n), (∑ d ∈ s, f d * (c : EReal)) = (∑ d ∈ s, f d) * (c : EReal) := by
    intro s
    induction s using Finset.induction_on with
    | empty => simp
    | insert a s ha ih =>
      rw [Finset.sum_insert ha, Finset.sum_insert ha, ih, mul_comm (_ + _), EReal.left_distrib_of_nonneg_of_ne_top
        (EReal.coe_nonneg.mpr hc) (EReal.coe_ne_top c), mul_comm, mul_comm (c : EReal) (∑ d ∈ s, f d)]
  exact h _

theorem sixteenth : Ideal.ofBits .f32 0x3D800000#32 = (((1 : ℝ) / 16 : ℝ) : EReal) := by
  simp [Ideal.ofBits, Ideal.ieee, -EReal.coe_mul]; norm_num

/-- The score with the queries scaled first, as the kernel computes it. -/
theorem score_eq (q : Fin 1024 → EReal) (kv : Fin 256 → Fin 2048 → EReal) (l : Fin 1024) (j : Fin 256) :
    score q kv l j
      = ∑ d : Fin 256, q (sameHead l d) * Ideal.ofBits .f32 0x3D800000#32 * kv j ⟨(sameHead l d).val, by omega⟩ := by
  unfold score
  rw [sixteenth, ← sum_mul_coe _ _ (by norm_num)]
  exact Finset.sum_congr rfl fun d _ => mul_right_comm _ _ _

end Cert.RowSpec

end
-- ==== Proof.XattnPay.lean ====
/-
  Hand-written, untrusted. What the out-projection and cross-attention kernel's body stores, read at one index of a block.
-/
module

public import proofs.«01_k».proof.Proof.RowSpec
public import proofs.«01_k».proof.Proof.Gen.KernelIdeal.Frame
public import Idealize.ShloMosaic.Lib.Pipeline.ValueKit

@[expose] public section

set_option maxRecDepth 16384

noncomputable section

namespace Cert.KernelIdeal.Pay

open Idealize.ShloMosaic Idealize.ShloMosaic.TcCoe Idealize.SL.Sem
open Cert.KernelIdeal Cert.KernelIdeal.Gen Cert.RowSpec

/-- A block of rows normalised and scaled by a gain. -/
def norm (y : FVec Ideal S512x1024 .f32) (g : FVec Ideal S1x1024 .f32) : FVec Ideal S512x1024 .f32 :=
  mulf (mulf y (broadcastTo S512x1024 (rsqrt (addf (divf (shapeCast S512x1 (multiReduction .add [1] S512 (mulf y y) 0x00000000#32
      reduces_S512x1024_S512 (.inl rfl) rfl) shapeCasts_S512_S512x1)
        (broadcast S512x1 (Scalar.ofBits .f32 0x44800000#32))) (broadcast S512x1 (Scalar.ofBits .f32 0x358637BD#32))))
        broadcasts_S512x1_S512x1024))
    (broadcastTo S512x1024 g broadcasts_S1x1024_S512x1024)

theorem norm_apply (y : FVec Ideal S512x1024 .f32) (g : FVec Ideal S1x1024 .f32) (r : Fin 512) (l : Fin 1024) :
    norm y g (ix2 r l) = rmsRow (fun k => y (ix2 r k)) (fun k => g (ix2 0 k)) l := by
  pointwise [norm, rmsRow, rmsScale]

/-- The projection of the mixer's two halves. -/
def mix (yc : Vec Ideal S1x512x512 .bf16) (wa : Vec Ideal S512x1024 .bf16) (yr : Vec Ideal S1x512x512 .bf16)
    (wb : Vec Ideal S512x1024 .bf16) : FVec Ideal S512x1024 .f32 :=
  addf (matmul dot_S512x512_S512x1024_S512x1024_1_0_0_1_n_n none
      (shapeCast S512x512 yc shapeCasts_S1x512x512_S512x512 : FVec Ideal S512x512 .bf16)
      (shapeCast S512x1024 wa shapeCasts_S512x1024_S512x1024 : FVec Ideal S512x1024 .bf16) (constant S512x1024 .f32 0x00000000#32))
    (matmul dot_S512x512_S512x1024_S512x1024_1_0_0_1_n_n none
      (shapeCast S512x512 yr shapeCasts_S1x512x512_S512x512 : FVec Ideal S512x512 .bf16)
      (shapeCast S512x1024 wb shapeCasts_S512x1024_S512x1024 : FVec Ideal S512x1024 .bf16) (constant S512x1024 .f32 0x00000000#32))

theorem mix_apply (yc : Vec Ideal S1x512x512 .bf16) (wa : Vec Ideal S512x1024 .bf16) (yr : Vec Ideal S1x512x512 .bf16)
    (wb : Vec Ideal S512x1024 .bf16) (r : Fin 512) (l : Fin 1024) :
    mix yc wa yr wb (ix2 r l)
      = (∑ k : Fin 512, yc (ix3 0 r k) * wa (ix2 k l)) + ∑ k : Fin 512, yr (ix3 0 r k) * wb (ix2 k l) := by
  pointwise [mix]

theorem pay2_eq (yc : Vec Ideal S1x512x512 .bf16) (wa : Vec Ideal S512x1024 .bf16) (yr : Vec Ideal S1x512x512 .bf16)
    (wb : Vec Ideal S512x1024 .bf16) (x : Vec Ideal S1x512x1024 .f32) (g : Vec Ideal S1x1024 .f32) :
    k0_pay2 yc wa yr wb x g = addf (shapeCast S512x1024 x shapeCasts_S1x512x1024_S512x1024 : FVec Ideal S512x1024 .f32)
      (norm (mix yc wa yr wb) (shapeCast S1x1024 g shapeCasts_S1x1024_S1x1024)) := rfl

/-- The scaled queries of a block of rows. -/
def query (y : FVec Ideal S512x1024 .f32) (g : FVec Ideal S1x1024 .f32) (wq : Vec Ideal S1024x1024 .bf16) :
    FVec Ideal S512x1024 .bf16 :=
  truncf .bf16 (mulf (matmul dot_S512x1024_S1024x1024_S512x1024_1_0_0_1_n_n none (truncf .bf16 (norm y g) bitsLt_bf16_f32)
      (shapeCast S1024x1024 wq shapeCasts_S1024x1024_S1024x1024 : FVec Ideal S1024x1024 .bf16) (constant S512x1024 .f32 0x00000000#32))
    (broadcast S512x1024 (Scalar.ofBits .f32 0x3D800000#32))) bitsLt_bf16_f32

theorem query_apply (y : FVec Ideal S512x1024 .f32) (g : FVec Ideal S1x1024 .f32) (wq : Vec Ideal S1024x1024 .bf16)
    (r : Fin 512) (l : Fin 1024) :
    query y g wq (ix2 r l) = projRow (rmsRow (fun k => y (ix2 r k)) (fun k => g (ix2 0 k))) (fun k d => wq (ix2 k d)) l
      * Ideal.ofBits .f32 0x3D800000#32 := by
  unfold query
  pointwise [projRow, norm_apply]

theorem pay6_eq (yc : Vec Ideal S1x512x512 .bf16) (wa : Vec Ideal S512x1024 .bf16) (yr : Vec Ideal S1x512x512 .bf16)
    (wb : Vec Ideal S512x1024 .bf16) (x : Vec Ideal S1x512x1024 .f32) (g : Vec Ideal S1x1024 .f32) (gp : FVec Ideal S1x1024 .f32)
    (wq : Vec Ideal S1024x1024 .bf16) :
    k0_pay6 (k0_pay2 yc wa yr wb x g) gp (k0_pay4 yc wa yr wb x g) k0_pay5 wq = query (k0_pay2 yc wa yr wb x g) gp wq := rfl

/-- One head's scores. -/
def scores (q : FVec Ideal S512x256 .bf16) (k : Vec Ideal S1x256x256 .bf16) : FVec Ideal S512x256 .f32 :=
  matmul dot_S512x256_S256x256_S512x256_1_1_0_0_n_n none q
    (shapeCast S256x256 k shapeCasts_S1x256x256_S256x256 : FVec Ideal S256x256 .bf16) (constant S512x256 .f32 0x00000000#32)

theorem scores_apply (q : FVec Ideal S512x256 .bf16) (k : Vec Ideal S1x256x256 .bf16) (r : Fin 512) (j : Fin 256) :
    scores q k (ix2 r j) = ∑ d : Fin 256, q (ix2 r d) * k (ix3 0 j d) := by
  pointwise [scores]

/-- The unnormalised weights of a block of scores. -/
def expo (s : FVec Ideal S512x256 .f32) : FVec Ideal S512x256 .f32 :=
  exp (subf s (broadcastTo S512x256 (shapeCast S512x1 (multiReduction .maximumf [1] S512 s 0xFF800000#32 reduces_S512x256_S512
    (.inl rfl) rfl) shapeCasts_S512_S512x1) broadcasts_S512x1_S512x256))

theorem expo_apply (s : FVec Ideal S512x256 .f32) (r : Fin 512) (j : Fin 256) :
    expo s (ix2 r j) = expRow (fun i => s (ix2 r i)) j := by
  pointwise [expo, expRow, rowMax]

/-- The softmax of a block of scores. -/
def probs (s : FVec Ideal S512x256 .f32) : FVec Ideal S512x256 .bf16 :=
  truncf .bf16 (divf (expo s) (broadcastTo S512x256 (shapeCast S512x1 (multiReduction .add [1] S512 (expo s) 0x00000000#32
    reduces_S512x256_S512 (.inl rfl) rfl) shapeCasts_S512_S512x1) broadcasts_S512x1_S512x256)) bitsLt_bf16_f32

theorem probs_apply (s : FVec Ideal S512x256 .f32) (r : Fin 512) (j : Fin 256) :
    probs s (ix2 r j) = softmaxRow (fun i => s (ix2 r i)) j := by
  unfold probs
  pointwise [softmaxRow, expo_apply]

/-- One head's weighted values. -/
def weigh (p : FVec Ideal S512x256 .bf16) (v : Vec Ideal S1x256x256 .bf16) : FVec Ideal S512x256 .f32 :=
  matmul dot_S512x256_S256x256_S512x256_1_0_0_1_n_n none p
    (shapeCast S256x256 v shapeCasts_S1x256x256_S256x256 : FVec Ideal S256x256 .bf16) (constant S512x256 .f32 0x00000000#32)

theorem weigh_apply (p : FVec Ideal S512x256 .bf16) (v : Vec Ideal S1x256x256 .bf16) (r : Fin 512) (e : Fin 256) :
    weigh p v (ix2 r e) = ∑ j : Fin 256, p (ix2 r j) * v (ix3 0 j e) := by
  pointwise [weigh]

/-- One head. -/
def head (q : FVec Ideal S512x256 .bf16) (k v : Vec Ideal S1x256x256 .bf16) : FVec Ideal S512x256 .f32 := weigh (probs (scores q k)) v

theorem head_apply (q : FVec Ideal S512x256 .bf16) (k v : Vec Ideal S1x256x256 .bf16) (r : Fin 512) (e : Fin 256) :
    head q k v (ix2 r e)
      = ∑ j : Fin 256, softmaxRow (fun i => ∑ d : Fin 256, q (ix2 r d) * k (ix3 0 i d)) j * v (ix3 0 j e) := by
  simp only [head, weigh_apply, probs_apply, scores_apply]

/-- The four heads side by side. -/
def heads (q : FVec Ideal S512x1024 .bf16) (k0 k1 k2 k3 v0 v1 v2 v3 : Vec Ideal S1x256x256 .bf16) : FVec Ideal S512x1024 .f32 :=
  concatenate S512x1024 1
    [⟨S512x256, head (extractStridedSlice S512x256 ![0, 0] q slices_S512x1024_o0_0_S512x256) k0 v0⟩,
     ⟨S512x256, head (extractStridedSlice S512x256 ![0, 256] q slices_S512x1024_o0_256_S512x256) k1 v1⟩,
     ⟨S512x256, head (extractStridedSlice S512x256 ![0, 512] q slices_S512x1024_o0_512_S512x256) k2 v2⟩,
     ⟨S512x256, head (extractStridedSlice S512x256 ![0, 768] q slices_S512x1024_o0_768_S512x256) k3 v3⟩]
    concatenates_S512x256_S512x256_S512x256_S512x256_S512x1024_d1

/-- The output projection of the attention. -/
def outProj (a : FVec Ideal S512x1024 .f32) (wo : Vec Ideal S1024x1024 .bf16) : FVec Ideal S512x1024 .f32 :=
  matmul dot_S512x1024_S1024x1024_S512x1024_1_0_0_1_n_n none (truncf .bf16 a bitsLt_bf16_f32)
    (shapeCast S1024x1024 wo shapeCasts_S1024x1024_S1024x1024 : FVec Ideal S1024x1024 .bf16) (constant S512x1024 .f32 0x00000000#32)

theorem outProj_apply (a : FVec Ideal S512x1024 .f32) (wo : Vec Ideal S1024x1024 .bf16) (r : Fin 512) (l : Fin 1024) :
    outProj a wo (ix2 r l) = projRow (fun k => a (ix2 r k)) (fun k d => wo (ix2 k d)) l := by
  pointwise [outProj, projRow]

/-- What the body stores, from the loaded values. -/
def stored (y : FVec Ideal S512x1024 .f32) (q : FVec Ideal S512x1024 .bf16) (k0 k1 k2 k3 v0 v1 v2 v3 : Vec Ideal S1x256x256 .bf16)
    (wo : Vec Ideal S1024x1024 .bf16) (g : Vec Ideal S1x1024 .f32) : FVec Ideal S1x512x1024 .f32 :=
  shapeCast S1x512x1024 (addf y (norm (outProj (heads q k0 k1 k2 k3 v0 v1 v2 v3) wo)
    (shapeCast S1x1024 g shapeCasts_S1x1024_S1x1024))) shapeCasts_S512x1024_S1x512x1024

theorem pay1_eq (y : FVec Ideal S512x1024 .f32) (gp : FVec Ideal S1x1024 .f32) (ss n : FVec Ideal S512x1 .f32)
    (wq : Vec Ideal S1024x1024 .bf16) (k0 k1 k2 k3 v0 v1 v2 v3 : Vec Ideal S1x256x256 .bf16) (wo : Vec Ideal S1024x1024 .bf16)
    (g : Vec Ideal S1x1024 .f32) :
    k0_pay1 y (k0_pay12 (k0_pay8 y gp ss n wq k2)) (k0_pay13 (k0_pay9 y gp ss n wq k3)) (k0_pay14 (k0_pay10 y gp ss n wq k0) v0)
        (k0_pay15 (k0_pay7 y gp ss n wq k1) (k0_pay11 y gp ss n wq k1) v1) (k0_pay16 v2) (constant S512x256 .f32 0x00000000#32) v3 wo g
      = stored y (k0_pay6 y gp ss n wq) k0 k1 k2 k3 v0 v1 v2 v3 wo g := rfl

/-- The keys and values of head `0` … `3` in a block of the packed memory array, read at an index. -/
theorem heads_apply (q : FVec Ideal S512x1024 .bf16) (x3 : Vec Ideal S1x256x2048 .bf16) (r : Fin 512) (l : Fin 1024) :
    heads q (View.ld x3 r0_6) (View.ld x3 r0_7) (View.ld x3 r0_8) (View.ld x3 r0_9) (View.ld x3 r0_10) (View.ld x3 r0_11)
        (View.ld x3 r0_12) (View.ld x3 r0_13) (ix2 r l)
      = ∑ j : Fin 256, softmaxRow (fun i => ∑ d : Fin 256, q (ix2 r (sameHead l d)) * x3 (ix3 0 i ⟨(sameHead l d).val, by omega⟩)) j
          * x3 (ix3 0 j ⟨1024 + l.val, by omega⟩) := by
  unfold heads
  pointwise [head_apply]
  have key : ∀ (n : ℕ) (_ : l.val / 256 = n) (a : Fin 256 → Fin 1024) (_ : ∀ d, (a d).val = n * 256 + d.val) (b : Fin 2048)
      (_ : b.val = 1024 + l.val),
      ∑ j : Fin 256, softmaxRow (fun i => ∑ d : Fin 256, q (ix2 r (a d)) * x3 (ix3 0 i ⟨(a d).val, by omega⟩)) j * x3 (ix3 0 j b)
        = ∑ j : Fin 256, softmaxRow (fun i => ∑ d : Fin 256, q (ix2 r (sameHead l d))
            * x3 (ix3 0 i ⟨(sameHead l d).val, by omega⟩)) j * x3 (ix3 0 j ⟨1024 + l.val, by omega⟩) := by
    intro n hn a ha b hb
    obtain rfl : a = sameHead l := funext fun d => Fin.ext (by rw [ha, ← hn]; rfl)
    obtain ⟨bv, hbv⟩ := b
    obtain rfl : bv = 1024 + l.val := hb
    rfl
  by_cases h0 : l.val < 256
  · rw [dif_pos h0]
    exact key 0 (by omega) (fun d => ⟨d.val, by omega⟩) (fun d => by simp) ⟨1024 + l.val, by omega⟩ rfl
  rw [dif_neg h0]
  by_cases h1 : l.val - 256 < 256
  · rw [dif_pos h1]
    exact key 1 (by omega) (fun d => ⟨256 + d.val, by omega⟩) (fun d => by simp) ⟨1280 + (l.val - 256), by omega⟩ (by simp; omega)
  rw [dif_neg h1]
  by_cases h2 : l.val - 256 - 256 < 256
  · rw [dif_pos h2]
    exact key 2 (by omega) (fun d => ⟨512 + d.val, by omega⟩) (fun d => by simp) ⟨1536 + (l.val - 256 - 256), by omega⟩
      (by simp; omega)
  rw [dif_neg h2]
  exact key 3 (by omega) (fun d => ⟨768 + d.val, by omega⟩) (fun d => by simp) ⟨1792 + (l.val - 256 - 256 - 256), by omega⟩
    (by simp; omega)

/-- The row after the mixer's residual, in a block. -/
theorem mixed_apply (x0 : Vec Ideal S1x512x1024 .f32) (x1 x2 : Vec Ideal S1x512x512 .bf16) (x4 : Vec Ideal S1024x1024 .bf16)
    (x5 : Vec Ideal S1x1024 .f32) (r : Fin 512) (l : Fin 1024) :
    k0_pay2 x1 (View.ld x4 r0_1) x2 (View.ld x4 r0_2) x0 x5 (ix2 r l)
      = mixedRow (fun k => x0 (ix3 0 r k)) (fun k => x1 (ix3 0 r k)) (fun k => x2 (ix3 0 r k)) (fun k d => x4 (ix2 k d))
          (fun k => x5 (ix2 0 k)) l := by
  rw [pay2_eq]
  pointwise [mixedRow, norm_apply, mixRow, mix_apply]
  rfl

theorem pay3_apply (g : Vec Ideal S1x1024 .f32) (k : Fin 1024) : k0_pay3 g (ix2 0 k) = g (ix2 0 k) := by
  pointwise [k0_pay3]

theorem stored_apply (y : FVec Ideal S512x1024 .f32) (gp : FVec Ideal S1x1024 .f32) (wq : Vec Ideal S1024x1024 .bf16)
    (x3 : Vec Ideal S1x256x2048 .bf16) (wo : Vec Ideal S1024x1024 .bf16) (g : Vec Ideal S1x1024 .f32) (r : Fin 512) (l : Fin 1024) :
    stored y (query y gp wq) (View.ld x3 r0_6) (View.ld x3 r0_7) (View.ld x3 r0_8) (View.ld x3 r0_9) (View.ld x3 r0_10)
        (View.ld x3 r0_11) (View.ld x3 r0_12) (View.ld x3 r0_13) wo g (ix3 0 r l)
      = crossRow (fun k => y (ix2 r k)) (fun j d => x3 (ix3 0 j d)) (fun k => gp (ix2 0 k)) (fun k d => wq (ix2 k d))
          (fun k d => wo (ix2 k d)) (fun k => g (ix2 0 k)) l := by
  unfold stored
  pointwise [crossRow, norm_apply, outProj_apply, heads_apply, query_apply]
  unfold attRow
  simp only [fun q kv l => funext (score_eq q kv l)]

/-- The stored block at an index: the call's row function of the operand blocks' rows. -/
theorem out_apply (x0 : Vec Ideal S1x512x1024 .f32) (x1 x2 : Vec Ideal S1x512x512 .bf16) (x3 : Vec Ideal S1x256x2048 .bf16)
    (x4 : Vec Ideal S1024x1024 .bf16) (x5 x6 : Vec Ideal S1x1024 .f32) (x7 x8 : Vec Ideal S1024x1024 .bf16)
    (x9 : Vec Ideal S1x1024 .f32) (b : Fin 1) (r : Fin 512) (l : Fin 1024) :
    out0_10 x0 x1 x2 x3 x4 x5 x6 x7 x8 x9 (ix3 b r l)
      = xattnRow (fun k => x0 (ix3 0 r k)) (fun k => x1 (ix3 0 r k)) (fun k => x2 (ix3 0 r k)) (fun j d => x3 (ix3 0 j d))
          (fun k d => x4 (ix2 k d)) (fun k => x5 (ix2 0 k)) (fun k => x6 (ix2 0 k)) (fun k d => x7 (ix2 k d))
          (fun k d => x8 (ix2 k d)) (fun k => x9 (ix2 0 k)) l := by
  obtain rfl := Subsingleton.elim b 0
  unfold_out out0_10
  rw [pay1_eq]
  rw [pay6_eq]
  frame_out
  rw [stored_apply]
  unfold xattnRow
  simp only [mixed_apply, pay3_apply]

end Cert.KernelIdeal.Pay
-- ==== Proof.XattnRun.lean ====
/-
  Hand-written, untrusted. The out-projection and cross-attention kernel's result array and its reference's, both as the call's
  row function of the argument arrays.
-/
module

public import proofs.«01_k».proof.Defs
public import proofs.«01_k».proof.Proof.XattnPay
public import proofs.«01_k».proof.Proof.Gen.KernelIdeal.Value
public import proofs.«01_k».proof.Proof.Gen.ReferenceIdeal.Run

@[expose] public section

set_option maxRecDepth 16384

noncomputable section

namespace Cert.KernelIdeal.Arr

open Idealize.ShloMosaic Idealize.ShloMosaic.TcCoe Idealize.SL.Sem
open Cert.KernelIdeal Cert.KernelIdeal.Gen Cert.RowSpec

/-- The whole result as a function of the argument arrays. -/
def G (x : FVec Ideal S8x8192x1024 .f32) (yc yr : FVec Ideal S8x8192x512 .bf16) (kv : FVec Ideal S8x256x2048 .bf16)
    (w : FVec Ideal S1024x1024 .f32) (gmix gpre : FVec Ideal S1024 .f32) (wq wo : FVec Ideal S1024x1024 .f32)
    (gpost : FVec Ideal S1024 .f32) : FVec Ideal S8x8192x1024 .f32 := fun i =>
  xattnRow (fun k => x (ix3 (i 0) (i 1) k)) (fun k => yc (ix3 (i 0) (i 1) k)) (fun k => yr (ix3 (i 0) (i 1) k))
    (fun j d => kv (ix3 (i 0) j d)) (fun k d => w (ix2 k d)) (fun k => gmix (ix1 k)) (fun k => gpre (ix1 k))
    (fun k d => wq (ix2 k d)) (fun k d => wo (ix2 k d)) (fun k => gpost (ix1 k)) (i 2)

variable (m : (ℓ : Loc nD τ sig) → Buf (Elt Ideal) ℓ) (ρ : Dev nD → PrngReg)

theorem idx : ∀ t : Fin grid0.N, win0_0.index t = ![t.val / 16, t.val % 16, 0] ∧ win0_1.index t = ![t.val / 16, t.val % 16, 0]
    ∧ win0_2.index t = ![t.val / 16, t.val % 16, 0] ∧ win0_3.index t = ![t.val / 16, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val / 16, t.val % 16, 0] := by decide +kernel

/-- The batch and the row of a block's row. -/
def bat (t : Fin grid0.N) : Fin 8 := ⟨t.val / 16, by have := t.isLt; change _ < 128 at this; omega⟩
def row (t : Fin grid0.N) (r : Fin 512) : Fin 8192 := ⟨t.val % 16 * 512 + r.val, by omega⟩

/-! What the region finds in each operand's array. -/

theorem V_v0 (c : Dev nD) (i : S1024x1024.Idx) : (V m c main_v0 : FVec Ideal S1024x1024 .bf16) i
    = (m ((c : Thread nD τ).loc main_arg4) : FVec Ideal S1024x1024 .f32) i := by
  entry_read
  rfl

theorem V_v1 (c : Dev nD) : (V m c main_v1 : FVec Ideal S1x1024 .f32)
    = shapeCast S1x1024 (m ((c : Thread nD τ).loc main_arg5) : FVec Ideal S1024 .f32) shapeCasts_S1024_S1x1024 := by
  entry_read
  rfl

theorem V_v2 (c : Dev nD) : (V m c main_v2 : FVec Ideal S1x1024 .f32)
    = shapeCast S1x1024 (m ((c : Thread nD τ).loc main_arg6) : FVec Ideal S1024 .f32) shapeCasts_S1024_S1x1024 := by
  entry_read
  rfl

theorem V_v3 (c : Dev nD) (i : S1024x1024.Idx) : (V m c main_v3 : FVec Ideal S1024x1024 .bf16) i
    = (m ((c : Thread nD τ).loc main_arg7) : FVec Ideal S1024x1024 .f32) i := by
  entry_read
  rfl

theorem V_v4 (c : Dev nD) (i : S1024x1024.Idx) : (V m c main_v4 : FVec Ideal S1024x1024 .bf16) i
    = (m ((c : Thread nD τ).loc main_arg8) : FVec Ideal S1024x1024 .f32) i := by
  entry_read
  rfl

theorem V_v5 (c : Dev nD) : (V m c main_v5 : FVec Ideal S1x1024 .f32)
    = shapeCast S1x1024 (m ((c : Thread nD τ).loc main_arg9) : FVec Ideal S1024 .f32) shapeCasts_S1024_S1x1024 := by
  entry_read
  rfl

theorem blk0 (c : Dev nD) (t : Fin grid0.N) (r : Fin 512) (k : Fin 1024) :
    iblk m c 0 t (ix3 0 r k) = (m ((c : Thread nD τ).loc main_arg0) : FVec Ideal S8x8192x1024 .f32) (ix3 (bat t) (row t r) k) := by
  rw [← V_main_arg0 m c]
  blk_ext [iblk, idx t, bat, row]

theorem blk1 (c : Dev nD) (t : Fin grid0.N) (r : Fin 512) (k : Fin 512) :
    iblk m c 1 t (ix3 0 r k) = (m ((c : Thread nD τ).loc main_arg1) : FVec Ideal S8x8192x512 .bf16) (ix3 (bat t) (row t r) k) := by
  rw [← V_main_arg1 m c]
  blk_ext [iblk, idx t, bat, row]

theorem blk2 (c : Dev nD) (t : Fin grid0.N) (r : Fin 512) (k : Fin 512) :
    iblk m c 2 t (ix3 0 r k) = (m ((c : Thread nD τ).loc main_arg2) : FVec Ideal S8x8192x512 .bf16) (ix3 (bat t) (row t r) k) := by
  rw [← V_main_arg2 m c]
  blk_ext [iblk, idx t, bat, row]

theorem blk3 (c : Dev nD) (t : Fin grid0.N) (j : Fin 256) (d : Fin 2048) :
    iblk m c 3 t (ix3 0 j d) = (m ((c : Thread nD τ).loc main_arg3) : FVec Ideal S8x256x2048 .bf16) (ix3 (bat t) j d) := by
  rw [← V_main_arg3 m c]
  blk_ext [iblk, idx t, bat]

theorem blk4 (c : Dev nD) (t : Fin grid0.N) (k d : Fin 1024) :
    iblk m c 4 t (ix2 k d) = (m ((c : Thread nD τ).loc main_arg4) : FVec Ideal S1024x1024 .f32) (ix2 k d) := by
  have h : iblk m c 4 t (ix2 k d) = (V m c main_v0 : FVec Ideal S1024x1024 .bf16) (ix2 k d) := by
    blk_ext [iblk, idx t]
  rw [h, V_v0]

theorem blk7 (c : Dev nD) (t : Fin grid0.N) (k d : Fin 1024) :
    iblk m c 7 t (ix2 k d) = (m ((c : Thread nD τ).loc main_arg7) : FVec Ideal S1024x1024 .f32) (ix2 k d) := by
  have h : iblk m c 7 t (ix2 k d) = (V m c main_v3 : FVec Ideal S1024x1024 .bf16) (ix2 k d) := by
    blk_ext [iblk, idx t]
  rw [h, V_v3]

theorem blk8 (c : Dev nD) (t : Fin grid0.N) (k d : Fin 1024) :
    iblk m c 8 t (ix2 k d) = (m ((c : Thread nD τ).loc main_arg8) : FVec Ideal S1024x1024 .f32) (ix2 k d) := by
  have h : iblk m c 8 t (ix2 k d) = (V m c main_v4 : FVec Ideal S1024x1024 .bf16) (ix2 k d) := by
    blk_ext [iblk, idx t]
  rw [h, V_v4]

theorem blk5 (c : Dev nD) (t : Fin grid0.N) (k : Fin 1024) :
    iblk m c 5 t (ix2 0 k) = (m ((c : Thread nD τ).loc main_arg5) : FVec Ideal S1024 .f32) (ix1 k) := by
  have h : iblk m c 5 t (ix2 0 k) = (V m c main_v1 : FVec Ideal S1x1024 .f32) (ix2 0 k) := by
    blk_ext [iblk, idx t]
  rw [h, V_v1]
  pointwise

theorem blk6 (c : Dev nD) (t : Fin grid0.N) (k : Fin 1024) :
    iblk m c 6 t (ix2 0 k) = (m ((c : Thread nD τ).loc main_arg6) : FVec Ideal S1024 .f32) (ix1 k) := by
  have h : iblk m c 6 t (ix2 0 k) = (V m c main_v2 : FVec Ideal S1x1024 .f32) (ix2 0 k) := by
    blk_ext [iblk, idx t]
  rw [h, V_v2]
  pointwise

theorem blk9 (c : Dev nD) (t : Fin grid0.N) (k : Fin 1024) :
    iblk m c 9 t (ix2 0 k) = (m ((c : Thread nD τ).loc main_arg9) : FVec Ideal S1024 .f32) (ix1 k) := by
  have h : iblk m c 9 t (ix2 0 k) = (V m c main_v5 : FVec Ideal S1x1024 .f32) (ix2 0 k) := by
    blk_ext [iblk, idx t]
  rw [h, V_v5]
  pointwise

theorem emb10 (t : Fin grid0.N) (b : Fin 1) (r : Fin 512) (l : Fin 1024) :
    ((cfg0.win 10).blk t).view.emb (ix3 b r l) = (ix3 (bat t) (row t r) l : S8x8192x1024.Idx) := by
  obtain rfl := Subsingleton.elim b 0
  blk_ext [idx t, bat, row]

/-- What grid point `t` stores at an index of its block is the result function at the array index that it lands on. -/
theorem point (c : Dev nD) (t : Fin grid0.N) (b : Fin 1) (r : Fin 512) (l : Fin 1024) (i : S8x8192x1024.Idx)
    (hi : i = ix3 (bat t) (row t r) l) :
    out0_10 (iblk m c 0 t) (iblk m c 1 t) (iblk m c 2 t) (iblk m c 3 t) (iblk m c 4 t) (iblk m c 5 t) (iblk m c 6 t)
        (iblk m c 7 t) (iblk m c 8 t) (iblk m c 9 t) (ix3 b r l)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i := by
  subst hi
  rw [Pay.out_apply]
  unfold G
  exact xattnRow_congr (fun k => blk0 m c t r k) (fun k => blk1 m c t r k) (fun k => blk2 m c t r k) (fun j d => blk3 m c t j d)
    (fun k d => blk4 m c t k d) (fun k => blk5 m c t k) (fun k => blk6 m c t k) (fun k d => blk7 m c t k d)
    (fun k d => blk8 m c t k d) (fun k => blk9 m c t k) rfl

theorem final (c : Dev nD) : (dats m 0 c).arrAt 10 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]
  idx_vars y
  exact point m c t y0 y1 y2 _ (emb10 t y0 y1 y2)

end Cert.KernelIdeal.Arr

end
-- ==== Proof.XattnRef.lean ====
/-
  Hand-written, untrusted. The cross-attention reference's result array as the call's row function of the argument arrays.
-/
module

public import proofs.«01_k».proof.Proof.XattnRun

@[expose] public section

set_option maxRecDepth 16384

noncomputable section

namespace Cert.ReferenceIdeal.Arr

open Idealize.ShloMosaic Idealize.ShloMosaic.TcCoe Idealize.SL.Sem
open Cert.ReferenceIdeal Cert.ReferenceIdeal.Gen Cert.RowSpec

variable (m : (ℓ : Loc nD τ sig) → Buf (Elt Ideal) ℓ)

/-- The reference's normalisation of a whole array. -/
def norm (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2
    (Host.rsqrt (addf (Host.divf (broadcastInDim S8x8192x1 ![0, 1] bcast_S8x8192_S8x8192x1_0_1
      (Host.reduceAdd (mulf x x) (constant S_ .f32 0x00000000#32) reducesTo_S8x8192x1024_S8x8192_d2 h_S_))
      (broadcastInDim S8x8192x1 ![] bcast_S_S8x8192x1 (constant S_ .f32 0x44800000#32)))
      (broadcastInDim S8x8192x1 ![] bcast_S_S8x8192x1 (constant S_ .f32 0x358637BD#32))))))
    (broadcastInDim S8x8192x1024 ![0, 1, 2] bcast_S1x1x1024_S8x8192x1024_0_1_2
      (broadcastInDim S1x1x1024 ![2] bcast_S1024_S1x1x1024_2 g))

theorem norm_apply (x : FVec Ideal S8x8192x1024 .f32) (g : FVec Ideal S1024 .f32) (b : Fin 8) (t : Fin 8192) (l : Fin 1024) :
    norm x g (ix3 b t l) = rmsRow (fun k => x (ix3 b t k)) (fun k => g (ix1 k)) l := by
  pointwise [norm, rmsRow, rmsScale]

/-- A projection of a whole array. -/
def proj (h : FVec Ideal S8x8192x1024 .f32) (w : FVec Ideal S1024x1024 .f32) : FVec Ideal S8x8192x1024 .f32 :=
  Host.dotGeneral dot_S8x8192x1024_S1024x1024_S8x8192x1024_2_0_01_1_n_n none h w

theorem proj_apply (h : FVec Ideal S8x8192x1024 .f32) (w : FVec Ideal S1024x1024 .f32) (b : Fin 8) (t : Fin 8192) (l : Fin 1024) :
    proj h w (ix3 b t l) = projRow (fun k => h (ix3 b t k)) (fun k d => w (ix2 k d)) l := by
  pointwise [proj, projRow]

/-- The two halves of the mixer's output side by side. -/
def both (yc yr : FVec Ideal S8x8192x512 .bf16) : FVec Ideal S8x8192x1024 .f32 :=
  concatenate S8x8192x1024 2 [⟨S8x8192x512, (extf .f32 yc bitsLt_bf16_f32)⟩, ⟨S8x8192x512, (extf .f32 yr bitsLt_bf16_f32)⟩]
    concatenates_S8x8192x512_S8x8192x512_S8x8192x1024_d2

theorem mix_apply (yc yr : FVec Ideal S8x8192x512 .bf16) (w : FVec Ideal S1024x1024 .f32) (b : Fin 8) (t : Fin 8192)
    (l : Fin 1024) :
    proj (both yc yr) w (ix3 b t l)
      = mixRow (fun k => yc (ix3 b t k)) (fun k => yr (ix3 b t k)) (fun k d => w (ix2 k d)) l := by
  pointwise [proj, both, mixRow]

/-- The scores of all heads. -/
def scores (q : FVec Ideal S8x8192x1024 .f32) (kv : FVec Ideal S8x256x2048 .bf16) : FVec Ideal S8x4x8192x256 .f32 :=
  mulf (Host.dotGeneral dot_S8x8192x4x256_S8x256x4x256_S8x4x8192x256_3_3_1_1_02_02 none
    (shapeCast _ q shapeCasts_S8x8192x1024_S8x8192x4x256)
    (shapeCast _ (extractStridedSlice S8x256x1024 ![0, 0, 0] (extf .f32 kv bitsLt_bf16_f32) slices_S8x256x2048_S8x256x1024_0_0_0)
      shapeCasts_S8x256x1024_S8x256x4x256)) (broadcastInDim S8x4x8192x256 ![] bcast_S_S8x4x8192x256 (constant S_ .f32 0x3D800000#32))

theorem scores_apply (q : FVec Ideal S8x8192x1024 .f32) (kv : FVec Ideal S8x256x2048 .bf16) (b : Fin 8) (h : Fin 4) (t : Fin 8192)
    (j : Fin 256) :
    scores q kv (ix4 b h t j) = (∑ d : Fin 256, q (ix3 b t ⟨h.val * 256 + d.val, by omega⟩)
      * kv (ix3 b j ⟨h.val * 256 + d.val, by omega⟩)) * Ideal.ofBits .f32 0x3D800000#32 := by
  pointwise [scores]

/-- The largest score of each row. -/
def hmax (s : FVec Ideal S8x4x8192x256 .f32) : FVec Ideal S8x4x8192 .f32 :=
  Host.reduce FloatOps.maximumf s (constant S_ .f32 0xFF800000#32) reducesTo_S8x4x8192x256_S8x4x8192_d3 h_S_

theorem red : S8x4x8192x256.Reduces [3] S8x4x8192 := by decide

theorem hmax_apply (s : FVec Ideal S8x4x8192x256 .f32) (b : Fin 8) (h : Fin 4) (t : Fin 8192) :
    hmax s (ix3 b h t) = rowMax fun j => s (ix4 b h t j) := by
  unfold hmax
  rw [Host.reduce_eq_fold_single _ _ _ _ red]
  unfold rowMax
  have e : s ∘ red.lift (ix3 b h t) = fun j : Fin 256 => s (ix4 b h t j) := by
    funext j
    refine congrArg s (funext fun c => Fin.ext ?_)
    rw [Shape.Reduces.lift_val]
    fin_cases c <;> rfl
  rw [e]
  rfl

/-- Starting the maximum once more from its first value changes nothing. -/
theorem max_rowMax (s : Fin 256 → EReal) : max (Ideal.ofBits .f32 0xFF800000#32) (rowMax s) = rowMax s :=
  max_eq_right (Finset.le_fold_max (Ideal.ofBits .f32 0xFF800000#32) |>.mpr (Or.inl le_rfl))

/-- The exponentials of the scores less a number for each row. -/
def expoOf (s : FVec Ideal S8x4x8192x256 .f32) (M : FVec Ideal S8x4x8192 .f32) : FVec Ideal S8x4x8192x256 .f32 :=
  Host.exp (subf s (broadcastInDim S8x4x8192x256 ![0, 1, 2, 3] bcast_S8x4x8192x1_S8x4x8192x256_0_1_2_3
    (broadcastInDim S8x4x8192x1 ![0, 1, 2] bcast_S8x4x8192_S8x4x8192x1_0_1_2
      (maximumf (broadcastInDim S8x4x8192 ![] bcast_S_S8x4x8192 (constant S_ .f32 0xFF800000#32)) M))))

theorem expoOf_apply (s : FVec Ideal S8x4x8192x256 .f32) (M : FVec Ideal S8x4x8192 .f32) (b : Fin 8) (h : Fin 4) (t : Fin 8192)
    (j : Fin 256) :
    expoOf s M (ix4 b h t j) = Ideal.exp (s (ix4 b h t j) - max (Ideal.ofBits .f32 0xFF800000#32) (M (ix3 b h t))) := by
  pointwise [expoOf]

/-- The unnormalised weights. -/
def expo (s : FVec Ideal S8x4x8192x256 .f32) : FVec Ideal S8x4x8192x256 .f32 := expoOf s (hmax s)

theorem expo_apply (s : FVec Ideal S8x4x8192x256 .f32) (b : Fin 8) (h : Fin 4) (t : Fin 8192) (j : Fin 256) :
    expo s (ix4 b h t j) = expRow (fun i => s (ix4 b h t i)) j := by
  unfold expo expRow
  rw [expoOf_apply, hmax_apply, max_rowMax]

/-- The softmax. -/
def probs (s : FVec Ideal S8x4x8192x256 .f32) : FVec Ideal S8x4x8192x256 .f32 :=
  Host.divf (expo s) (broadcastInDim S8x4x8192x256 ![0, 1, 2, 3] bcast_S8x4x8192x1_S8x4x8192x256_0_1_2_3
    (broadcastInDim S8x4x8192x1 ![0, 1, 2] bcast_S8x4x8192_S8x4x8192x1_0_1_2
      (Host.reduceAdd (expo s) (constant S_ .f32 0x00000000#32) reducesTo_S8x4x8192x256_S8x4x8192_d3 h_S_)))

theorem probs_apply (s : FVec Ideal S8x4x8192x256 .f32) (b : Fin 8) (h : Fin 4) (t : Fin 8192) (j : Fin 256) :
    probs s (ix4 b h t j) = softmaxRow (fun i => s (ix4 b h t i)) j := by
  unfold probs
  pointwise [softmaxRow, expo_apply]

/-- The weighted values of all heads, side by side. -/
def att (q : FVec Ideal S8x8192x1024 .f32) (kv : FVec Ideal S8x256x2048 .bf16) : FVec Ideal S8x8192x1024 .f32 :=
  shapeCast _ (transpose S8x8192x4x256 [0, 3, 1, 2] (Host.dotGeneral dot_S8x256x4x256_S8x4x8192x256_S8x4x256x8192_1_3_3_2_02_01 none
    (shapeCast _ (extractStridedSlice S8x256x1024 ![0, 0, 1024] (extf .f32 kv bitsLt_bf16_f32)
      slices_S8x256x2048_S8x256x1024_0_0_1024) shapeCasts_S8x256x1024_S8x256x4x256) (probs (scores q kv)))
    transposes_S8x4x256x8192_S8x8192x4x256_0_3_1_2) shapeCasts_S8x8192x4x256_S8x8192x1024

theorem att_apply (q : FVec Ideal S8x8192x1024 .f32) (kv : FVec Ideal S8x256x2048 .bf16) (b : Fin 8) (t : Fin 8192) (l : Fin 1024) :
    att q kv (ix3 b t l) = attRow (fun k => q (ix3 b t k)) (fun j d => kv (ix3 b j d)) l := by
  unfold att
  pointwise [attRow, probs_apply, scores_apply]
  exact Finset.sum_congr rfl fun j _ => mul_comm _ _

theorem ref_eq (c : Dev nD) : Value.res_main_v69 m c
    = Cert.KernelIdeal.Arr.G (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  have e : ∀ (x : FVec Ideal S8x8192x1024 .f32) (yc yr : FVec Ideal S8x8192x512 .bf16) (kv : FVec Ideal S8x256x2048 .bf16)
      (w : FVec Ideal S1024x1024 .f32) (gmix gpre : FVec Ideal S1024 .f32) (wq wo : FVec Ideal S1024x1024 .f32)
      (gpost : FVec Ideal S1024 .f32),
      addf (addf x (norm (proj (both yc yr) w) gmix))
          (norm (proj (att (proj (norm (addf x (norm (proj (both yc yr) w) gmix)) gpre) wq) kv) wo) gpost)
        = Cert.KernelIdeal.Arr.G x yc yr kv w gmix gpre wq wo gpost := by
    intro x yc yr kv w gmix gpre wq wo gpost
    funext i
    idx_vars i
    pointwise [Cert.KernelIdeal.Arr.G, xattnRow, crossRow, norm_apply, mix_apply, att_apply, proj_apply]
    simp only [← proj_apply, mix_apply]
    rfl
  exact e _ _ _ _ _ _ _ _ _ _

end Cert.ReferenceIdeal.Arr

end
-- ==== Proof.SwigluPay.lean ====
/-
  Hand-written, untrusted. What the SwiGLU kernel's body stores, read at one index of a block.
-/
module

public import proofs.«01_k».proof.Proof.RowSpec
public import proofs.«01_k».proof.Proof.Gen.SwigluIdeal.Frame
public import Idealize.ShloMosaic.Lib.Pipeline.ValueKit

@[expose] public section

set_option maxRecDepth 16384

noncomputable section

namespace Cert.SwigluIdeal.Pay

open Idealize.ShloMosaic Idealize.ShloMosaic.TcCoe Idealize.SL.Sem
open Cert.SwigluIdeal Cert.SwigluIdeal.Gen Cert.RowSpec

/-- The normalised block through 256 columns of the first weight. -/
def gate (h : FVec Ideal S512x1024 .bf16) (w : Vec Ideal S1024x256 .bf16) : FVec Ideal S512x256 .f32 :=
  matmul dot_S512x1024_S1024x256_S512x256_1_0_0_1_n_n none h (shapeCast S1024x256 w shapeCasts_S1024x256_S1024x256 : FVec Ideal S1024x256 .bf16)
    (constant S512x256 .f32 0x00000000#32)

/-- One chunk of 256 hidden units added to the running block. -/
def comb (acc : FVec Ideal S512x1024 .f32) (a b : FVec Ideal S512x256 .f32) (wd : Vec Ideal S256x1024 .bf16) :
    FVec Ideal S512x1024 .f32 :=
  addf acc (matmul dot_S512x256_S256x1024_S512x1024_1_0_0_1_n_n none
    (truncf .bf16 (mulf (mulf a (logistic a)) b) bitsLt_bf16_f32)
    (shapeCast S256x1024 wd shapeCasts_S256x1024_S256x1024 : FVec Ideal S256x1024 .bf16) (constant S512x1024 .f32 0x00000000#32))

theorem gate_apply (h : FVec Ideal S512x1024 .bf16) (w : Vec Ideal S1024x256 .bf16) (r : Fin 512) (d : Fin 256) :
    gate h w (ix2 r d) = ∑ k : Fin 1024, h (ix2 r k) * w (ix2 k d) := by
  pointwise [gate]

theorem comb_apply (acc : FVec Ideal S512x1024 .f32) (a b : FVec Ideal S512x256 .f32) (wd : Vec Ideal S256x1024 .bf16)
    (r : Fin 512) (l : Fin 1024) :
    comb acc a b wd (ix2 r l) = acc (ix2 r l) + ∑ d : Fin 256, gated (a (ix2 r d)) (b (ix2 r d)) * wd (ix2 d l) := by
  pointwise [comb, gated]

theorem norm_apply (x : Vec Ideal S512x1024 .f32) (g : Vec Ideal S1x1024 .f32) (r : Fin 512) (l : Fin 1024) :
    k0_pay2 x g (ix2 r l) = rmsRow (fun k => x (ix2 r k)) (fun k => g (ix2 0 k)) l := by
  pointwise [k0_pay2, k0_pay1, rmsRow, rmsScale]

/-- The chunked body as a chain of eleven chunks. -/
theorem pay11_eq (v0 : Vec Ideal S512x1024 .f32) (h : FVec Ideal S512x1024 .bf16) (acc : FVec Ideal S512x1024 .f32)
    (a : FVec Ideal S512x256 .f32) (u0 : Vec Ideal S1024x256 .bf16) (d0 : Vec Ideal S256x1024 .bf16)
    (g1 u1 : Vec Ideal S1024x256 .bf16) (d1 : Vec Ideal S256x1024 .bf16) (gp : Vec Ideal S1x1024 .f32)
    (r : Fin 512) (l : Fin 1024) :
    k0_pay11 (k0_pay1 v0) h acc a u0 d0 g1 u1 d1 gp (ix2 r l)
      = v0 (ix2 r l) + rmsRow (fun k => comb (comb acc a (gate h u0) d0) (gate h g1) (gate h u1) d1 (ix2 r k))
          (fun k => gp (ix2 0 k)) l := by
  have e : ∀ v1, k0_pay11 v1 h acc a u0 d0 g1 u1 d1 gp
      = addf v1 (mulf (mulf (comb (comb acc a (gate h u0) d0) (gate h g1) (gate h u1) d1)
        (broadcastTo S512x1024 (rsqrt (addf (divf (shapeCast S512x1 (multiReduction .add [1] S512
          (mulf (comb (comb acc a (gate h u0) d0) (gate h g1) (gate h u1) d1) (comb (comb acc a (gate h u0) d0) (gate h g1) (gate h u1) d1)) 0x00000000#32 reduces_S512x1024_S512 (.inl rfl) rfl) shapeCasts_S512_S512x1)
            (broadcast S512x1 (Scalar.ofBits .f32 0x44800000#32))) (broadcast S512x1 (Scalar.ofBits .f32 0x358637BD#32)))) broadcasts_S512x1_S512x1024))
          (broadcastTo S512x1024 (shapeCast S1x1024 gp shapeCasts_S1x1024_S1x1024) broadcasts_S1x1024_S512x1024)) := fun _ => rfl
  rw [e]
  generalize comb (comb acc a (gate h u0) d0) (gate h g1) (gate h u1) d1 = y
  pointwise [k0_pay1, rmsRow, rmsScale]

theorem pay3_eq (v0 : Vec Ideal S512x1024 .f32) (v2 : Vec Ideal S1x1024 .f32) (g u : Vec Ideal S1024x256 .bf16)
    (d : Vec Ideal S256x1024 .bf16) :
    k0_pay3 v0 v2 g u d = comb (broadcast S512x1024 (Scalar.ofBits .f32 0x00000000#32))
      (gate (k0_pay2 v0 v2) g) (gate (k0_pay2 v0 v2) u) d := rfl

theorem pay4_eq (v0 : Vec Ideal S512x1024 .f32) (v2 : Vec Ideal S1x1024 .f32) (g : Vec Ideal S1024x256 .bf16) :
    k0_pay4 v0 v2 g = gate (k0_pay2 v0 v2) g := rfl

theorem pay6_eq (h : FVec Ideal S512x1024 .bf16) (acc : FVec Ideal S512x1024 .f32) (a : FVec Ideal S512x256 .f32)
    (u0 : Vec Ideal S1024x256 .bf16) (d0 : Vec Ideal S256x1024 .bf16) (g1 u1 : Vec Ideal S1024x256 .bf16)
    (d1 : Vec Ideal S256x1024 .bf16) (g2 u2 : Vec Ideal S1024x256 .bf16) (d2 : Vec Ideal S256x1024 .bf16) :
    k0_pay6 h acc a (k0_pay5 u0) d0 g1 u1 d1 g2 u2 d2
      = comb (comb (comb acc a (gate h u0) d0) (gate h g1) (gate h u1) d1) (gate h g2) (gate h u2) d2 := rfl

theorem pay7_eq (h : FVec Ideal S512x1024 .bf16) (acc : FVec Ideal S512x1024 .f32)
    (g1 u1 : Vec Ideal S1024x256 .bf16)
    (d1 : Vec Ideal S256x1024 .bf16) (g2 u2 : Vec Ideal S1024x256 .bf16) (d2 : Vec Ideal S256x1024 .bf16) :
    k0_pay7 h acc g1 u1 d1 g2 u2 d2
      = comb (comb acc (gate h g1) (gate h u1) d1) (gate h g2) (gate h u2) d2 := rfl

theorem pay9_eq (h : FVec Ideal S512x1024 .bf16) (acc : FVec Ideal S512x1024 .f32)
    (g0 u0 : Vec Ideal S1024x256 .bf16) (d0 : Vec Ideal S256x1024 .bf16) (g1 u1 : Vec Ideal S1024x256 .bf16)
    (d1 : Vec Ideal S256x1024 .bf16) (g2 u2 : Vec Ideal S1024x256 .bf16) (d2 : Vec Ideal S256x1024 .bf16) :
    k0_pay9 h acc (k0_pay8 h g0 u0) d0 g1 u1 d1 g2 u2 d2
      = comb (comb (comb acc (gate h g0) (gate h u0) d0) (gate h g1) (gate h u1) d1) (gate h g2) (gate h u2) d2 := rfl

theorem pay10_eq (h : FVec Ideal S512x1024 .bf16) (g : Vec Ideal S1024x256 .bf16) : k0_pay10 h g = gate h g := rfl

/-- A sum over the 2816 hidden units, cut into the eleven chunks in the order of the body. -/
theorem sum_chunks (f : Fin 2816 → EReal) :
    ∑ d : Fin 2816, f d
      = 0 + (∑ d : Fin 256, f ⟨d.val, by omega⟩) + (∑ d : Fin 256, f ⟨256 + d.val, by omega⟩)
        + (∑ d : Fin 256, f ⟨512 + d.val, by omega⟩) + (∑ d : Fin 256, f ⟨768 + d.val, by omega⟩)
        + (∑ d : Fin 256, f ⟨1024 + d.val, by omega⟩) + (∑ d : Fin 256, f ⟨1280 + d.val, by omega⟩)
        + (∑ d : Fin 256, f ⟨1536 + d.val, by omega⟩) + (∑ d : Fin 256, f ⟨1792 + d.val, by omega⟩)
        + (∑ d : Fin 256, f ⟨2048 + d.val, by omega⟩) + (∑ d : Fin 256, f ⟨2304 + d.val, by omega⟩)
        + (∑ d : Fin 256, f ⟨2560 + d.val, by omega⟩) := by
  have e : ∀ g : Fin 11 → EReal, ∑ j, g j = 0 + g 0 + g 1 + g 2 + g 3 + g 4 + g 5 + g 6 + g 7 + g 8 + g 9 + g 10 := by
    intro g
    simp only [Fin.sum_univ_castSucc, Fin.sum_univ_zero]
    rfl
  rw [Fin.sum_univ_tiles 11 256 rfl f, e]
  simp

/-- The stored block at an index: the sublayer's row function of the operand blocks' rows. -/
theorem out_apply (x0 : Vec Ideal S512x1024 .f32) (x1 : Vec Ideal S1x1024 .f32) (x2 : Vec Ideal S1024x5632 .bf16)
    (x3 : Vec Ideal S2816x1024 .bf16) (x4 : Vec Ideal S1x1024 .f32) (r : Fin 512) (l : Fin 1024) :
    out0_5 x0 x1 x2 x3 x4 (ix2 r l)
      = swigluRow (fun k => x0 (ix2 r k)) (fun k => x1 (ix2 0 k)) (fun k d => x2 (ix2 k d)) (fun d k => x3 (ix2 d k))
          (fun k => x4 (ix2 0 k)) l := by
  unfold_out out0_5
  frame_out
  rw [pay3_eq, pay4_eq, pay6_eq, pay7_eq, pay9_eq, pay10_eq, pay11_eq]
  unfold swigluRow
  refine congrArg (fun y => x0 (ix2 r l) + rmsRow y (fun k => x4 (ix2 0 k)) l) (funext fun k => ?_)
  unfold ffnRow
  rw [sum_chunks]
  simp only [comb_apply, gate_apply, norm_apply]
  pointwise
  simp only [← Nat.add_assoc, Nat.reduceAdd]

end Cert.SwigluIdeal.Pay
-- ==== Proof.SwigluRun.lean ====
/-
  Hand-written, untrusted. The SwiGLU kernel's result array and its reference's, both as the sublayer's row function of the
  argument arrays, and the two runs side by side.
-/
module

public import proofs.«01_k».proof.Defs
public import proofs.«01_k».proof.Proof.SwigluPay
public import proofs.«01_k».proof.Proof.Gen.SwigluIdeal.Value
public import proofs.«01_k».proof.Proof.Gen.SwigluRefIdeal.Run

@[expose] public section

set_option maxRecDepth 16384

noncomputable section

namespace Cert.SwigluIdeal.Arr

open Idealize.ShloMosaic Idealize.ShloMosaic.TcCoe Idealize.SL.Sem
open Cert.SwigluIdeal Cert.SwigluIdeal.Gen Cert.RowSpec

/-- The whole result as a function of the argument arrays. -/
def G (x : FVec Ideal S8x8192x1024 .f32) (gpre : FVec Ideal S1024 .f32) (w13 : FVec Ideal S1024x5632 .f32)
    (w2 : FVec Ideal S2816x1024 .f32) (gpost : FVec Ideal S1024 .f32) : FVec Ideal S65536x1024 .f32 := fun i =>
  swigluRow (fun k => x (ix3 ⟨(i 0).val / 8192, by have := (i 0).isLt; change _ < 65536 at this; omega⟩
      ⟨(i 0).val % 8192, by omega⟩ k)) (fun k => gpre (ix1 k)) (fun k d => w13 (ix2 k d)) (fun d k => w2 (ix2 d k))
    (fun k => gpost (ix1 k)) (i 1)

variable (m : (ℓ : Loc nD τ sig) → Buf (Elt Ideal) ℓ) (ρ : Dev nD → PrngReg)

theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] := by decide +kernel

/-- What the region finds in each operand's array. -/
theorem V_v0 (c : Dev nD) : (V m c main_v0 : FVec Ideal S65536x1024 .f32)
    = shapeCast S65536x1024 (m ((c : Thread nD τ).loc main_arg0) : FVec Ideal S8x8192x1024 .f32) shapeCasts_S8x8192x1024_S65536x1024 := by
  entry_read
  rfl

theorem V_v1 (c : Dev nD) : (V m c main_v1 : FVec Ideal S1x1024 .f32)
    = shapeCast S1x1024 (m ((c : Thread nD τ).loc main_arg1) : FVec Ideal S1024 .f32) shapeCasts_S1024_S1x1024 := by
  entry_read
  rfl

theorem V_v2 (c : Dev nD) (i : S1024x5632.Idx) : (V m c main_v2 : FVec Ideal S1024x5632 .bf16) i
    = (m ((c : Thread nD τ).loc main_arg2) : FVec Ideal S1024x5632 .f32) i := by
  entry_read
  rfl

theorem V_v3 (c : Dev nD) (i : S2816x1024.Idx) : (V m c main_v3 : FVec Ideal S2816x1024 .bf16) i
    = (m ((c : Thread nD τ).loc main_arg3) : FVec Ideal S2816x1024 .f32) i := by
  entry_read
  rfl

/-- A row of the flattened activations is a row of one batch. -/
theorem rows_apply (x : FVec Ideal S8x8192x1024 .f32) (j : Fin 65536) (k : Fin 1024) :
    shapeCast S65536x1024 x shapeCasts_S8x8192x1024_S65536x1024 (ix2 j k)
      = x (ix3 ⟨j.val / 8192, by omega⟩ ⟨j.val % 8192, by omega⟩ k) := by
  pointwise

theorem V_v4 (c : Dev nD) : (V m c main_v4 : FVec Ideal S1x1024 .f32)
    = shapeCast S1x1024 (m ((c : Thread nD τ).loc main_arg4) : FVec Ideal S1024 .f32) shapeCasts_S1024_S1x1024 := by
  entry_read
  rfl

theorem blk0 (c : Dev nD) (t : Fin grid0.N) (r : Fin 512) (k : Fin 1024) :
    iblk m c 0 t (ix2 r k) = (m ((c : Thread nD τ).loc main_arg0) : FVec Ideal S8x8192x1024 .f32)
      (ix3 ⟨(t.val * 512 + r.val) / 8192, by have := t.isLt; change _ < 128 at this; omega⟩
        ⟨(t.val * 512 + r.val) % 8192, by omega⟩ k) := by
  have h : iblk m c 0 t (ix2 r k) = (V m c main_v0 : FVec Ideal S65536x1024 .f32)
      (ix2 ⟨t.val * 512 + r.val, by have := t.isLt; change _ < 128 at this; omega⟩ k) := by
    blk_ext [iblk, idx t]
  rw [h, V_v0, rows_apply]

theorem blk1 (c : Dev nD) (t : Fin grid0.N) (k : Fin 1024) :
    iblk m c 1 t (ix2 0 k) = (m ((c : Thread nD τ).loc main_arg1) : FVec Ideal S1024 .f32) (ix1 k) := by
  have h : iblk m c 1 t (ix2 0 k) = (V m c main_v1 : FVec Ideal S1x1024 .f32) (ix2 0 k) := by
    blk_ext [iblk, idx t]
  rw [h, V_v1]
  pointwise

theorem blk2 (c : Dev nD) (t : Fin grid0.N) (k : Fin 1024) (d : Fin 5632) :
    iblk m c 2 t (ix2 k d) = (m ((c : Thread nD τ).loc main_arg2) : FVec Ideal S1024x5632 .f32) (ix2 k d) := by
  have h : iblk m c 2 t (ix2 k d) = (V m c main_v2 : FVec Ideal S1024x5632 .bf16) (ix2 k d) := by
    blk_ext [iblk, idx t]
  rw [h, V_v2]

theorem blk3 (c : Dev nD) (t : Fin grid0.N) (d : Fin 2816) (k : Fin 1024) :
    iblk m c 3 t (ix2 d k) = (m ((c : Thread nD τ).loc main_arg3) : FVec Ideal S2816x1024 .f32) (ix2 d k) := by
  have h : iblk m c 3 t (ix2 d k) = (V m c main_v3 : FVec Ideal S2816x1024 .bf16) (ix2 d k) := by
    blk_ext [iblk, idx t]
  rw [h, V_v3]

theorem blk4 (c : Dev nD) (t : Fin grid0.N) (k : Fin 1024) :
    iblk m c 4 t (ix2 0 k) = (m ((c : Thread nD τ).loc main_arg4) : FVec Ideal S1024 .f32) (ix1 k) := by
  have h : iblk m c 4 t (ix2 0 k) = (V m c main_v4 : FVec Ideal S1x1024 .f32) (ix2 0 k) := by
    blk_ext [iblk, idx t]
  rw [h, V_v4]
  pointwise

theorem emb5 (t : Fin grid0.N) (r : Fin 512) (l : Fin 1024) :
    ((cfg0.win 5).blk t).view.emb (ix2 r l) = (ix2 ⟨t.val * 512 + r.val, by have := t.isLt; change _ < 128 at this; omega⟩ l : S65536x1024.Idx) := by
  blk_ext [idx t]

/-- What grid point `t` stores at an index of its block is the result function at the array index that it lands on. -/
theorem point (c : Dev nD) (t : Fin grid0.N) (r : Fin 512) (l : Fin 1024) (i : S65536x1024.Idx)
    (hi : i = ix2 ⟨t.val * 512 + r.val, by have := t.isLt; change _ < 128 at this; omega⟩ l) :
    out0_5 (iblk m c 0 t) (iblk m c 1 t) (iblk m c 2 t) (iblk m c 3 t) (iblk m c 4 t) (ix2 r l)
      = G (m ((c : Thread nD τ).loc main_arg0)) (m ((c : Thread nD τ).loc main_arg1)) (m ((c : Thread nD τ).loc main_arg2))
        (m ((c : Thread nD τ).loc main_arg3)) (m ((c : Thread nD τ).loc main_arg4)) i := by
  subst hi
  rw [Pay.out_apply]
  unfold G
  exact swigluRow_congr (fun k => blk0 m c t r k) (fun k => blk1 m c t k) (fun k d => blk2 m c t k d)
    (fun d k => blk3 m c t d k) (fun k => blk4 m c t k) rfl

theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  idx_vars y
  exact point m c t y0 y1 _ (emb5 t y0 y1)

end Cert.SwigluIdeal.Arr

namespace Cert.SwigluRefIdeal.Arr

open Idealize.ShloMosaic Idealize.ShloMosaic.TcCoe Idealize.SL.Sem
open Cert.SwigluRefIdeal Cert.SwigluRefIdeal.Gen Cert.RowSpec

variable (m : (ℓ : Loc nD τ sig) → Buf (Elt Ideal) ℓ)

/-- The reference's normalisation of a whole array. -/
def norm (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2
    (Host.rsqrt (addf (Host.divf (broadcastInDim S8x8192x1 ![0, 1] bcast_S8x8192_S8x8192x1_0_1
      (Host.reduceAdd (mulf x x) (constant S_ .f32 0x00000000#32) reducesTo_S8x8192x1024_S8x8192_d2 h_S_))
      (broadcastInDim S8x8192x1 ![] bcast_S_S8x8192x1 (constant S_ .f32 0x44800000#32)))
      (broadcastInDim S8x8192x1 ![] bcast_S_S8x8192x1 (constant S_ .f32 0x358637BD#32))))))
    (broadcastInDim S8x8192x1024 ![0, 1, 2] bcast_S1x1x1024_S8x8192x1024_0_1_2
      (broadcastInDim S1x1x1024 ![2] bcast_S1024_S1x1x1024_2 g))

theorem norm_apply (x : FVec Ideal S8x8192x1024 .f32) (g : FVec Ideal S1024 .f32) (b : Fin 8) (t : Fin 8192) (l : Fin 1024) :
    norm x g (ix3 b t l) = rmsRow (fun k => x (ix3 b t k)) (fun k => g (ix1 k)) l := by
  pointwise [norm, rmsRow, rmsScale]

/-- The reference's gated product of the two halves of the first projection. -/
def act (y : FVec Ideal S8x8192x5632 .f32) : FVec Ideal S8x8192x2816 .f32 :=
  mulf (mulf (extractStridedSlice S8x8192x2816 ![0, 0, 0] y slices_S8x8192x5632_S8x8192x2816_0_0_0)
    (Host.divf (broadcastInDim S8x8192x2816 ![] bcast_S_S8x8192x2816 (constant S_ .f32 0x3F800000#32))
      (addf (broadcastInDim S8x8192x2816 ![] bcast_S_S8x8192x2816 (constant S_ .f32 0x3F800000#32))
        (Host.exp (Host.negf (extractStridedSlice S8x8192x2816 ![0, 0, 0] y slices_S8x8192x5632_S8x8192x2816_0_0_0))))))
    (extractStridedSlice S8x8192x2816 ![0, 0, 2816] y slices_S8x8192x5632_S8x8192x2816_0_0_2816)

theorem act_apply (y : FVec Ideal S8x8192x5632 .f32) (b : Fin 8) (t : Fin 8192) (d : Fin 2816) :
    act y (ix3 b t d) = gated (y (ix3 b t ⟨d.val, by omega⟩)) (y (ix3 b t ⟨2816 + d.val, by omega⟩)) := by
  pointwise [act, gated]
  rfl

/-- The reference's branch. -/
def ffn (h : FVec Ideal S8x8192x1024 .f32) (w13 : FVec Ideal S1024x5632 .f32) (w2 : FVec Ideal S2816x1024 .f32) :
    FVec Ideal S8x8192x1024 .f32 :=
  Host.dotGeneral dot_S8x8192x2816_S2816x1024_S8x8192x1024_2_0_01_1_n_n none
    (act (Host.dotGeneral dot_S8x8192x1024_S1024x5632_S8x8192x5632_2_0_01_1_n_n none h w13)) w2

theorem ffn_apply (h : FVec Ideal S8x8192x1024 .f32) (w13 : FVec Ideal S1024x5632 .f32) (w2 : FVec Ideal S2816x1024 .f32)
    (b : Fin 8) (t : Fin 8192) (l : Fin 1024) :
    ffn h w13 w2 (ix3 b t l) = ffnRow (fun k => h (ix3 b t k)) (fun k d => w13 (ix2 k d)) (fun d k => w2 (ix2 d k)) l := by
  unfold ffn
  pointwise [ffnRow, act_apply]

theorem ref_eq (c : Dev nD) : Value.res_main_v33 m c
    = Cert.SwigluIdeal.Arr.G (m ((c : Thread nD τ).loc main_arg0)) (m ((c : Thread nD τ).loc main_arg1))
        (m ((c : Thread nD τ).loc main_arg2)) (m ((c : Thread nD τ).loc main_arg3)) (m ((c : Thread nD τ).loc main_arg4)) := by
  have e : ∀ (x : FVec Ideal S8x8192x1024 .f32) (gpre : FVec Ideal S1024 .f32) (w13 : FVec Ideal S1024x5632 .f32)
      (w2 : FVec Ideal S2816x1024 .f32) (gpost : FVec Ideal S1024 .f32),
      shapeCast S65536x1024 (addf x (norm (ffn (norm x gpre) w13 w2) gpost)) shapeCasts_S8x8192x1024_S65536x1024
        = Cert.SwigluIdeal.Arr.G x gpre w13 w2 gpost := by
    intro x gpre w13 w2 gpost
    funext i
    idx_vars i
    pointwise [Cert.SwigluIdeal.Arr.G, swigluRow, norm_apply, ffn_apply]
  exact e _ _ _ _ _

end Cert.SwigluRefIdeal.Arr

end
-- ==== Proof.MemKvRun.lean ====
/-
  Hand-written, untrusted. The memory's keys and values: the kernel's result array and its reference's, both as the row function
  of the argument arrays.
-/
module

public import proofs.«01_k».proof.Defs
public import proofs.«01_k».proof.Proof.RowSpec
public import proofs.«01_k».proof.Proof.Gen.MemKvIdeal.Value
public import proofs.«01_k».proof.Proof.Gen.MemKvRefIdeal.Run
public import Idealize.ShloMosaic.Lib.Pipeline.ValueKit

@[expose] public section

set_option maxRecDepth 16384

noncomputable section

namespace Cert.MemKvIdeal.Arr

open Idealize.ShloMosaic Idealize.ShloMosaic.TcCoe Idealize.SL.Sem
open Cert.MemKvIdeal Cert.MemKvIdeal.Gen Cert.RowSpec

/-- The whole result as a function of the argument arrays: layer, memory row of all batches, key or value feature. -/
def G (x : FVec Ideal S8x256x1024 .f32) (g : FVec Ideal S1024 .f32) (w : FVec Ideal S4x1024x2048 .f32) :
    FVec Ideal S4x2048x2048 .bf16 := fun i =>
  kvRow (fun k => x (ix3 ⟨(i 1).val / 256, by have := (i 1).isLt; change _ < 2048 at this; omega⟩
      ⟨(i 1).val % 256, by omega⟩ k)) (fun k => g (ix1 k)) (fun k d => w (ix3 (i 0) k d)) (i 2)

/-- What the body stores, at one index of its block. -/
theorem out_apply (x0 : Vec Ideal S2048x1024 .f32) (x1 : Vec Ideal S1x1024 .f32) (x2 : Vec Ideal S1x1024x2048 .bf16)
    (r d : Fin 2048) : out0_3 x0 x1 x2 (ix3 0 r d)
      = kvRow (fun k => x0 (ix2 r k)) (fun k => x1 (ix2 0 k)) (fun k d => x2 (ix3 0 k d)) d := by
  unfold out0_3
  frame_out
  pointwise [k0_pay1, kvRow, rmsRow, rmsScale]

variable (m : (ℓ : Loc nD τ sig) → Buf (Elt Ideal) ℓ) (ρ : Dev nD → PrngReg)

theorem idx : ∀ t : Fin grid0.N, win0_0.index t = ![0, 0] ∧ win0_1.index t = ![0, 0] ∧ win0_2.index t = ![t.val, 0, 0]
    ∧ win0_3.index t = ![t.val, 0, 0] := by decide +kernel

/-- What the region finds in each operand's array. -/
theorem V_v0 (c : Dev nD) : (V m c main_v0 : FVec Ideal S2048x1024 .f32)
    = shapeCast S2048x1024 (m ((c : Thread nD τ).loc main_arg0) : FVec Ideal S8x256x1024 .f32) shapeCasts_S8x256x1024_S2048x1024 := by
  entry_read
  rfl

theorem V_v1 (c : Dev nD) : (V m c main_v1 : FVec Ideal S1x1024 .f32)
    = shapeCast S1x1024 (m ((c : Thread nD τ).loc main_arg1) : FVec Ideal S1024 .f32) shapeCasts_S1024_S1x1024 := by
  entry_read
  rfl

theorem V_v2 (c : Dev nD) (i : S4x1024x2048.Idx) : (V m c main_v2 : FVec Ideal S4x1024x2048 .bf16) i
    = (m ((c : Thread nD τ).loc main_arg2) : FVec Ideal S4x1024x2048 .f32) i := by
  entry_read
  rfl

/-- A row of the flattened memory is a memory row of one batch. -/
theorem rows_apply (x : FVec Ideal S8x256x1024 .f32) (j : Fin 2048) (k : Fin 1024) :
    shapeCast S2048x1024 x shapeCasts_S8x256x1024_S2048x1024 (ix2 j k)
      = x (ix3 ⟨j.val / 256, by omega⟩ ⟨j.val % 256, by omega⟩ k) := by
  pointwise

theorem blk0 (c : Dev nD) (t : Fin grid0.N) (r : Fin 2048) (k : Fin 1024) :
    iblk m c 0 t (ix2 r k) = (m ((c : Thread nD τ).loc main_arg0) : FVec Ideal S8x256x1024 .f32)
      (ix3 ⟨r.val / 256, by omega⟩ ⟨r.val % 256, by omega⟩ k) := by
  have h : iblk m c 0 t (ix2 r k) = (V m c main_v0 : FVec Ideal S2048x1024 .f32) (ix2 r k) := by
    blk_ext [iblk, idx t]
  rw [h, V_v0, rows_apply]

theorem blk1 (c : Dev nD) (t : Fin grid0.N) (k : Fin 1024) :
    iblk m c 1 t (ix2 0 k) = (m ((c : Thread nD τ).loc main_arg1) : FVec Ideal S1024 .f32) (ix1 k) := by
  have h : iblk m c 1 t (ix2 0 k) = (V m c main_v1 : FVec Ideal S1x1024 .f32) (ix2 0 k) := by
    blk_ext [iblk, idx t]
  rw [h, V_v1]
  pointwise

theorem blk2 (c : Dev nD) (t : Fin grid0.N) (k : Fin 1024) (d : Fin 2048) :
    iblk m c 2 t (ix3 0 k d) = (m ((c : Thread nD τ).loc main_arg2) : FVec Ideal S4x1024x2048 .f32)
      (ix3 ⟨t.val, by have := t.isLt; change _ < 4 at this; omega⟩ k d) := by
  have h : iblk m c 2 t (ix3 0 k d) = (V m c main_v2 : FVec Ideal S4x1024x2048 .bf16)
      (ix3 ⟨t.val, by have := t.isLt; change _ < 4 at this; omega⟩ k d) := by
    blk_ext [iblk, idx t]
  rw [h, V_v2]

theorem emb3 (t : Fin grid0.N) (r d : Fin 2048) :
    ((cfg0.win 3).blk t).view.emb (ix3 0 r d)
      = (ix3 ⟨t.val, by have := t.isLt; change _ < 4 at this; omega⟩ r d : S4x2048x2048.Idx) := by
  blk_ext [idx t]

/-- What grid point `t` stores at an index of its block is the result function at the array index that it lands on. -/
theorem point (c : Dev nD) (t : Fin grid0.N) (r d : Fin 2048) (i : S4x2048x2048.Idx)
    (hi : i = ix3 ⟨t.val, by have := t.isLt; change _ < 4 at this; omega⟩ r d) :
    out0_3 (iblk m c 0 t) (iblk m c 1 t) (iblk m c 2 t) (ix3 0 r d)
      = G (m ((c : Thread nD τ).loc main_arg0)) (m ((c : Thread nD τ).loc main_arg1)) (m ((c : Thread nD τ).loc main_arg2)) i := by
  subst hi
  rw [out_apply]
  unfold G
  exact kvRow_congr (fun k => blk0 m c t r k) (fun k => blk1 m c t k) (fun k d => blk2 m c t k d) rfl

theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  obtain rfl : y0 = 0 := Subsingleton.elim _ _
  exact point m c t y1 y2 _ (emb3 t y1 y2)

end Cert.MemKvIdeal.Arr

namespace Cert.MemKvRefIdeal.Arr

open Idealize.ShloMosaic Idealize.ShloMosaic.TcCoe Idealize.SL.Sem
open Cert.MemKvRefIdeal Cert.MemKvRefIdeal.Gen Cert.RowSpec

variable (m : (ℓ : Loc nD τ sig) → Buf (Elt Ideal) ℓ)

/-- The reference's normalisation of the whole memory. -/
def norm (x : FVec Ideal S8x256x1024 .f32) (g : FVec Ideal S1024 .f32) : FVec Ideal S8x256x1024 .f32 :=
  mulf (mulf x (broadcastInDim S8x256x1024 ![0, 1, 2] bcast_S8x256x1_S8x256x1024_0_1_2
    (Host.rsqrt (addf (Host.divf (broadcastInDim S8x256x1 ![0, 1] bcast_S8x256_S8x256x1_0_1
      (Host.reduceAdd (mulf x x) (constant S_ .f32 0x00000000#32) reducesTo_S8x256x1024_S8x256_d2 h_S_))
      (broadcastInDim S8x256x1 ![] bcast_S_S8x256x1 (constant S_ .f32 0x44800000#32)))
      (broadcastInDim S8x256x1 ![] bcast_S_S8x256x1 (constant S_ .f32 0x358637BD#32))))))
    (broadcastInDim S8x256x1024 ![0, 1, 2] bcast_S1x1x1024_S8x256x1024_0_1_2
      (broadcastInDim S1x1x1024 ![2] bcast_S1024_S1x1x1024_2 g))

theorem norm_apply (x : FVec Ideal S8x256x1024 .f32) (g : FVec Ideal S1024 .f32) (b : Fin 8) (t : Fin 256) (l : Fin 1024) :
    norm x g (ix3 b t l) = rmsRow (fun k => x (ix3 b t k)) (fun k => g (ix1 k)) l := by
  pointwise [norm, rmsRow, rmsScale]

/-- The normalised memory through one layer's weight. -/
def layer (h : FVec Ideal S8x256x1024 .f32) (w : FVec Ideal S1x1024x2048 .f32) : FVec Ideal S1x2048x2048 .f32 :=
  broadcastInDim S1x2048x2048 ![1, 2] bcast_S2048x2048_S1x2048x2048_1_2 (shapeCast _
    (Host.dotGeneral dot_S8x256x1024_S1024x2048_S8x256x2048_2_0_01_1_n_n none h
      (shapeCast S1024x2048 w shapeCasts_S1x1024x2048_S1024x2048 : FVec Ideal S1024x2048 .f32) : FVec Ideal S8x256x2048 .f32)
    shapeCasts_S8x256x2048_S2048x2048)

theorem layer_apply (h : FVec Ideal S8x256x1024 .f32) (w : FVec Ideal S1x1024x2048 .f32) (r d : Fin 2048) :
    layer h w (ix3 0 r d)
      = ∑ k : Fin 1024, h (ix3 ⟨r.val / 256, by omega⟩ ⟨r.val % 256, by omega⟩ k) * w (ix3 0 k d) := by
  pointwise [layer]

/-- The four layers' keys and values, one after the other. -/
def stack (h : FVec Ideal S8x256x1024 .f32) (w : FVec Ideal S4x1024x2048 .f32) : FVec Ideal S4x2048x2048 .bf16 :=
  truncf .bf16 (concatenate S4x2048x2048 0
    [⟨S1x2048x2048, layer h (extractStridedSlice S1x1024x2048 ![0, 0, 0] w slices_S4x1024x2048_S1x1024x2048_0_0_0)⟩,
     ⟨S1x2048x2048, layer h (extractStridedSlice S1x1024x2048 ![1, 0, 0] w slices_S4x1024x2048_S1x1024x2048_1_0_0)⟩,
     ⟨S1x2048x2048, layer h (extractStridedSlice S1x1024x2048 ![2, 0, 0] w slices_S4x1024x2048_S1x1024x2048_2_0_0)⟩,
     ⟨S1x2048x2048, layer h (extractStridedSlice S1x1024x2048 ![3, 0, 0] w slices_S4x1024x2048_S1x1024x2048_3_0_0)⟩]
    concatenates_S1x2048x2048_S1x2048x2048_S1x2048x2048_S1x2048x2048_S4x2048x2048_d0) bitsLt_bf16_f32

theorem stack_apply (h : FVec Ideal S8x256x1024 .f32) (w : FVec Ideal S4x1024x2048 .f32) (l : Fin 4) (r d : Fin 2048) :
    stack h w (ix3 l r d)
      = ∑ k : Fin 1024, h (ix3 ⟨r.val / 256, by omega⟩ ⟨r.val % 256, by omega⟩ k) * w (ix3 l k d) := by
  obtain ⟨l, hl⟩ := l
  interval_cases l <;> pointwise [stack, layer_apply]

theorem ref_eq (c : Dev nD) : Value.res_main_v34 m c
    = Cert.MemKvIdeal.Arr.G (m ((c : Thread nD τ).loc main_arg0)) (m ((c : Thread nD τ).loc main_arg1))
        (m ((c : Thread nD τ).loc main_arg2)) := by
  have e : ∀ (x : FVec Ideal S8x256x1024 .f32) (g : FVec Ideal S1024 .f32) (w : FVec Ideal S4x1024x2048 .f32),
      stack (norm x g) w = Cert.MemKvIdeal.Arr.G x g w := by
    intro x g w
    funext i
    idx_vars i
    rw [stack_apply]
    simp only [norm_apply]
    rfl
  exact e _ _ _

end Cert.MemKvRefIdeal.Arr

end
-- ==== Proof.ConvPay.lean ====
/-
  Hand-written, untrusted. The convolution kernel's stores, one piece at a time: what each piece of a buffer holds, read at one
  index of the buffer, and what a later load of a partly written buffer gives.
-/
module

public import proofs.«01_k».proof.Proof.RowSpec
public import proofs.«01_k».proof.Proof.Gen.ConvIdeal.Frame
public import Idealize.ShloMosaic.Lib.Pipeline.ValueKit

@[expose] public section

set_option maxRecDepth 16384

noncomputable section

namespace Cert.ConvIdeal.Pay

open Idealize.ShloMosaic Idealize.ShloMosaic.TcCoe Idealize.ShloMosaic.Tactic Idealize.SL.Sem
open Cert.ConvIdeal Cert.ConvIdeal.Gen Cert.RowSpec

/-- Every piece of a list of writes stores the values that one function gives at the places it writes. -/
def Agrees {S : Shape} {e : EltTy} (L : List (View.Piece (Elt Ideal) S e)) (G : S.Idx → Elt Ideal e) : Prop :=
  ∀ p ∈ L, ∀ x : p.1.shape.Idx, p.2 x = G (p.1.emb x)

theorem agrees_nil {S : Shape} {e : EltTy} (G : S.Idx → Elt Ideal e) : Agrees ([] : List (View.Piece (Elt Ideal) S e)) G :=
  fun _ h => absurd h List.not_mem_nil

theorem agrees_cons {S : Shape} {e : EltTy} {r : Rect S} {w : r.shape.Idx → Elt Ideal e}
    {L : List (View.Piece (Elt Ideal) S e)} {G : S.Idx → Elt Ideal e} (h : ∀ x, w x = G (r.emb x)) (hL : Agrees L G) :
    Agrees ((⟨r, w⟩ : View.Piece (Elt Ideal) S e) :: L) G := by
  intro p hp
  rcases List.mem_cons.1 hp with rfl | hp
  · exact h
  · exact hL p hp

/-- Whether a piece with unit strides holds the box of extents `sz` at `lo`. -/
def holds {S : Shape} {e : EltTy} (p : View.Piece (Elt Ideal) S e) (lo sz : Fin S.rank → ℕ) : Bool :=
  decide (∀ a : Fin S.rank, p.1.stride a = 1 ∧ p.1.off a ≤ lo a ∧ lo a + sz a ≤ p.1.off a + p.1.size a)

theorem mem_of_holds {S : Shape} {e : EltTy} (L : List (View.Piece (Elt Ideal) S e)) (lo sz : Fin S.rank → ℕ)
    (h : (L.any fun p => holds p lo sz) = true) (y : S.Idx) (hy : ∀ a, lo a ≤ (y a).val ∧ (y a).val < lo a + sz a) :
    ∃ p ∈ L, y ∈ p.1.set := by
  obtain ⟨p, hp, hh⟩ := List.any_eq_true.1 h
  refine ⟨p, hp, ?_⟩
  have hd := of_decide_eq_true hh
  have hj : ∀ a, (y a).val - p.1.off a < p.1.size a := by
    intro a; have h1 := (hd a).2; have h2 := hy a; omega
  have e : p.1.emb (fun a => ⟨(y a).val - p.1.off a, hj a⟩) = y := by
    funext a
    apply Fin.ext
    show p.1.off a + p.1.stride a * ((y a).val - p.1.off a) = (y a).val
    have h1 := hd a; have h2 := hy a
    rw [h1.1]
    omega
  rw [← e]
  exact p.1.idx_mem _

/-- A load of a partly written buffer, where the pieces agree with one function and hold all that the load reads. -/
theorem readCov_agrees {κ : Kind} {sp : Space} {S : Shape} {e : EltTy} (v : View sig κ sp S e)
    (L : List (View.Piece (Elt Ideal) S e)) (G : S.Idx → Elt Ideal e) (hL : Agrees L G) (B : LoadRect S)
    (hc : ∀ j, ∃ p ∈ L, B.idx j ∈ p.1.set) : v.readCov L B = fun j => G (B.idx j) := by
  rw [View.readCov_eq_canon']
  funext j
  exact View.canon_apply_of_pieces G L hL _ (hc j)

theorem rd {κ : Kind} {sp : Space} {S : Shape} {e : EltTy} {m : Memref sig κ sp S e} (h : m.IsWhole) (X : S.Idx → Elt Ideal e)
    (B : LoadRect S) : View.readAt (Elt Ideal) m.view B (h.unread X) = fun x => X (B.idx x) :=
  funext fun _ => congrFun (h.read_unread X) _

theorem idx2 {n0 n1 m0 m1 o0 o1 : ℕ} (inb : ∀ a, (![o0, o1] : Fin 2 → ℕ) a + (![m0, m1] : Fin 2 → ℕ) a ≤ (![n0, n1] : Fin 2 → ℕ) a)
    (r : Fin m0) (l : Fin m1) (h0 : o0 + r.val < n0) (h1 : o1 + l.val < n1) :
    (Rect.unit (s := ⟨2, ![n0, n1]⟩) ![o0, o1] ![m0, m1] inb).toLoadRect.idx (ix2 r l) = ix2 ⟨o0 + r.val, h0⟩ ⟨o1 + l.val, h1⟩ := by
  funext a
  apply Fin.ext
  fin_cases a
  · show o0 + 1 * r.val = o0 + r.val
    omega
  · show o1 + 1 * l.val = o1 + l.val
    omega

theorem idx3 {n0 n1 n2 m0 m1 m2 o0 o1 o2 : ℕ}
    (inb : ∀ a, (![o0, o1, o2] : Fin 3 → ℕ) a + (![m0, m1, m2] : Fin 3 → ℕ) a ≤ (![n0, n1, n2] : Fin 3 → ℕ) a)
    (q : Fin m0) (r : Fin m1) (l : Fin m2) (h0 : o0 + q.val < n0) (h1 : o1 + r.val < n1) (h2 : o2 + l.val < n2) :
    (Rect.unit (s := ⟨3, ![n0, n1, n2]⟩) ![o0, o1, o2] ![m0, m1, m2] inb).toLoadRect.idx (ix3 q r l)
      = ix3 ⟨o0 + q.val, h0⟩ ⟨o1 + r.val, h1⟩ ⟨o2 + l.val, h2⟩ := by
  funext a
  apply Fin.ext
  fin_cases a
  · show o0 + 1 * q.val = o0 + q.val
    omega
  · show o1 + 1 * r.val = o1 + r.val
    omega
  · show o2 + 1 * l.val = o2 + l.val
    omega

theorem congr_ix2 {n0 n1 : ℕ} {a a' : Fin n0} {b b' : Fin n1} (h0 : a.val = a'.val) (h1 : b.val = b'.val) :
    (ix2 a b : (⟨2, ![n0, n1]⟩ : Shape).Idx) = ix2 a' b' := by rw [Fin.ext h0, Fin.ext h1]

theorem congr_ix3 {n0 n1 n2 : ℕ} {a a' : Fin n0} {b b' : Fin n1} {c c' : Fin n2} (h0 : a.val = a'.val) (h1 : b.val = b'.val)
    (h2 : c.val = c'.val) : (ix3 a b c : (⟨3, ![n0, n1, n2]⟩ : Shape).Idx) = ix3 a' b' c' := by
  rw [Fin.ext h0, Fin.ext h1, Fin.ext h2]

theorem rmsRow_congr {v v' g g' : Fin 1024 → EReal} {l l' : Fin 1024} (h1 : ∀ k, v k = v' k) (h2 : ∀ k, g k = g' k) (h3 : l = l') :
    rmsRow v g l = rmsRow v' g' l' := by
  obtain rfl := funext h1; obtain rfl := funext h2; rw [h3]

/-- The normalised rows of a block. -/
def hF (x0 : Vec Ideal S1x512x1024 .f32) (x1 : Vec Ideal S1x1024 .f32) : FVec Ideal S512x1024 .bf16 :=
  fun i => rmsRow (fun k => x0 (ix3 0 (i 0) k)) (fun k => x1 (ix2 0 k)) (i 1)

theorem pay4_apply (v : Vec Ideal S1x128x1024 .f32) (g : Vec Ideal S1x1024 .f32) (r : Fin 128) (l : Fin 1024) :
    k0_pay4 v g (ix2 r l) = rmsRow (fun k => v (ix3 0 r k)) (fun k => g (ix2 0 k)) l := by
  pointwise [k0_pay4, rmsRow, rmsScale]

theorem hs_piece {o : ℕ} {arg2 : Memref sig .tc .vmem S1x512x1024 .f32} {harg2 : arg2.IsWhole}
    {arg3 : Memref sig .tc .vmem S1x1024 .f32} {harg3 : arg3.IsWhole} {x0 : Vec Ideal S1x512x1024 .f32} {x1 : Vec Ideal S1x1024 .f32}
    {i2 : ∀ a, (![0, o, 0] : Fin 3 → ℕ) a + S1x128x1024.size a ≤ S1x512x1024.size a}
    {i3 : ∀ a, (![0, 0] : Fin 2 → ℕ) a + S1x1024.size a ≤ S1x1024.size a}
    {i0 : ∀ a, (![o, 0] : Fin 2 → ℕ) a + S128x1024.size a ≤ S512x1024.size a} (x : S128x1024.Idx) :
    k0_pay4 (F := Ideal) (View.readAt (Elt Ideal) arg2.view (Rect.unit (s := S1x512x1024) ![0, o, 0] S1x128x1024.size i2).toLoadRect (harg2.unread x0))
      (View.readAt (Elt Ideal) arg3.view (Rect.unit (s := S1x1024) ![0, 0] S1x1024.size i3).toLoadRect (harg3.unread x1)) x
      = hF x0 x1 ((Rect.unit (s := S512x1024) ![o, 0] S128x1024.size i0).emb x) := by
  rw [rd, rd]
  obtain ⟨r, l, rfl⟩ : ∃ (r : Fin 128) (l : Fin 1024), x = ix2 r l := ⟨x 0, x 1, eq_ix2 x⟩
  rw [pay4_apply]
  have h : o + r.val < 512 := by have := i0 0; change o + 128 ≤ 512 at this; omega
  have e : (Rect.unit (s := S512x1024) ![o, 0] S128x1024.size i0).emb (ix2 r l) = ix2 ⟨o + r.val, h⟩ ⟨0 + l.val, by omega⟩ :=
    idx2 i0 r l _ _
  rw [e]
  refine rmsRow_congr (fun k => ?_) (fun k => ?_) (Fin.ext (Nat.zero_add _).symm)
  · exact congrArg x0 ((idx3 i2 0 r k (by decide) h (by omega)).trans (congr_ix3 rfl rfl (Nat.zero_add _)))
  · exact congrArg x1 ((idx2 i3 0 k (by decide) (by omega)).trans (congr_ix2 rfl (Nat.zero_add _)))

/-- The normalised row through one column of the two-part weight. -/
def proj (x0 : Vec Ideal S1x512x1024 .f32) (x1 : Vec Ideal S1x1024 .f32) (x2 : Vec Ideal S1024x1024 .bf16) (r : Fin 512)
    (c : Fin 1024) : EReal := ∑ k : Fin 1024, hF x0 x1 (ix2 r k) * x2 (ix2 k c)

/-- The gated convolution input of one row of the block. -/
def gcol (x0 : Vec Ideal S1x512x1024 .f32) (x1 : Vec Ideal S1x1024 .f32) (x2 : Vec Ideal S1024x1024 .bf16) (r c : Fin 512) : EReal :=
  proj x0 x1 x2 r ⟨c.val, by omega⟩ * Ideal.logistic (proj x0 x1 x2 r ⟨512 + c.val, by omega⟩)

/-- The convolution's buffer: 32 rows of history, then the block's gated rows. -/
def HN (hist : S32x512.Idx → EReal) (x0 : Vec Ideal S1x512x1024 .f32) (x1 : Vec Ideal S1x1024 .f32)
    (x2 : Vec Ideal S1024x1024 .bf16) (n : ℕ) (c : Fin 512) : EReal :=
  if h : n < 32 then hist (ix2 ⟨n, h⟩ c) else if h' : n - 32 < 512 then gcol x0 x1 x2 ⟨n - 32, h'⟩ c else 0

/-- The buffer as an array, -/
def HF (H : ℕ → Fin 512 → EReal) : FVec Ideal S544x512 .f32 := fun i => H (i 0).val (i 1)

/-- and its seven copies, each moved up by one row more than the one before. -/
def SF (H : ℕ → Fin 512 → EReal) : FVec Ideal S7x544x512 .f32 := fun i => H ((i 1).val + (i 0).val + 1) (i 2)

theorem cov_unit {S : Shape} {e : EltTy} {L : List (View.Piece (Elt Ideal) S e)} {off sz : Fin S.rank → ℕ}
    {inb : ∀ a, off a + sz a ≤ S.size a} (h : (L.any fun p => holds p off sz) = true)
    (j : (Rect.unit (s := S) off sz inb).toLoadRect.shape.Idx) :
    ∃ p ∈ L, (Rect.unit (s := S) off sz inb).toLoadRect.idx j ∈ p.1.set := by
  refine mem_of_holds L off sz h _ fun a => ?_
  have hj : (j a).val < sz a := (j a).isLt
  show off a ≤ off a + 1 * (j a).val ∧ off a + 1 * (j a).val < off a + sz a
  omega

theorem pay7_apply (v : Vec Ideal S128x1024 .bf16) (w : Vec Ideal S1024x256 .bf16) (v' : Vec Ideal S128x1024 .bf16)
    (w' : Vec Ideal S1024x256 .bf16) (r : Fin 128) (d : Fin 256) : k0_pay7 v w v' w' (ix2 r d)
      = (∑ k : Fin 1024, v (ix2 r k) * w (ix2 k d)) * Ideal.logistic (∑ k : Fin 1024, v' (ix2 r k) * w' (ix2 k d)) := by
  pointwise [k0_pay7]

theorem hs_read {o : ℕ} {x0 : Vec Ideal S1x512x1024 .f32} {x1 : Vec Ideal S1x1024 .f32}
    {L : List (View.Piece (Elt Ideal) S512x1024 .bf16)} (hL : Agrees L (hF x0 x1))
    {arg12 : Memref sig .tc .vmem S512x1024 .bf16} {i0 : ∀ a, (![o, 0] : Fin 2 → ℕ) a + S128x1024.size a ≤ S512x1024.size a}
    (hc : (L.any fun p => holds p (![o, 0] : Fin 2 → ℕ) S128x1024.size) = true) (r : Fin 128) (k : Fin 1024) :
    arg12.view.readCov L (Rect.unit (s := S512x1024) ![o, 0] S128x1024.size i0).toLoadRect (ix2 r k)
      = hF x0 x1 (ix2 ⟨o + r.val, by have := i0 0; change o + 128 ≤ 512 at this; omega⟩ k) := by
  have h : o + r.val < 512 := by have := i0 0; change o + 128 ≤ 512 at this; omega
  rw [readCov_agrees arg12.view L _ hL _ (cov_unit hc)]
  exact congrArg (hF x0 x1) ((idx2 i0 r k h (by omega)).trans (congr_ix2 rfl (Nat.zero_add _)))

theorem gat_piece {o o' a b : ℕ} {hist : S32x512.Idx → EReal} {x0 : Vec Ideal S1x512x1024 .f32} {x1 : Vec Ideal S1x1024 .f32}
    {x2 : Vec Ideal S1024x1024 .bf16} {v : Vec Ideal S128x1024 .bf16} (hb : o + 128 ≤ 512)
    (hv : ∀ (r : Fin 128) (k : Fin 1024), v (ix2 r k) = hF x0 x1 (ix2 ⟨o + r.val, by omega⟩ k))
    {arg4 : Memref sig .tc .vmem S1024x1024 .bf16} {harg4 : arg4.IsWhole}
    {i4 : ∀ i, (![0, a] : Fin 2 → ℕ) i + S1024x256.size i ≤ S1024x1024.size i}
    {i4' : ∀ i, (![0, b] : Fin 2 → ℕ) i + S1024x256.size i ≤ S1024x1024.size i}
    {i0 : ∀ i, (![o', a] : Fin 2 → ℕ) i + S128x256.size i ≤ S544x512.size i} (ho : o' = 32 + o) (hab : b = 512 + a) (x : S128x256.Idx) :
    k0_pay7 (F := Ideal) v (View.readAt (Elt Ideal) arg4.view (Rect.unit (s := S1024x1024) ![0, a] S1024x256.size i4).toLoadRect (harg4.unread x2))
      v (View.readAt (Elt Ideal) arg4.view (Rect.unit (s := S1024x1024) ![0, b] S1024x256.size i4').toLoadRect (harg4.unread x2)) x
      = HF (HN hist x0 x1 x2) ((Rect.unit (s := S544x512) ![o', a] S128x256.size i0).emb x) := by
  subst ho hab
  rw [rd, rd]
  obtain ⟨r, d, rfl⟩ : ∃ (r : Fin 128) (d : Fin 256), x = ix2 r d := ⟨x 0, x 1, eq_ix2 x⟩
  have ha : a + 256 ≤ 512 := i0 1
  have e : (Rect.unit (s := S544x512) ![32 + o, a] S128x256.size i0).emb (ix2 r d) = ix2 ⟨32 + o + r.val, by omega⟩ ⟨a + d.val, by omega⟩ :=
    idx2 i0 r d _ _
  rw [pay7_apply, e]
  have e2 : HF (HN hist x0 x1 x2) (ix2 ⟨32 + o + r.val, by omega⟩ ⟨a + d.val, by omega⟩)
      = gcol x0 x1 x2 ⟨o + r.val, by omega⟩ ⟨a + d.val, by omega⟩ := by
    show HN hist x0 x1 x2 (32 + o + r.val) _ = _
    unfold HN
    rw [dif_neg (by omega), dif_pos (by omega)]
    exact congrArg (fun q => gcol x0 x1 x2 q _) (Fin.ext (by show 32 + o + r.val - 32 = o + r.val; omega))
  rw [e2]
  unfold gcol proj
  simp only [hv]
  refine congrArg₂ (fun p q => p * Ideal.logistic q) ?_ ?_
  · refine Finset.sum_congr rfl fun k _ => congrArg (fun q => _ * x2 q) ?_
    exact (idx2 i4 k d (by omega) (by omega)).trans (congr_ix2 (Nat.zero_add _) rfl)
  · refine Finset.sum_congr rfl fun k _ => congrArg (fun q => _ * x2 q) ?_
    exact (idx2 i4' k d (by omega) (by omega)).trans (congr_ix2 (Nat.zero_add _) (Nat.add_assoc _ _ _))

/-- Whether the first `8 Q` rows of the buffer are written, -/
def cov1 (L : List (View.Piece (Elt Ideal) S544x512 .f32)) (Q : ℕ) : Bool :=
  (List.range Q).all fun q => (L.any fun p => holds p (![8 * q, 0] : Fin 2 → ℕ) ![8, 256])
    && L.any fun p => holds p (![8 * q, 256] : Fin 2 → ℕ) ![8, 256]

/-- and of its seven copies. -/
def cov2 (L : List (View.Piece (Elt Ideal) S7x544x512 .f32)) (Q : ℕ) : Bool :=
  (List.range 7).all fun r => (List.range Q).all fun q => L.any fun p => holds p (![r, 8 * q, 0] : Fin 3 → ℕ) ![1, 8, 512]

theorem mem_cov1 {L : List (View.Piece (Elt Ideal) S544x512 .f32)} {Q : ℕ} (h : cov1 L Q = true) (y : S544x512.Idx)
    (hy : (y 0).val < 8 * Q) : ∃ p ∈ L, y ∈ p.1.set := by
  have h1 := List.all_eq_true.1 h ((y 0).val / 8) (List.mem_range.2 (by omega))
  rw [Bool.and_eq_true] at h1
  have hy1 : (y 1).val < 512 := (y 1).isLt
  by_cases hc : (y 1).val < 256
  · refine mem_of_holds L _ _ h1.1 y fun a => ?_
    fin_cases a
    · show 8 * ((y 0).val / 8) ≤ (y 0).val ∧ (y 0).val < 8 * ((y 0).val / 8) + 8
      omega
    · show 0 ≤ (y 1).val ∧ (y 1).val < 0 + 256
      omega
  · refine mem_of_holds L _ _ h1.2 y fun a => ?_
    fin_cases a
    · show 8 * ((y 0).val / 8) ≤ (y 0).val ∧ (y 0).val < 8 * ((y 0).val / 8) + 8
      omega
    · show 256 ≤ (y 1).val ∧ (y 1).val < 256 + 256
      omega

theorem mem_cov2 {L : List (View.Piece (Elt Ideal) S7x544x512 .f32)} {Q : ℕ} (h : cov2 L Q = true) (y : S7x544x512.Idx)
    (hy : (y 1).val < 8 * Q) : ∃ p ∈ L, y ∈ p.1.set := by
  have hy0 : (y 0).val < 7 := (y 0).isLt
  have hy2 : (y 2).val < 512 := (y 2).isLt
  have h0 := List.all_eq_true.1 h (y 0).val (List.mem_range.2 hy0)
  have h1 := List.all_eq_true.1 h0 ((y 1).val / 8) (List.mem_range.2 (by omega))
  refine mem_of_holds L _ _ h1 y fun a => ?_
  fin_cases a
  · show (y 0).val ≤ (y 0).val ∧ (y 0).val < (y 0).val + 1
    omega
  · show 8 * ((y 1).val / 8) ≤ (y 1).val ∧ (y 1).val < 8 * ((y 1).val / 8) + 8
    omega
  · show 0 ≤ (y 2).val ∧ (y 2).val < 0 + 512
    omega

theorem h1_read {o m : ℕ} {H : ℕ → Fin 512 → EReal} {L : List (View.Piece (Elt Ideal) S544x512 .f32)} (hL : Agrees L (HF H))
    {Q : ℕ} (hc : cov1 L Q = true) {arg13 : Memref sig .tc .vmem S544x512 .f32}
    {i0 : ∀ a, (![o, 0] : Fin 2 → ℕ) a + (![m, 512] : Fin 2 → ℕ) a ≤ S544x512.size a} (ho : o + m ≤ 8 * Q) (s : Fin m) (c : Fin 512) :
    arg13.view.readCov L (Rect.unit (s := S544x512) ![o, 0] ![m, 512] i0).toLoadRect (ix2 s c) = H (o + s.val) c := by
  rw [readCov_agrees arg13.view L _ hL _ fun j => mem_cov1 hc _ ?_]
  · have h : o + s.val < 544 := by have := i0 0; change o + m ≤ 544 at this; omega
    exact congrArg (HF H) ((idx2 i0 s c h (by omega)).trans (congr_ix2 rfl (Nat.zero_add _)))
  · have hj : (j 0).val < m := (j 0).isLt
    show o + 1 * (j 0).val < 8 * Q
    omega

theorem h2_read {q o : ℕ} {H : ℕ → Fin 512 → EReal} {L : List (View.Piece (Elt Ideal) S7x544x512 .f32)} (hL : Agrees L (SF H))
    {Q : ℕ} (hc : cov2 L Q = true) {arg14 : Memref sig .tc .vmem S7x544x512 .f32}
    {i0 : ∀ a, (![q, o, 0] : Fin 3 → ℕ) a + S1x32x512.size a ≤ S7x544x512.size a} (ho : o + 32 ≤ 8 * Q) (s : Fin 32) (c : Fin 512) :
    arg14.view.readCov L (Rect.unit (s := S7x544x512) ![q, o, 0] S1x32x512.size i0).toLoadRect (ix3 0 s c) = H (o + s.val + q + 1) c := by
  rw [readCov_agrees arg14.view L _ hL _ fun j => mem_cov2 hc _ ?_]
  · have h : o + s.val < 544 := by have := i0 1; change o + 32 ≤ 544 at this; omega
    have h0 : q + (0 : Fin 1).val < 7 := by have := i0 0; change q + 1 ≤ 7 at this; simp; omega
    exact congrArg (SF H) ((idx3 i0 0 s c h0 h (by omega)).trans (congr_ix3 rfl rfl (Nat.zero_add _)))
  · have hj : (j 1).val < 32 := (j 1).isLt
    show o + 1 * (j 1).val < 8 * Q
    omega

theorem pay17_apply (v : Vec Ideal S32x512 .f32) (s : Fin 32) (c : Fin 512) : k0_pay17 v (ix3 0 s c) = v (ix2 s c) := by
  pointwise [k0_pay17]

theorem pay51_apply (v : Vec Ideal S24x512 .f32) (s : Fin 24) (c : Fin 512) : k0_pay51 v (ix3 0 s c) = v (ix2 s c) := by
  pointwise [k0_pay51]

/-- A piece of 32 rows of a moved copy, -/
theorem sh_piece {q b o : ℕ} {H : ℕ → Fin 512 → EReal} {L : List (View.Piece (Elt Ideal) S544x512 .f32)} (hL : Agrees L (HF H))
    {Q : ℕ} (hc : cov1 L Q = true) {arg13 : Memref sig .tc .vmem S544x512 .f32}
    {i0 : ∀ a, (![o, 0] : Fin 2 → ℕ) a + S32x512.size a ≤ S544x512.size a}
    {i1 : ∀ a, (![q, b, 0] : Fin 3 → ℕ) a + S1x32x512.size a ≤ S7x544x512.size a} (hb : o + 32 ≤ 8 * Q) (ho : o = b + q + 1)
    (x : S1x32x512.Idx) :
    k0_pay17 (F := Ideal) (arg13.view.readCov L (Rect.unit (s := S544x512) ![o, 0] S32x512.size i0).toLoadRect) x
      = SF H ((Rect.unit (s := S7x544x512) ![q, b, 0] S1x32x512.size i1).emb x) := by
  obtain ⟨z, s, c, rfl⟩ : ∃ (z : Fin 1) (s : Fin 32) (c : Fin 512), x = ix3 z s c := ⟨x 0, x 1, x 2, eq_ix3 x⟩
  obtain rfl : z = 0 := Subsingleton.elim _ _
  have h : b + s.val < 544 := by have := i1 1; change b + 32 ≤ 544 at this; omega
  have h0 : q + (0 : Fin 1).val < 7 := by have := i1 0; change q + 1 ≤ 7 at this; simp; omega
  have e : (Rect.unit (s := S7x544x512) ![q, b, 0] S1x32x512.size i1).emb (ix3 0 s c)
      = ix3 ⟨q + (0 : Fin 1).val, h0⟩ ⟨b + s.val, h⟩ ⟨0 + c.val, by omega⟩ := idx3 i1 0 s c _ _ _
  rw [pay17_apply, e]
  refine (h1_read hL hc (i0 := i0) hb s c).trans ?_
  subst ho
  show H _ _ = H _ _
  exact congrArg₂ H (by show b + q + 1 + s.val = b + s.val + (q + 0) + 1; omega) (Fin.ext (Nat.zero_add _).symm)

/-- and of 24 rows. -/
theorem sh_piece' {q b o : ℕ} {H : ℕ → Fin 512 → EReal} {L : List (View.Piece (Elt Ideal) S544x512 .f32)} (hL : Agrees L (HF H))
    {Q : ℕ} (hc : cov1 L Q = true) {arg13 : Memref sig .tc .vmem S544x512 .f32}
    {i0 : ∀ a, (![o, 0] : Fin 2 → ℕ) a + S24x512.size a ≤ S544x512.size a}
    {i1 : ∀ a, (![q, b, 0] : Fin 3 → ℕ) a + S1x24x512.size a ≤ S7x544x512.size a} (hb : o + 24 ≤ 8 * Q) (ho : o = b + q + 1)
    (x : S1x24x512.Idx) :
    k0_pay51 (F := Ideal) (arg13.view.readCov L (Rect.unit (s := S544x512) ![o, 0] S24x512.size i0).toLoadRect) x
      = SF H ((Rect.unit (s := S7x544x512) ![q, b, 0] S1x24x512.size i1).emb x) := by
  obtain ⟨z, s, c, rfl⟩ : ∃ (z : Fin 1) (s : Fin 24) (c : Fin 512), x = ix3 z s c := ⟨x 0, x 1, x 2, eq_ix3 x⟩
  obtain rfl : z = 0 := Subsingleton.elim _ _
  have h : b + s.val < 544 := by have := i1 1; change b + 24 ≤ 544 at this; omega
  have h0 : q + (0 : Fin 1).val < 7 := by have := i1 0; change q + 1 ≤ 7 at this; simp; omega
  have e : (Rect.unit (s := S7x544x512) ![q, b, 0] S1x24x512.size i1).emb (ix3 0 s c)
      = ix3 ⟨q + (0 : Fin 1).val, h0⟩ ⟨b + s.val, h⟩ ⟨0 + c.val, by omega⟩ := idx3 i1 0 s c _ _ _
  rw [pay51_apply, e]
  refine (h1_read hL hc (i0 := i0) hb s c).trans ?_
  subst ho
  show H _ _ = H _ _
  exact congrArg₂ H (by show b + q + 1 + s.val = b + s.val + (q + 0) + 1; omega) (Fin.ext (Nat.zero_add _).symm)

/-- A sequence starts with a history of zeros. -/
theorem zero_piece {x0 : Vec Ideal S1x512x1024 .f32} {x1 : Vec Ideal S1x1024 .f32} {x2 : Vec Ideal S1024x1024 .bf16}
    {i0 : ∀ a, (![0, 0] : Fin 2 → ℕ) a + S32x512.size a ≤ S544x512.size a} (x : S32x512.Idx) :
    k0_pay2 (F := Ideal) x = HF (HN (fun _ => 0) x0 x1 x2) ((Rect.unit (s := S544x512) ![0, 0] S32x512.size i0).emb x) := by
  obtain ⟨r, l, rfl⟩ : ∃ (r : Fin 32) (l : Fin 512), x = ix2 r l := ⟨x 0, x 1, eq_ix2 x⟩
  have e : (Rect.unit (s := S544x512) ![0, 0] S32x512.size i0).emb (ix2 r l) = ix2 ⟨0 + r.val, by omega⟩ ⟨0 + l.val, by omega⟩ :=
    idx2 i0 r l _ _
  rw [e]
  have e2 : HF (HN (fun _ => 0) x0 x1 x2) (ix2 ⟨0 + r.val, by omega⟩ ⟨0 + l.val, by omega⟩) = 0 := by
    show HN _ x0 x1 x2 (0 + r.val) _ = 0
    unfold HN
    rw [dif_pos (by omega)]
  rw [e2]
  pointwise [k0_pay2]

/-- The last 32 rows of a buffer. -/
def hist (xs1 : Vec Ideal S544x512 .f32) : S32x512.Idx → EReal := fun i =>
  xs1 (ix2 ⟨512 + (i 0).val, by have := (i 0).isLt; change _ < 32 at this; omega⟩ (i 1))

theorem pay3_apply (v : Vec Ideal S32x512 .f32) (r : Fin 32) (l : Fin 512) : k0_pay3 v (ix2 r l) = v (ix2 r l) := by
  pointwise [k0_pay3]

/-- Later blocks start with the last rows of the block before. -/
theorem carry_piece {x0 : Vec Ideal S1x512x1024 .f32} {x1 : Vec Ideal S1x1024 .f32} {x2 : Vec Ideal S1024x1024 .bf16}
    {xs1 : Vec Ideal S544x512 .f32} {arg13 : Memref sig .tc .vmem S544x512 .f32} {harg13 : arg13.IsWhole}
    {i1 : ∀ a, (![512, 0] : Fin 2 → ℕ) a + S32x512.size a ≤ S544x512.size a}
    {i0 : ∀ a, (![0, 0] : Fin 2 → ℕ) a + S32x512.size a ≤ S544x512.size a} (x : S32x512.Idx) :
    k0_pay3 (F := Ideal) (View.readAt (Elt Ideal) arg13.view (Rect.unit (s := S544x512) ![512, 0] S32x512.size i1).toLoadRect (harg13.unread xs1)) x
      = HF (HN (hist xs1) x0 x1 x2) ((Rect.unit (s := S544x512) ![0, 0] S32x512.size i0).emb x) := by
  rw [rd]
  obtain ⟨r, l, rfl⟩ : ∃ (r : Fin 32) (l : Fin 512), x = ix2 r l := ⟨x 0, x 1, eq_ix2 x⟩
  have e : (Rect.unit (s := S544x512) ![0, 0] S32x512.size i0).emb (ix2 r l) = ix2 ⟨0 + r.val, by omega⟩ ⟨0 + l.val, by omega⟩ :=
    idx2 i0 r l _ _
  rw [e, pay3_apply]
  have e2 : HF (HN (hist xs1) x0 x1 x2) (ix2 ⟨0 + r.val, by omega⟩ ⟨0 + l.val, by omega⟩)
      = hist xs1 (ix2 ⟨0 + r.val, by omega⟩ ⟨0 + l.val, by omega⟩) := by
    show HN _ x0 x1 x2 (0 + r.val) _ = _
    unfold HN
    rw [dif_pos (by omega)]
    rfl
  rw [e2]
  exact congrArg xs1 ((idx2 i1 r l (by omega) (by omega)).trans (congr_ix2 (by show 512 + r.val = 512 + (0 + r.val); omega) rfl))

end Cert.ConvIdeal.Pay
end
-- ==== Proof.ConvOut.lean ====
/-
  Hand-written, untrusted. The convolution kernel's two output blocks, one piece at a time.
-/
module

public import proofs.«01_k».proof.Proof.ConvPay

@[expose] public section

set_option maxRecDepth 16384

noncomputable section

namespace Cert.ConvIdeal.Pay

open Idealize.ShloMosaic Idealize.ShloMosaic.TcCoe Idealize.ShloMosaic.Tactic Idealize.SL.Sem
open Cert.ConvIdeal Cert.ConvIdeal.Gen Cert.RowSpec

/-- The second output's block: the normalised rows through the weight's further columns. -/
def PRF (x0 : Vec Ideal S1x512x1024 .f32) (x1 : Vec Ideal S1x1024 .f32) (x3 : Vec Ideal S1024x1920 .bf16) :
    FVec Ideal S1x512x1920 .bf16 := fun i => ∑ k : Fin 1024, hF x0 x1 (ix2 (i 1) k) * x3 (ix2 k (i 2))

theorem pay8_apply (v : Vec Ideal S128x1024 .bf16) (w : Vec Ideal S1024x256 .bf16) (r : Fin 128) (d : Fin 256) :
    k0_pay8 v w (ix3 0 r d) = ∑ k : Fin 1024, v (ix2 r k) * w (ix2 k d) := by
  pointwise [k0_pay8]

theorem pay16_apply (v : Vec Ideal S128x1024 .bf16) (w : Vec Ideal S1024x128 .bf16) (r : Fin 128) (d : Fin 128) :
    k0_pay16 v w (ix3 0 r d) = ∑ k : Fin 1024, v (ix2 r k) * w (ix2 k d) := by
  pointwise [k0_pay16]

theorem pr_piece {o a : ℕ} {x0 : Vec Ideal S1x512x1024 .f32} {x1 : Vec Ideal S1x1024 .f32} {x3 : Vec Ideal S1024x1920 .bf16}
    {v : Vec Ideal S128x1024 .bf16} (hb : o + 128 ≤ 512)
    (hv : ∀ (r : Fin 128) (k : Fin 1024), v (ix2 r k) = hF x0 x1 (ix2 ⟨o + r.val, by omega⟩ k))
    {arg5 : Memref sig .tc .vmem S1024x1920 .bf16} {harg5 : arg5.IsWhole}
    {i5 : ∀ i, (![0, a] : Fin 2 → ℕ) i + S1024x256.size i ≤ S1024x1920.size i}
    {i0 : ∀ i, (![0, o, a] : Fin 3 → ℕ) i + S1x128x256.size i ≤ S1x512x1920.size i} (x : S1x128x256.Idx) :
    k0_pay8 (F := Ideal) v (View.readAt (Elt Ideal) arg5.view (Rect.unit (s := S1024x1920) ![0, a] S1024x256.size i5).toLoadRect (harg5.unread x3)) x
      = PRF x0 x1 x3 ((Rect.unit (s := S1x512x1920) ![0, o, a] S1x128x256.size i0).emb x) := by
  rw [rd]
  obtain ⟨z, r, d, rfl⟩ : ∃ (z : Fin 1) (r : Fin 128) (d : Fin 256), x = ix3 z r d := ⟨x 0, x 1, x 2, eq_ix3 x⟩
  obtain rfl : z = 0 := Subsingleton.elim _ _
  have ha : a + 256 ≤ 1920 := i0 2
  have e : (Rect.unit (s := S1x512x1920) ![0, o, a] S1x128x256.size i0).emb (ix3 0 r d)
      = ix3 ⟨0 + (0 : Fin 1).val, by decide⟩ ⟨o + r.val, by omega⟩ ⟨a + d.val, by omega⟩ := idx3 i0 0 r d _ _ _
  rw [pay8_apply, e]
  simp only [hv]
  refine Finset.sum_congr rfl fun k _ => congrArg (fun q => _ * x3 q) ?_
  exact (idx2 i5 k d (by omega) (by omega)).trans (congr_ix2 (Nat.zero_add _) rfl)

theorem pr_piece' {o a : ℕ} {x0 : Vec Ideal S1x512x1024 .f32} {x1 : Vec Ideal S1x1024 .f32} {x3 : Vec Ideal S1024x1920 .bf16}
    {v : Vec Ideal S128x1024 .bf16} (hb : o + 128 ≤ 512)
    (hv : ∀ (r : Fin 128) (k : Fin 1024), v (ix2 r k) = hF x0 x1 (ix2 ⟨o + r.val, by omega⟩ k))
    {arg5 : Memref sig .tc .vmem S1024x1920 .bf16} {harg5 : arg5.IsWhole}
    {i5 : ∀ i, (![0, a] : Fin 2 → ℕ) i + S1024x128.size i ≤ S1024x1920.size i}
    {i0 : ∀ i, (![0, o, a] : Fin 3 → ℕ) i + S1x128x128.size i ≤ S1x512x1920.size i} (x : S1x128x128.Idx) :
    k0_pay16 (F := Ideal) v (View.readAt (Elt Ideal) arg5.view (Rect.unit (s := S1024x1920) ![0, a] S1024x128.size i5).toLoadRect (harg5.unread x3)) x
      = PRF x0 x1 x3 ((Rect.unit (s := S1x512x1920) ![0, o, a] S1x128x128.size i0).emb x) := by
  rw [rd]
  obtain ⟨z, r, d, rfl⟩ : ∃ (z : Fin 1) (r d : Fin 128), x = ix3 z r d := ⟨x 0, x 1, x 2, eq_ix3 x⟩
  obtain rfl : z = 0 := Subsingleton.elim _ _
  have ha : a + 128 ≤ 1920 := i0 2
  have e : (Rect.unit (s := S1x512x1920) ![0, o, a] S1x128x128.size i0).emb (ix3 0 r d)
      = ix3 ⟨0 + (0 : Fin 1).val, by decide⟩ ⟨o + r.val, by omega⟩ ⟨a + d.val, by omega⟩ := idx3 i0 0 r d _ _ _
  rw [pay16_apply, e]
  simp only [hv]
  refine Finset.sum_congr rfl fun k _ => congrArg (fun q => _ * x3 q) ?_
  exact (idx2 i5 k d (by omega) (by omega)).trans (congr_ix2 (Nat.zero_add _) rfl)

/-- The mean of a row of 512 values. -/
def mean512 (u : Fin 512 → EReal) : EReal := Ideal.div (∑ k, u k) (Ideal.ofBits .f32 0x44000000#32)

/-- A row's layer normalisation with gain and bias. -/
def lnRow (u lg lb : Fin 512 → EReal) (c : Fin 512) : EReal :=
  (u c - mean512 u) * Ideal.rsqrt (mean512 (fun k => (u k - mean512 u) * (u k - mean512 u)) + Ideal.ofBits .f32 0x3727C5AC#32)
    * lg c + lb c

/-- Layer normalisation followed by `y · σ(y)`. -/
def lnSilu (u lg lb : Fin 512 → EReal) (c : Fin 512) : EReal := lnRow u lg lb c * Ideal.logistic (lnRow u lg lb c)

/-- The first `n` taps of the causal convolution at row `t`, started from the bias: tap `j` reads buffer row `t + 2 + j`. -/
def taps (H : ℕ → Fin 512 → EReal) (x4 : Vec Ideal S31x512 .f32) (x5 : Vec Ideal S1x512 .f32) : ℕ → ℕ → Fin 512 → EReal
  | 0, _, c => x5 (ix2 0 c)
  | n + 1, t, c => taps H x4 x5 n t c + H (t + 2 + n) c * (if h : n < 31 then x4 (ix2 ⟨n, h⟩ c) else 0)

/-- The running block of 32 rows from row `o` after `n` taps. -/
def IsAcc (H : ℕ → Fin 512 → EReal) (x4 : Vec Ideal S31x512 .f32) (x5 : Vec Ideal S1x512 .f32) (o : ℕ)
    (acc : FVec Ideal S32x512 .f32) (n : ℕ) : Prop :=
  ∀ (s : Fin 32) (c : Fin 512), acc (ix2 s c) = taps H x4 x5 n (o + s.val) c

theorem bias_apply (v : Vec Ideal S1x512 .f32) (s : Fin 32) (c : Fin 512) :
    (broadcastTo S32x512 (shapeCast S1x512 (shapeCast S1x512 v shapeCasts_S1x512_S1x512 : FVec Ideal S1x512 .f32) shapeCasts_S1x512_S1x512)
      broadcasts_S1x512_S32x512 : FVec Ideal S32x512 .f32) (ix2 s c) = v (ix2 0 c) := by
  pointwise

theorem isAcc_zero {H : ℕ → Fin 512 → EReal} {x4 : Vec Ideal S31x512 .f32} {x5 : Vec Ideal S1x512 .f32} {o : ℕ}
    {arg7 : Memref sig .tc .vmem S1x512 .f32} {harg7 : arg7.IsWhole}
    {i7 : ∀ a, (![0, 0] : Fin 2 → ℕ) a + S1x512.size a ≤ S1x512.size a} :
    IsAcc H x4 x5 o (broadcastTo S32x512 (shapeCast S1x512 (shapeCast S1x512
      (View.readAt (Elt Ideal) arg7.view (Rect.unit (s := S1x512) ![0, 0] S1x512.size i7).toLoadRect (harg7.unread x5))
      shapeCasts_S1x512_S1x512 : FVec Ideal S1x512 .f32) shapeCasts_S1x512_S1x512) broadcasts_S1x512_S32x512) 0 := by
  intro s c
  rw [rd]
  refine (bias_apply _ s c).trans ?_
  exact congrArg x5 ((idx2 i7 0 c (by decide) (by omega)).trans (congr_ix2 rfl (Nat.zero_add _)))

theorem step_apply (acc : FVec Ideal S32x512 .f32) (t : Vec Ideal S32x512 .f32) (w : Vec Ideal S1x512 .f32) (s : Fin 32) (c : Fin 512) :
    (addf acc (mulf t (broadcastTo S32x512 w broadcasts_S1x512_S32x512)) : FVec Ideal S32x512 .f32) (ix2 s c)
      = acc (ix2 s c) + t (ix2 s c) * w (ix2 0 c) := by
  pointwise

theorem cast_apply (v : Vec Ideal S1x32x512 .f32) (s : Fin 32) (c : Fin 512) :
    (shapeCast S32x512 v shapeCasts_S1x32x512_S32x512 : Vec Ideal S32x512 .f32) (ix2 s c) = v (ix3 0 s c) := by
  pointwise

theorem weight_read {n : ℕ} (hn : n < 31) {x4 : Vec Ideal S31x512 .f32} {arg6 : Memref sig .tc .vmem S31x512 .f32} {harg6 : arg6.IsWhole}
    {i6 : ∀ a, (![n, 0] : Fin 2 → ℕ) a + S1x512.size a ≤ S31x512.size a} (c : Fin 512) :
    View.readAt (Elt Ideal) arg6.view (Rect.unit (s := S31x512) ![n, 0] S1x512.size i6).toLoadRect (harg6.unread x4) (ix2 0 c)
      = if h : n < 31 then x4 (ix2 ⟨n, h⟩ c) else 0 := by
  rw [dif_pos hn, rd]
  exact congrArg x4 ((idx2 i6 0 c (by simpa using hn) (by omega)).trans (congr_ix2 rfl (Nat.zero_add _)))

/-- A tap read from a moved copy, -/
theorem tap_sh {n o q b : ℕ} {H : ℕ → Fin 512 → EReal} {x4 : Vec Ideal S31x512 .f32} {x5 : Vec Ideal S1x512 .f32}
    {L : List (View.Piece (Elt Ideal) S7x544x512 .f32)} (hL : Agrees L (SF H)) {Q : ℕ} (hc : cov2 L Q = true)
    (hb : b + 32 ≤ 8 * Q) (ho : b + q + 1 = o + 2 + n) (hn : n < 31)
    {arg14 : Memref sig .tc .vmem S7x544x512 .f32} {arg6 : Memref sig .tc .vmem S31x512 .f32} {harg6 : arg6.IsWhole}
    {i0 : ∀ a, (![q, b, 0] : Fin 3 → ℕ) a + S1x32x512.size a ≤ S7x544x512.size a}
    {i6 : ∀ a, (![n, 0] : Fin 2 → ℕ) a + S1x512.size a ≤ S31x512.size a}
    {acc : FVec Ideal S32x512 .f32} (h : IsAcc H x4 x5 o acc n) :
    IsAcc H x4 x5 o (addf acc (mulf (shapeCast S32x512
        (arg14.view.readCov L (Rect.unit (s := S7x544x512) ![q, b, 0] S1x32x512.size i0).toLoadRect) shapeCasts_S1x32x512_S32x512)
      (broadcastTo S32x512 (View.readAt (Elt Ideal) arg6.view (Rect.unit (s := S31x512) ![n, 0] S1x512.size i6).toLoadRect (harg6.unread x4))
        broadcasts_S1x512_S32x512))) (n + 1) := by
  intro s c
  refine (step_apply _ _ _ s c).trans ?_
  rw [h s c]
  refine congrArg₂ (fun p r => _ + p * r) ?_ (weight_read hn c)
  refine (cast_apply _ s c).trans ((h2_read hL hc (i0 := i0) hb s c).trans ?_)
  exact congrArg (fun k => H k c) (by omega)

/-- and a tap read from the buffer itself. -/
theorem tap_hb {n o b : ℕ} {H : ℕ → Fin 512 → EReal} {x4 : Vec Ideal S31x512 .f32} {x5 : Vec Ideal S1x512 .f32}
    {L : List (View.Piece (Elt Ideal) S544x512 .f32)} (hL : Agrees L (HF H)) {Q : ℕ} (hc : cov1 L Q = true)
    (hb : b + 32 ≤ 8 * Q) (ho : b = o + 2 + n) (hn : n < 31)
    {arg13 : Memref sig .tc .vmem S544x512 .f32} {arg6 : Memref sig .tc .vmem S31x512 .f32} {harg6 : arg6.IsWhole}
    {i0 : ∀ a, (![b, 0] : Fin 2 → ℕ) a + S32x512.size a ≤ S544x512.size a}
    {i6 : ∀ a, (![n, 0] : Fin 2 → ℕ) a + S1x512.size a ≤ S31x512.size a}
    {acc : FVec Ideal S32x512 .f32} (h : IsAcc H x4 x5 o acc n) :
    IsAcc H x4 x5 o (addf acc (mulf
        (arg13.view.readCov L (Rect.unit (s := S544x512) ![b, 0] S32x512.size i0).toLoadRect)
      (broadcastTo S32x512 (View.readAt (Elt Ideal) arg6.view (Rect.unit (s := S31x512) ![n, 0] S1x512.size i6).toLoadRect (harg6.unread x4))
        broadcasts_S1x512_S32x512))) (n + 1) := by
  intro s c
  refine (step_apply _ _ _ s c).trans ?_
  rw [h s c]
  refine congrArg₂ (fun p r => _ + p * r) ?_ (weight_read hn c)
  refine (h1_read hL hc (i0 := i0) hb s c).trans ?_
  exact congrArg (fun k => H k c) (by omega)

/-- A block of 32 rows less its row means, -/
def cen (acc : FVec Ideal S32x512 .f32) : FVec Ideal S32x512 .f32 :=
  subf acc (broadcastTo S32x512 (divf (shapeCast S32x1 (multiReduction .add [1] S32 acc 0x00000000#32 reduces_S32x512_S32 (.inl rfl) rfl)
    shapeCasts_S32_S32x1) (broadcast S32x1 (Scalar.ofBits .f32 0x44000000#32))) broadcasts_S32x1_S32x512)

/-- scaled, with gain and bias, -/
def lnV (d : FVec Ideal S32x512 .f32) (lg lb : Vec Ideal S1x512 .f32) : FVec Ideal S32x512 .f32 :=
  addf (mulf (mulf d (broadcastTo S32x512 (rsqrt (addf (divf (shapeCast S32x1 (multiReduction .add [1] S32 (mulf d d) 0x00000000#32
      reduces_S32x512_S32 (.inl rfl) rfl) shapeCasts_S32_S32x1) (broadcast S32x1 (Scalar.ofBits .f32 0x44000000#32)))
      (broadcast S32x1 (Scalar.ofBits .f32 0x3727C5AC#32)))) broadcasts_S32x1_S32x512))
    (broadcastTo S32x512 (shapeCast S1x512 lg shapeCasts_S1x512_S1x512) broadcasts_S1x512_S32x512))
    (broadcastTo S32x512 (shapeCast S1x512 lb shapeCasts_S1x512_S1x512) broadcasts_S1x512_S32x512)

/-- and gated by itself. -/
def outV (y : FVec Ideal S32x512 .f32) : FVec Ideal S1x32x512 .bf16 :=
  shapeCast S1x32x512 (truncf .bf16 (mulf y (logistic y)) bitsLt_bf16_f32) shapeCasts_S32x512_S1x32x512

theorem cen_apply (acc : FVec Ideal S32x512 .f32) (s : Fin 32) (c : Fin 512) :
    cen acc (ix2 s c) = acc (ix2 s c) - mean512 fun k => acc (ix2 s k) := by
  pointwise [cen, mean512]

theorem lnV_apply (d : FVec Ideal S32x512 .f32) (lg lb : Vec Ideal S1x512 .f32) (s : Fin 32) (c : Fin 512) :
    lnV d lg lb (ix2 s c) = d (ix2 s c) * Ideal.rsqrt (mean512 (fun k => d (ix2 s k) * d (ix2 s k)) + Ideal.ofBits .f32 0x3727C5AC#32)
      * lg (ix2 0 c) + lb (ix2 0 c) := by
  pointwise [lnV, mean512]

theorem outV_apply (y : FVec Ideal S32x512 .f32) (s : Fin 32) (c : Fin 512) :
    outV y (ix3 0 s c) = y (ix2 s c) * Ideal.logistic (y (ix2 s c)) := by
  pointwise [outV]

/-- The first output's block. -/
def OF (H : ℕ → Fin 512 → EReal) (x4 : Vec Ideal S31x512 .f32) (x5 x6 x7 : Vec Ideal S1x512 .f32) : FVec Ideal S1x512x512 .bf16 :=
  fun i => lnSilu (taps H x4 x5 31 (i 1).val) (fun k => x6 (ix2 0 k)) (fun k => x7 (ix2 0 k)) (i 2)

theorem out_piece {o : ℕ} {H : ℕ → Fin 512 → EReal} {x4 : Vec Ideal S31x512 .f32} {x5 x6 x7 : Vec Ideal S1x512 .f32}
    {arg8 : Memref sig .tc .vmem S1x512 .f32} {harg8 : arg8.IsWhole} {arg9 : Memref sig .tc .vmem S1x512 .f32} {harg9 : arg9.IsWhole}
    {i8 : ∀ a, (![0, 0] : Fin 2 → ℕ) a + S1x512.size a ≤ S1x512.size a}
    {i9 : ∀ a, (![0, 0] : Fin 2 → ℕ) a + S1x512.size a ≤ S1x512.size a}
    {i0 : ∀ a, (![0, o, 0] : Fin 3 → ℕ) a + S1x32x512.size a ≤ S1x512x512.size a}
    {acc : FVec Ideal S32x512 .f32} (h : IsAcc H x4 x5 o acc 31) (x : S1x32x512.Idx) :
    outV (lnV (cen acc)
      (View.readAt (Elt Ideal) arg8.view (Rect.unit (s := S1x512) ![0, 0] S1x512.size i8).toLoadRect (harg8.unread x6))
      (View.readAt (Elt Ideal) arg9.view (Rect.unit (s := S1x512) ![0, 0] S1x512.size i9).toLoadRect (harg9.unread x7))) x
      = OF H x4 x5 x6 x7 ((Rect.unit (s := S1x512x512) ![0, o, 0] S1x32x512.size i0).emb x) := by
  rw [rd, rd]
  obtain ⟨z, s, c, rfl⟩ : ∃ (z : Fin 1) (s : Fin 32) (c : Fin 512), x = ix3 z s c := ⟨x 0, x 1, x 2, eq_ix3 x⟩
  obtain rfl : z = 0 := Subsingleton.elim _ _
  have hb : o + 32 ≤ 512 := i0 1
  have e : (Rect.unit (s := S1x512x512) ![0, o, 0] S1x32x512.size i0).emb (ix3 0 s c)
      = ix3 0 ⟨o + s.val, by omega⟩ c :=
    (idx3 i0 0 s c (by decide) (by omega) (by omega)).trans (congr_ix3 rfl rfl (Nat.zero_add _))
  have e8 : ∀ k : Fin 512, x6 ((Rect.unit (s := S1x512) ![0, 0] S1x512.size i8).toLoadRect.idx (ix2 0 k)) = x6 (ix2 0 k) := fun k =>
    congrArg x6 ((idx2 i8 0 k (by decide) (by omega)).trans (congr_ix2 rfl (Nat.zero_add _)))
  have e9 : ∀ k : Fin 512, x7 ((Rect.unit (s := S1x512) ![0, 0] S1x512.size i9).toLoadRect.idx (ix2 0 k)) = x7 (ix2 0 k) := fun k =>
    congrArg x7 ((idx2 i9 0 k (by decide) (by omega)).trans (congr_ix2 rfl (Nat.zero_add _)))
  rw [e, outV_apply, lnV_apply]
  simp only [cen_apply, h s]
  unfold OF lnSilu lnRow
  show _ = _
  refine congrArg (fun q => q * Ideal.logistic q) ?_
  exact congrArg₂ (fun p q => _ * p + q) (e8 c) (e9 c)

end Cert.ConvIdeal.Pay
end
-- ==== Proof.ConvSpec.lean ====
/-
  Hand-written, untrusted. The input projection and the Conformer convolution on rows, over the extended reals: what both the
  kernel and the reference are shown to compute.
-/
module

public import proofs.«01_k».proof.Proof.ConvOut

@[expose] public section

set_option maxRecDepth 16384

noncomputable section

namespace Cert.ConvSpec

open Idealize.ShloMosaic Cert.RowSpec Cert.ConvIdeal.Pay

/-- A column of the input projection of one normalised row. -/
def inRow (h : Fin 1024 → EReal) (w : Fin 1024 → Fin 2848 → EReal) (d : Fin 2848) : EReal := ∑ k, h k * w k d

/-- The gated linear unit of one row: the first 512 columns times the logistic function of the next 512. -/
def gluRow (h : Fin 1024 → EReal) (w : Fin 1024 → Fin 2848 → EReal) (c : Fin 512) : EReal :=
  inRow h w ⟨c.val, by omega⟩ * Ideal.logistic (inRow h w ⟨512 + c.val, by omega⟩)

/-- The gated rows of one sequence with 32 rows of zeros in front. -/
def padded (x : Fin 8192 → Fin 1024 → EReal) (g : Fin 1024 → EReal) (w : Fin 1024 → Fin 2848 → EReal) (n : ℕ) (c : Fin 512) :
    EReal :=
  if n < 32 then 0 else if h : n - 32 < 8192 then gluRow (rmsRow (x ⟨n - 32, h⟩) g) w c else 0

/-- The first `n` taps of the convolution at row `t`, started from the bias. -/
def conv (H : ℕ → Fin 512 → EReal) (cw : Fin 31 → Fin 512 → EReal) (cb : Fin 512 → EReal) : ℕ → ℕ → Fin 512 → EReal
  | 0, _, c => cb c
  | n + 1, t, c => conv H cw cb n t c + H (t + 2 + n) c * (if h : n < 31 then cw ⟨n, h⟩ c else 0)

/-- One row of the first result: the convolution, layer normalisation, and `y · σ(y)`. -/
def convRow (x : Fin 8192 → Fin 1024 → EReal) (g : Fin 1024 → EReal) (w : Fin 1024 → Fin 2848 → EReal)
    (cw : Fin 31 → Fin 512 → EReal) (cb lg lb : Fin 512 → EReal) (t : ℕ) (c : Fin 512) : EReal :=
  lnSilu (conv (padded x g w) cw cb 31 t) lg lb c

/-- One row of the second result: the projection's last 1824 columns, then 96 columns of zeros. -/
def restRow (h : Fin 1024 → EReal) (w : Fin 1024 → Fin 2848 → EReal) (d : Fin 1920) : EReal :=
  ∑ k, h k * (if hd : d.val < 1824 then w k ⟨1024 + d.val, by omega⟩ else 0)

/-- The kernel's taps over a buffer that holds the padded rows from row `t` are the convolution at row `t + r`. -/
theorem taps_eq {H H' : ℕ → Fin 512 → EReal} {x4 : Vec Ideal Cert.ConvIdeal.S31x512 .f32} {x5 : Vec Ideal Cert.ConvIdeal.S1x512 .f32}
    {cw : Fin 31 → Fin 512 → EReal} {cb : Fin 512 → EReal} {t : ℕ} (hH : ∀ n, n < 544 → ∀ c, H n c = H' (t + n) c)
    (h4 : ∀ j c, x4 (ix2 j c) = cw j c) (h5 : ∀ c, x5 (ix2 0 c) = cb c) (r : ℕ) (hr : r < 512) (c : Fin 512) :
    ∀ n, n ≤ 31 → taps H x4 x5 n r c = conv H' cw cb n (t + r) c
  | 0, _ => h5 c
  | n + 1, hn => by
    unfold taps conv
    rw [taps_eq hH h4 h5 r hr c n (by omega), hH (r + 2 + n) (by omega), dif_pos (by omega), dif_pos (by omega), h4,
      show t + (r + 2 + n) = t + r + 2 + n by omega]

theorem lnSilu_congr {u u' lg lg' lb lb' : Fin 512 → EReal} {c c' : Fin 512} (h1 : ∀ k, u k = u' k) (h2 : ∀ k, lg k = lg' k)
    (h3 : ∀ k, lb k = lb' k) (h4 : c = c') : lnSilu u lg lb c = lnSilu u' lg' lb' c' := by
  obtain rfl := funext h1; obtain rfl := funext h2; obtain rfl := funext h3; rw [h4]

end Cert.ConvSpec

end
-- ==== Proof.ConvA1.lean ====
/-
  Hand-written, untrusted. The convolution kernel's scratch buffers at a grid point that starts a sequence: every write of the
  normalised rows, of the gated rows and of their moved copies.
-/
module

public import proofs.«01_k».proof.Proof.ConvPay

@[expose] public section

set_option maxRecDepth 16384
set_option maxHeartbeats 4000000

noncomputable section

namespace Cert.ConvIdeal.PayA

open Idealize.ShloMosaic Idealize.ShloMosaic.TcCoe Idealize.ShloMosaic.Tactic Idealize.SL.Sem
open Cert.ConvIdeal Cert.ConvIdeal.Gen Cert.RowSpec Cert.ConvIdeal.Pay Cert.ConvIdeal.Gen.kernelRun0_A

variable (c : Dev nD) (arg2 : Memref sig .tc .vmem S1x512x1024 .f32) (harg2 : arg2.IsWhole)
  (arg3 : Memref sig .tc .vmem S1x1024 .f32) (harg3 : arg3.IsWhole) (arg4 : Memref sig .tc .vmem S1024x1024 .bf16)
  (harg4 : arg4.IsWhole) (arg12 : Memref sig .tc .vmem S512x1024 .bf16) (arg13 : Memref sig .tc .vmem S544x512 .f32)
  (x0 : Vec Ideal S1x512x1024 .f32) (x1 : Vec Ideal S1x1024 .f32) (x2 : Vec Ideal S1024x1024 .bf16)

/-- The history of a sequence's first rows is zero. -/
def Hx : ℕ → Fin 512 → EReal := HN (fun _ => 0) x0 x1 x2

theorem hs1 : Agrees (sl.HS0_1 c arg2 harg2 arg3 harg3 x0 x1) (hF x0 x1) :=
  agrees_cons (fun x => hs_piece x) (agrees_nil _)

theorem hs2 : Agrees (sl.HS0_2 c arg2 harg2 arg3 harg3 x0 x1) (hF x0 x1) :=
  agrees_cons (fun x => hs_piece x) (hs1 c arg2 harg2 arg3 harg3 x0 x1)

theorem hs3 : Agrees (sl.HS0_3 c arg2 harg2 arg3 harg3 x0 x1) (hF x0 x1) :=
  agrees_cons (fun x => hs_piece x) (hs2 c arg2 harg2 arg3 harg3 x0 x1)

theorem hs4 : Agrees (sl.HS0_4 c arg2 harg2 arg3 harg3 x0 x1) (hF x0 x1) :=
  agrees_cons (fun x => hs_piece x) (hs3 c arg2 harg2 arg3 harg3 x0 x1)

theorem rows1 (r : Fin 128) (k : Fin 1024) : sl.v26 c arg2 harg2 arg3 harg3 arg12 x0 x1 (ix2 r k)
    = hF x0 x1 (ix2 ⟨0 + r.val, by omega⟩ k) :=
  hs_read (hs1 c arg2 harg2 arg3 harg3 x0 x1) (by sl_kernel_rfl) r k

theorem rows2 (r : Fin 128) (k : Fin 1024) : sl.v1140 c arg2 harg2 arg3 harg3 arg12 x0 x1 (ix2 r k)
    = hF x0 x1 (ix2 ⟨128 + r.val, by omega⟩ k) :=
  hs_read (hs2 c arg2 harg2 arg3 harg3 x0 x1) (by sl_kernel_rfl) r k

theorem rows3 (r : Fin 128) (k : Fin 1024) : sl.v2226 c arg2 harg2 arg3 harg3 arg12 x0 x1 (ix2 r k)
    = hF x0 x1 (ix2 ⟨256 + r.val, by omega⟩ k) :=
  hs_read (hs3 c arg2 harg2 arg3 harg3 x0 x1) (by sl_kernel_rfl) r k

theorem rows4 (r : Fin 128) (k : Fin 1024) : sl.v3312 c arg2 harg2 arg3 harg3 arg12 x0 x1 (ix2 r k)
    = hF x0 x1 (ix2 ⟨384 + r.val, by omega⟩ k) :=
  hs_read (hs4 c arg2 harg2 arg3 harg3 x0 x1) (by sl_kernel_rfl) r k

theorem hb1 : Agrees (sl.HS1_3 c arg2 harg2 arg3 harg3 arg4 harg4 arg12 x0 x1 x2) (HF (Hx x0 x1 x2)) :=
  agrees_cons (fun x => gat_piece (o := 0) (by decide) (rows1 c arg2 harg2 arg3 harg3 arg12 x0 x1) rfl rfl x)
  (agrees_cons (fun x => gat_piece (o := 0) (by decide) (rows1 c arg2 harg2 arg3 harg3 arg12 x0 x1) rfl rfl x)
  (agrees_cons (fun x => zero_piece x) (agrees_nil _)))

theorem cb1 : cov1 (sl.HS1_3 c arg2 harg2 arg3 harg3 arg4 harg4 arg12 x0 x1 x2) 20 = true := by sl_kernel_rfl

theorem hb2 : Agrees (sl.HS1_5 c arg2 harg2 arg3 harg3 arg4 harg4 arg12 x0 x1 x2) (HF (Hx x0 x1 x2)) :=
  agrees_cons (fun x => gat_piece (o := 128) (by decide) (rows2 c arg2 harg2 arg3 harg3 arg12 x0 x1) rfl rfl x)
  (agrees_cons (fun x => gat_piece (o := 128) (by decide) (rows2 c arg2 harg2 arg3 harg3 arg12 x0 x1) rfl rfl x)
  (hb1 c arg2 harg2 arg3 harg3 arg4 harg4 arg12 x0 x1 x2))

theorem cb2 : cov1 (sl.HS1_5 c arg2 harg2 arg3 harg3 arg4 harg4 arg12 x0 x1 x2) 36 = true := by sl_kernel_rfl

theorem hb3 : Agrees (sl.HS1_7 c arg2 harg2 arg3 harg3 arg4 harg4 arg12 x0 x1 x2) (HF (Hx x0 x1 x2)) :=
  agrees_cons (fun x => gat_piece (o := 256) (by decide) (rows3 c arg2 harg2 arg3 harg3 arg12 x0 x1) rfl rfl x)
  (agrees_cons (fun x => gat_piece (o := 256) (by decide) (rows3 c arg2 harg2 arg3 harg3 arg12 x0 x1) rfl rfl x)
  (hb2 c arg2 harg2 arg3 harg3 arg4 harg4 arg12 x0 x1 x2))

theorem cb3 : cov1 (sl.HS1_7 c arg2 harg2 arg3 harg3 arg4 harg4 arg12 x0 x1 x2) 52 = true := by sl_kernel_rfl

theorem hb4 : Agrees (sl.HS1_9 c arg2 harg2 arg3 harg3 arg4 harg4 arg12 x0 x1 x2) (HF (Hx x0 x1 x2)) :=
  agrees_cons (fun x => gat_piece (o := 384) (by decide) (rows4 c arg2 harg2 arg3 harg3 arg12 x0 x1) rfl rfl x)
  (agrees_cons (fun x => gat_piece (o := 384) (by decide) (rows4 c arg2 harg2 arg3 harg3 arg12 x0 x1) rfl rfl x)
  (hb3 c arg2 harg2 arg3 harg3 arg4 harg4 arg12 x0 x1 x2))

theorem cb4 : cov1 (sl.HS1_9 c arg2 harg2 arg3 harg3 arg4 harg4 arg12 x0 x1 x2) 68 = true := by sl_kernel_rfl

theorem sh1 : Agrees (sl.HS2_35 c arg2 harg2 arg3 harg3 arg4 harg4 arg12 arg13 x0 x1 x2) (SF (Hx x0 x1 x2)) := by
  have hA := hb1 c arg2 harg2 arg3 harg3 arg4 harg4 arg12 x0 x1 x2
  have hC := cb1 c arg2 harg2 arg3 harg3 arg4 harg4 arg12 x0 x1 x2
  unfold sl.HS2_35
  refine agrees_cons (fun x => sh_piece' (q := 6) (b := 128) (o := 135) hA hC (by decide) rfl x) ?_
  refine agrees_cons (fun x => sh_piece (q := 6) (b := 96) (o := 103) hA hC (by decide) rfl x) ?_
  refine agrees_cons (fun x => sh_piece (q := 6) (b := 64) (o := 71) hA hC (by decide) rfl x) ?_
  refine agrees_cons (fun x => sh_piece (q := 6) (b := 32) (o := 39) hA hC (by decide) rfl x) ?_
  refine agrees_cons (fun x => sh_piece (q := 6) (b := 0) (o := 7) hA hC (by decide) rfl x) ?_
  refine agrees_cons (fun x => sh_piece' (q := 5) (b := 128) (o := 134) hA hC (by decide) rfl x) ?_
  refine agrees_cons (fun x => sh_piece (q := 5) (b := 96) (o := 102) hA hC (by decide) rfl x) ?_
  refine agrees_cons (fun x => sh_piece (q := 5) (b := 64) (o := 70) hA hC (by decide) rfl x) ?_
  refine agrees_cons (fun x => sh_piece (q := 5) (b := 32) (o := 38) hA hC (by decide) rfl x) ?_
  refine agrees_cons (fun x => sh_piece (q := 5) (b := 0) (o := 6) hA hC (by decide) rfl x) ?_
  refine agrees_cons (fun x => sh_piece' (q := 4) (b := 128) (o := 133) hA hC (by decide) rfl x) ?_
  refine agrees_cons (fun x => sh_piece (q := 4) (b := 96) (o := 101) hA hC (by decide) rfl x) ?_
  refine agrees_cons (fun x => sh_piece (q := 4) (b := 64) (o := 69) hA hC (by decide) rfl x) ?_
  refine agrees_cons (fun x => sh_piece (q := 4) (b := 32) (o := 37) hA hC (by decide) rfl x) ?_
  refine agrees_cons (fun x => sh_piece (q := 4) (b := 0) (o := 5) hA hC (by decide) rfl x) ?_
  refine agrees_cons (fun x => sh_piece' (q := 3) (b := 128) (o := 132) hA hC (by decide) rfl x) ?_
  refine agrees_cons (fun x => sh_piece (q := 3) (b := 96) (o := 100) hA hC (by decide) rfl x) ?_
  refine agrees_cons (fun x => sh_piece (q := 3) (b := 64) (o := 68) hA hC (by decide) rfl x) ?_
  refine agrees_cons (fun x => sh_piece (q := 3) (b := 32) (o := 36) hA hC (by decide) rfl x) ?_
  refine agrees_cons (fun x => sh_piece (q := 3) (b := 0) (o := 4) hA hC (by decide) rfl x) ?_
  refine agrees_cons (fun x => sh_piece' (q := 2) (b := 128) (o := 131) hA hC (by decide) rfl x) ?_
  refine agrees_cons (fun x => sh_piece (q := 2) (b := 96) (o := 99) hA hC (by decide) rfl x) ?_
  refine agrees_cons (fun x => sh_piece (q := 2) (b := 64) (o := 67) hA hC (by decide) rfl x) ?_
  refine agrees_cons (fun x => sh_piece (q := 2) (b := 32) (o := 35) hA hC (by decide) rfl x) ?_
  refine agrees_cons (fun x => sh_piece (q := 2) (b := 0) (o := 3) hA hC (by decide) rfl x) ?_
  refine agrees_cons (fun x => sh_piece' (q := 1) (b := 128) (o := 130) hA hC (by decide) rfl x) ?_
  refine agrees_cons (fun x => sh_piece (q := 1) (b := 96) (o := 98) hA hC (by decide) rfl x) ?_
  refine agrees_cons (fun x => sh_piece (q := 1) (b := 64) (o := 66) hA hC (by decide) rfl x) ?_
  refine agrees_cons (fun x => sh_piece (q := 1) (b := 32) (o := 34) hA hC (by decide) rfl x) ?_
  refine agrees_cons (fun x => sh_piece (q := 1) (b := 0) (o := 2) hA hC (by decide) rfl x) ?_
  refine agrees_cons (fun x => sh_piece' (q := 0) (b := 128) (o := 129) hA hC (by decide) rfl x) ?_
  refine agrees_cons (fun x => sh_piece (q := 0) (b := 96) (o := 97) hA hC (by decide) rfl x) ?_
  refine agrees_cons (fun x => sh_piece (q := 0) (b := 64) (o := 65) hA hC (by decide) rfl x) ?_
  refine agrees_cons (fun x => sh_piece (q := 0) (b := 32) (o := 33) hA hC (by decide) rfl x) ?_
  refine agrees_cons (fun x => sh_piece (q := 0) (b := 0) (o := 1) hA hC (by decide) rfl x) ?_
  exact agrees_nil _

theorem cs1 : cov2 (sl.HS2_35 c arg2 harg2 arg3 harg3 arg4 harg4 arg12 arg13 x0 x1 x2) 19 = true := by sl_kernel_rfl

theorem sh2 : Agrees (sl.HS2_63 c arg2 harg2 arg3 harg3 arg4 harg4 arg12 arg13 x0 x1 x2) (SF (Hx x0 x1 x2)) := by
  have hA := hb2 c arg2 harg2 arg3 harg3 arg4 harg4 arg12 x0 x1 x2
  have hC := cb2 c arg2 harg2 arg3 harg3 arg4 harg4 arg12 x0 x1 x2
  unfold sl.HS2_63
  refine agrees_cons (fun x => sh_piece (q := 6) (b := 248) (o := 255) hA hC (by decide) rfl x) ?_
  refine agrees_cons (fun x => sh_piece (q := 6) (b := 216) (o := 223) hA hC (by decide) rfl x) ?_
  refine agrees_cons (fun x => sh_piece (q := 6) (b := 184) (o := 191) hA hC (by decide) rfl x) ?_
  refine agrees_cons (fun x => sh_piece (q := 6) (b := 152) (o := 159) hA hC (by decide) rfl x) ?_
  refine agrees_cons (fun x => sh_piece (q := 5) (b := 248) (o := 254) hA hC (by decide) rfl x) ?_
  refine agrees_cons (fun x => sh_piece (q := 5) (b := 216) (o := 222) hA hC (by decide) rfl x) ?_
  refine agrees_cons (fun x => sh_piece (q := 5) (b := 184) (o := 190) hA hC (by decide) rfl x) ?_
  refine agrees_cons (fun x => sh_piece (q := 5) (b := 152) (o := 158) hA hC (by decide) rfl x) ?_
  refine agrees_cons (fun x => sh_piece (q := 4) (b := 248) (o := 253) hA hC (by decide) rfl x) ?_
  refine agrees_cons (fun x => sh_piece (q := 4) (b := 216) (o := 221) hA hC (by decide) rfl x) ?_
  refine agrees_cons (fun x => sh_piece (q := 4) (b := 184) (o := 189) hA hC (by decide) rfl x) ?_
  refine agrees_cons (fun x => sh_piece (q := 4) (b := 152) (o := 157) hA hC (by decide) rfl x) ?_
  refine agrees_cons (fun x => sh_piece (q := 3) (b := 248) (o := 252) hA hC (by decide) rfl x) ?_
  refine agrees_cons (fun x => sh_piece (q := 3) (b := 216) (o := 220) hA hC (by decide) rfl x) ?_
  refine agrees_cons (fun x => sh_piece (q := 3) (b := 184) (o := 188) hA hC (by decide) rfl x) ?_
  refine agrees_cons (fun x => sh_piece (q := 3) (b := 152) (o := 156) hA hC (by decide) rfl x) ?_
  refine agrees_cons (fun x => sh_piece (q := 2) (b := 248) (o := 251) hA hC (by decide) rfl x) ?_
  refine agrees_cons (fun x => sh_piece (q := 2) (b := 216) (o := 219) hA hC (by decide) rfl x) ?_
  refine agrees_cons (fun x => sh_piece (q := 2) (b := 184) (o := 187) hA hC (by decide) rfl x) ?_
  refine agrees_cons (fun x => sh_piece (q := 2) (b := 152) (o := 155) hA hC (by decide) rfl x) ?_
  refine agrees_cons (fun x => sh_piece (q := 1) (b := 248) (o := 250) hA hC (by decide) rfl x) ?_
  refine agrees_cons (fun x => sh_piece (q := 1) (b := 216) (o := 218) hA hC (by decide) rfl x) ?_
  refine agrees_cons (fun x => sh_piece (q := 1) (b := 184) (o := 186) hA hC (by decide) rfl x) ?_
  refine agrees_cons (fun x => sh_piece (q := 1) (b := 152) (o := 154) hA hC (by decide) rfl x) ?_
  refine agrees_cons (fun x => sh_piece (q := 0) (b := 248) (o := 249) hA hC (by decide) rfl x) ?_
  refine agrees_cons (fun x => sh_piece (q := 0) (b := 216) (o := 217) hA hC (by decide) rfl x) ?_
  refine agrees_cons (fun x => sh_piece (q := 0) (b := 184) (o := 185) hA hC (by decide) rfl x) ?_
  refine agrees_cons (fun x => sh_piece (q := 0) (b := 152) (o := 153) hA hC (by decide) rfl x) ?_
  exact sh1 c arg2 harg2 arg3 harg3 arg4 harg4 arg12 arg13 x0 x1 x2

theorem cs2 : cov2 (sl.HS2_63 c arg2 harg2 arg3 harg3 arg4 harg4 arg12 arg13 x0 x1 x2) 35 = true := by sl_kernel_rfl

theorem sh3 : Agrees (sl.HS2_91 c arg2 harg2 arg3 harg3 arg4 harg4 arg12 arg13 x0 x1 x2) (SF (Hx x0 x1 x2)) := by
  have hA := hb3 c arg2 harg2 arg3 harg3 arg4 harg4 arg12 x0 x1 x2
  have hC := cb3 c arg2 harg2 arg3 harg3 arg4 harg4 arg12 x0 x1 x2
  unfold sl.HS2_91
  refine agrees_cons (fun x => sh_piece (q := 6) (b := 376) (o := 383) hA hC (by decide) rfl x) ?_
  refine agrees_cons (fun x => sh_piece (q := 6) (b := 344) (o := 351) hA hC (by decide) rfl x) ?_
  refine agrees_cons (fun x => sh_piece (q := 6) (b := 312) (o := 319) hA hC (by decide) rfl x) ?_
  refine agrees_cons (fun x => sh_piece (q := 6) (b := 280) (o := 287) hA hC (by decide) rfl x) ?_
  refine agrees_cons (fun x => sh_piece (q := 5) (b := 376) (o := 382) hA hC (by decide) rfl x) ?_
  refine agrees_cons (fun x => sh_piece (q := 5) (b := 344) (o := 350) hA hC (by decide) rfl x) ?_
  refine agrees_cons (fun x => sh_piece (q := 5) (b := 312) (o := 318) hA hC (by decide) rfl x) ?_
  refine agrees_cons (fun x => sh_piece (q := 5) (b := 280) (o := 286) hA hC (by decide) rfl x) ?_
  refine agrees_cons (fun x => sh_piece (q := 4) (b := 376) (o := 381) hA hC (by decide) rfl x) ?_
  refine agrees_cons (fun x => sh_piece (q := 4) (b := 344) (o := 349) hA hC (by decide) rfl x) ?_
  refine agrees_cons (fun x => sh_piece (q := 4) (b := 312) (o := 317) hA hC (by decide) rfl x) ?_
  refine agrees_cons (fun x => sh_piece (q := 4) (b := 280) (o := 285) hA hC (by decide) rfl x) ?_
  refine agrees_cons (fun x => sh_piece (q := 3) (b := 376) (o := 380) hA hC (by decide) rfl x) ?_
  refine agrees_cons (fun x => sh_piece (q := 3) (b := 344) (o := 348) hA hC (by decide) rfl x) ?_
  refine agrees_cons (fun x => sh_piece (q := 3) (b := 312) (o := 316) hA hC (by decide) rfl x) ?_
  refine agrees_cons (fun x => sh_piece (q := 3) (b := 280) (o := 284) hA hC (by decide) rfl x) ?_
  refine agrees_cons (fun x => sh_piece (q := 2) (b := 376) (o := 379) hA hC (by decide) rfl x) ?_
  refine agrees_cons (fun x => sh_piece (q := 2) (b := 344) (o := 347) hA hC (by decide) rfl x) ?_
  refine agrees_cons (fun x => sh_piece (q := 2) (b := 312) (o := 315) hA hC (by decide) rfl x) ?_
  refine agrees_cons (fun x => sh_piece (q := 2) (b := 280) (o := 283) hA hC (by decide) rfl x) ?_
  refine agrees_cons (fun x => sh_piece (q := 1) (b := 376) (o := 378) hA hC (by decide) rfl x) ?_
  refine agrees_cons (fun x => sh_piece (q := 1) (b := 344) (o := 346) hA hC (by decide) rfl x) ?_
  refine agrees_cons (fun x => sh_piece (q := 1) (b := 312) (o := 314) hA hC (by decide) rfl x) ?_
  refine agrees_cons (fun x => sh_piece (q := 1) (b := 280) (o := 282) hA hC (by decide) rfl x) ?_
  refine agrees_cons (fun x => sh_piece (q := 0) (b := 376) (o := 377) hA hC (by decide) rfl x) ?_
  refine agrees_cons (fun x => sh_piece (q := 0) (b := 344) (o := 345) hA hC (by decide) rfl x) ?_
  refine agrees_cons (fun x => sh_piece (q := 0) (b := 312) (o := 313) hA hC (by decide) rfl x) ?_
  refine agrees_cons (fun x => sh_piece (q := 0) (b := 280) (o := 281) hA hC (by decide) rfl x) ?_
  exact sh2 c arg2 harg2 arg3 harg3 arg4 harg4 arg12 arg13 x0 x1 x2

theorem cs3 : cov2 (sl.HS2_91 c arg2 harg2 arg3 harg3 arg4 harg4 arg12 arg13 x0 x1 x2) 51 = true := by sl_kernel_rfl

theorem sh4 : Agrees (sl.HS2_119 c arg2 harg2 arg3 harg3 arg4 harg4 arg12 arg13 x0 x1 x2) (SF (Hx x0 x1 x2)) := by
  have hA := hb4 c arg2 harg2 arg3 harg3 arg4 harg4 arg12 x0 x1 x2
  have hC := cb4 c arg2 harg2 arg3 harg3 arg4 harg4 arg12 x0 x1 x2
  unfold sl.HS2_119
  refine agrees_cons (fun x => sh_piece (q := 6) (b := 504) (o := 511) hA hC (by decide) rfl x) ?_
  refine agrees_cons (fun x => sh_piece (q := 6) (b := 472) (o := 479) hA hC (by decide) rfl x) ?_
  refine agrees_cons (fun x => sh_piece (q := 6) (b := 440) (o := 447) hA hC (by decide) rfl x) ?_
  refine agrees_cons (fun x => sh_piece (q := 6) (b := 408) (o := 415) hA hC (by decide) rfl x) ?_
  refine agrees_cons (fun x => sh_piece (q := 5) (b := 504) (o := 510) hA hC (by decide) rfl x) ?_
  refine agrees_cons (fun x => sh_piece (q := 5) (b := 472) (o := 478) hA hC (by decide) rfl x) ?_
  refine agrees_cons (fun x => sh_piece (q := 5) (b := 440) (o := 446) hA hC (by decide) rfl x) ?_
  refine agrees_cons (fun x => sh_piece (q := 5) (b := 408) (o := 414) hA hC (by decide) rfl x) ?_
  refine agrees_cons (fun x => sh_piece (q := 4) (b := 504) (o := 509) hA hC (by decide) rfl x) ?_
  refine agrees_cons (fun x => sh_piece (q := 4) (b := 472) (o := 477) hA hC (by decide) rfl x) ?_
  refine agrees_cons (fun x => sh_piece (q := 4) (b := 440) (o := 445) hA hC (by decide) rfl x) ?_
  refine agrees_cons (fun x => sh_piece (q := 4) (b := 408) (o := 413) hA hC (by decide) rfl x) ?_
  refine agrees_cons (fun x => sh_piece (q := 3) (b := 504) (o := 508) hA hC (by decide) rfl x) ?_
  refine agrees_cons (fun x => sh_piece (q := 3) (b := 472) (o := 476) hA hC (by decide) rfl x) ?_
  refine agrees_cons (fun x => sh_piece (q := 3) (b := 440) (o := 444) hA hC (by decide) rfl x) ?_
  refine agrees_cons (fun x => sh_piece (q := 3) (b := 408) (o := 412) hA hC (by decide) rfl x) ?_
  refine agrees_cons (fun x => sh_piece (q := 2) (b := 504) (o := 507) hA hC (by decide) rfl x) ?_
  refine agrees_cons (fun x => sh_piece (q := 2) (b := 472) (o := 475) hA hC (by decide) rfl x) ?_
  refine agrees_cons (fun x => sh_piece (q := 2) (b := 440) (o := 443) hA hC (by decide) rfl x) ?_
  refine agrees_cons (fun x => sh_piece (q := 2) (b := 408) (o := 411) hA hC (by decide) rfl x) ?_
  refine agrees_cons (fun x => sh_piece (q := 1) (b := 504) (o := 506) hA hC (by decide) rfl x) ?_
  refine agrees_cons (fun x => sh_piece (q := 1) (b := 472) (o := 474) hA hC (by decide) rfl x) ?_
  refine agrees_cons (fun x => sh_piece (q := 1) (b := 440) (o := 442) hA hC (by decide) rfl x) ?_
  refine agrees_cons (fun x => sh_piece (q := 1) (b := 408) (o := 410) hA hC (by decide) rfl x) ?_
  refine agrees_cons (fun x => sh_piece (q := 0) (b := 504) (o := 505) hA hC (by decide) rfl x) ?_
  refine agrees_cons (fun x => sh_piece (q := 0) (b := 472) (o := 473) hA hC (by decide) rfl x) ?_
  refine agrees_cons (fun x => sh_piece (q := 0) (b := 440) (o := 441) hA hC (by decide) rfl x) ?_
  refine agrees_cons (fun x => sh_piece (q := 0) (b := 408) (o := 409) hA hC (by decide) rfl x) ?_
  exact sh3 c arg2 harg2 arg3 harg3 arg4 harg4 arg12 arg13 x0 x1 x2

theorem cs4 : cov2 (sl.HS2_119 c arg2 harg2 arg3 harg3 arg4 harg4 arg12 arg13 x0 x1 x2) 67 = true := by sl_kernel_rfl

end Cert.ConvIdeal.PayA

end
-- ==== Proof.ConvA2.lean ====
/-
  Hand-written, untrusted. The convolution kernel's two output blocks at a grid point that starts a sequence.
-/
module

public import proofs.«01_k».proof.Proof.ConvOut
public import proofs.«01_k».proof.Proof.ConvA1

@[expose] public section

set_option maxRecDepth 16384
set_option maxHeartbeats 8000000

noncomputable section

namespace Cert.ConvIdeal.PayA

open Idealize.ShloMosaic Idealize.ShloMosaic.TcCoe Idealize.ShloMosaic.Tactic Idealize.SL.Sem
open Cert.ConvIdeal Cert.ConvIdeal.Gen Cert.RowSpec Cert.ConvIdeal.Pay Cert.ConvIdeal.Gen.kernelRun0_A

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1920 .bf16) (harg5 : arg5.IsWhole) (arg6 : Memref sig .tc .vmem S31x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512x512 .bf16) (harg10 : arg10.IsWhole) (arg11 : Memref sig .tc .vmem S1x512x1920 .bf16) (harg11 : arg11.IsWhole) (arg12 : Memref sig .tc .vmem S512x1024 .bf16) (harg12 : arg12.IsWhole) (arg13 : Memref sig .tc .vmem S544x512 .f32) (harg13 : arg13.IsWhole) (arg14 : Memref sig .tc .vmem S7x544x512 .f32) (harg14 : arg14.IsWhole) (hc0 : cond0_0 i) (hc1 : ¬cond0_1 i)
    (x0 : Vec Ideal S1x512x1024 .f32) (x1 : Vec Ideal S1x1024 .f32) (x2 : Vec Ideal S1024x1024 .bf16) (x3 : Vec Ideal S1024x1920 .bf16) (x4 : Vec Ideal S31x512 .f32) (x5 : Vec Ideal S1x512 .f32) (x6 : Vec Ideal S1x512 .f32) (x7 : Vec Ideal S1x512 .f32)

theorem out9 : Agrees (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1 (PRF x0 x1 x3) := by
  dsimp only [kernelRun0_A]
  refine agrees_cons (fun x => pr_piece' (o := 384) (a := 1792) (by decide) (rows4 c arg2 harg2 arg3 harg3 arg12 x0 x1) x) ?_
  refine agrees_cons (fun x => pr_piece (o := 384) (a := 1536) (by decide) (rows4 c arg2 harg2 arg3 harg3 arg12 x0 x1) x) ?_
  refine agrees_cons (fun x => pr_piece (o := 384) (a := 1280) (by decide) (rows4 c arg2 harg2 arg3 harg3 arg12 x0 x1) x) ?_
  refine agrees_cons (fun x => pr_piece (o := 384) (a := 1024) (by decide) (rows4 c arg2 harg2 arg3 harg3 arg12 x0 x1) x) ?_
  refine agrees_cons (fun x => pr_piece (o := 384) (a := 768) (by decide) (rows4 c arg2 harg2 arg3 harg3 arg12 x0 x1) x) ?_
  refine agrees_cons (fun x => pr_piece (o := 384) (a := 512) (by decide) (rows4 c arg2 harg2 arg3 harg3 arg12 x0 x1) x) ?_
  refine agrees_cons (fun x => pr_piece (o := 384) (a := 256) (by decide) (rows4 c arg2 harg2 arg3 harg3 arg12 x0 x1) x) ?_
  refine agrees_cons (fun x => pr_piece (o := 384) (a := 0) (by decide) (rows4 c arg2 harg2 arg3 harg3 arg12 x0 x1) x) ?_
  refine agrees_cons (fun x => pr_piece' (o := 256) (a := 1792) (by decide) (rows3 c arg2 harg2 arg3 harg3 arg12 x0 x1) x) ?_
  refine agrees_cons (fun x => pr_piece (o := 256) (a := 1536) (by decide) (rows3 c arg2 harg2 arg3 harg3 arg12 x0 x1) x) ?_
  refine agrees_cons (fun x => pr_piece (o := 256) (a := 1280) (by decide) (rows3 c arg2 harg2 arg3 harg3 arg12 x0 x1) x) ?_
  refine agrees_cons (fun x => pr_piece (o := 256) (a := 1024) (by decide) (rows3 c arg2 harg2 arg3 harg3 arg12 x0 x1) x) ?_
  refine agrees_cons (fun x => pr_piece (o := 256) (a := 768) (by decide) (rows3 c arg2 harg2 arg3 harg3 arg12 x0 x1) x) ?_
  refine agrees_cons (fun x => pr_piece (o := 256) (a := 512) (by decide) (rows3 c arg2 harg2 arg3 harg3 arg12 x0 x1) x) ?_
  refine agrees_cons (fun x => pr_piece (o := 256) (a := 256) (by decide) (rows3 c arg2 harg2 arg3 harg3 arg12 x0 x1) x) ?_
  refine agrees_cons (fun x => pr_piece (o := 256) (a := 0) (by decide) (rows3 c arg2 harg2 arg3 harg3 arg12 x0 x1) x) ?_
  refine agrees_cons (fun x => pr_piece' (o := 128) (a := 1792) (by decide) (rows2 c arg2 harg2 arg3 harg3 arg12 x0 x1) x) ?_
  refine agrees_cons (fun x => pr_piece (o := 128) (a := 1536) (by decide) (rows2 c arg2 harg2 arg3 harg3 arg12 x0 x1) x) ?_
  refine agrees_cons (fun x => pr_piece (o := 128) (a := 1280) (by decide) (rows2 c arg2 harg2 arg3 harg3 arg12 x0 x1) x) ?_
  refine agrees_cons (fun x => pr_piece (o := 128) (a := 1024) (by decide) (rows2 c arg2 harg2 arg3 harg3 arg12 x0 x1) x) ?_
  refine agrees_cons (fun x => pr_piece (o := 128) (a := 768) (by decide) (rows2 c arg2 harg2 arg3 harg3 arg12 x0 x1) x) ?_
  refine agrees_cons (fun x => pr_piece (o := 128) (a := 512) (by decide) (rows2 c arg2 harg2 arg3 harg3 arg12 x0 x1) x) ?_
  refine agrees_cons (fun x => pr_piece (o := 128) (a := 256) (by decide) (rows2 c arg2 harg2 arg3 harg3 arg12 x0 x1) x) ?_
  refine agrees_cons (fun x => pr_piece (o := 128) (a := 0) (by decide) (rows2 c arg2 harg2 arg3 harg3 arg12 x0 x1) x) ?_
  refine agrees_cons (fun x => pr_piece' (o := 0) (a := 1792) (by decide) (rows1 c arg2 harg2 arg3 harg3 arg12 x0 x1) x) ?_
  refine agrees_cons (fun x => pr_piece (o := 0) (a := 1536) (by decide) (rows1 c arg2 harg2 arg3 harg3 arg12 x0 x1) x) ?_
  refine agrees_cons (fun x => pr_piece (o := 0) (a := 1280) (by decide) (rows1 c arg2 harg2 arg3 harg3 arg12 x0 x1) x) ?_
  refine agrees_cons (fun x => pr_piece (o := 0) (a := 1024) (by decide) (rows1 c arg2 harg2 arg3 harg3 arg12 x0 x1) x) ?_
  refine agrees_cons (fun x => pr_piece (o := 0) (a := 768) (by decide) (rows1 c arg2 harg2 arg3 harg3 arg12 x0 x1) x) ?_
  refine agrees_cons (fun x => pr_piece (o := 0) (a := 512) (by decide) (rows1 c arg2 harg2 arg3 harg3 arg12 x0 x1) x) ?_
  refine agrees_cons (fun x => pr_piece (o := 0) (a := 256) (by decide) (rows1 c arg2 harg2 arg3 harg3 arg12 x0 x1) x) ?_
  refine agrees_cons (fun x => pr_piece (o := 0) (a := 0) (by decide) (rows1 c arg2 harg2 arg3 harg3 arg12 x0 x1) x) ?_
  exact agrees_nil _

theorem out8 : Agrees (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 (OF (Hx x0 x1 x2) x4 x5 x6 x7) := by
  dsimp only [kernelRun0_A]
  refine agrees_cons (fun x => out_piece (o := 480) ?_ x) ?_
  · have hb := hb4 c arg2 harg2 arg3 harg3 arg4 harg4 arg12 x0 x1 x2
    have hc := cb4 c arg2 harg2 arg3 harg3 arg4 harg4 arg12 x0 x1 x2
    have hs := sh4 c arg2 harg2 arg3 harg3 arg4 harg4 arg12 arg13 x0 x1 x2
    have hd := cs4 c arg2 harg2 arg3 harg3 arg4 harg4 arg12 arg13 x0 x1 x2
    refine tap_hb (n := 30) (b := 512) hb hc (by decide) rfl (by decide) ?_
    refine tap_sh (n := 29) (q := 6) (b := 504) hs hd (by decide) rfl (by decide) ?_
    refine tap_sh (n := 28) (q := 5) (b := 504) hs hd (by decide) rfl (by decide) ?_
    refine tap_sh (n := 27) (q := 4) (b := 504) hs hd (by decide) rfl (by decide) ?_
    refine tap_sh (n := 26) (q := 3) (b := 504) hs hd (by decide) rfl (by decide) ?_
    refine tap_sh (n := 25) (q := 2) (b := 504) hs hd (by decide) rfl (by decide) ?_
    refine tap_sh (n := 24) (q := 1) (b := 504) hs hd (by decide) rfl (by decide) ?_
    refine tap_sh (n := 23) (q := 0) (b := 504) hs hd (by decide) rfl (by decide) ?_
    refine tap_hb (n := 22) (b := 504) hb hc (by decide) rfl (by decide) ?_
    refine tap_sh (n := 21) (q := 6) (b := 496) hs hd (by decide) rfl (by decide) ?_
    refine tap_sh (n := 20) (q := 5) (b := 496) hs hd (by decide) rfl (by decide) ?_
    refine tap_sh (n := 19) (q := 4) (b := 496) hs hd (by decide) rfl (by decide) ?_
    refine tap_sh (n := 18) (q := 3) (b := 496) hs hd (by decide) rfl (by decide) ?_
    refine tap_sh (n := 17) (q := 2) (b := 496) hs hd (by decide) rfl (by decide) ?_
    refine tap_sh (n := 16) (q := 1) (b := 496) hs hd (by decide) rfl (by decide) ?_
    refine tap_sh (n := 15) (q := 0) (b := 496) hs hd (by decide) rfl (by decide) ?_
    refine tap_hb (n := 14) (b := 496) hb hc (by decide) rfl (by decide) ?_
    refine tap_sh (n := 13) (q := 6) (b := 488) hs hd (by decide) rfl (by decide) ?_
    refine tap_sh (n := 12) (q := 5) (b := 488) hs hd (by decide) rfl (by decide) ?_
    refine tap_sh (n := 11) (q := 4) (b := 488) hs hd (by decide) rfl (by decide) ?_
    refine tap_sh (n := 10) (q := 3) (b := 488) hs hd (by decide) rfl (by decide) ?_
    refine tap_sh (n := 9) (q := 2) (b := 488) hs hd (by decide) rfl (by decide) ?_
    refine tap_sh (n := 8) (q := 1) (b := 488) hs hd (by decide) rfl (by decide) ?_
    refine tap_sh (n := 7) (q := 0) (b := 488) hs hd (by decide) rfl (by decide) ?_
    refine tap_hb (n := 6) (b := 488) hb hc (by decide) rfl (by decide) ?_
    refine tap_sh (n := 5) (q := 6) (b := 480) hs hd (by decide) rfl (by decide) ?_
    refine tap_sh (n := 4) (q := 5) (b := 480) hs hd (by decide) rfl (by decide) ?_
    refine tap_sh (n := 3) (q := 4) (b := 480) hs hd (by decide) rfl (by decide) ?_
    refine tap_sh (n := 2) (q := 3) (b := 480) hs hd (by decide) rfl (by decide) ?_
    refine tap_sh (n := 1) (q := 2) (b := 480) hs hd (by decide) rfl (by decide) ?_
    refine tap_sh (n := 0) (q := 1) (b := 480) hs hd (by decide) rfl (by decide) ?_
    exact isAcc_zero
  refine agrees_cons (fun x => out_piece (o := 448) ?_ x) ?_
  · have hb := hb4 c arg2 harg2 arg3 harg3 arg4 harg4 arg12 x0 x1 x2
    have hc := cb4 c arg2 harg2 arg3 harg3 arg4 harg4 arg12 x0 x1 x2
    have hs := sh4 c arg2 harg2 arg3 harg3 arg4 harg4 arg12 arg13 x0 x1 x2
    have hd := cs4 c arg2 harg2 arg3 harg3 arg4 harg4 arg12 arg13 x0 x1 x2
    refine tap_hb (n := 30) (b := 480) hb hc (by decide) rfl (by decide) ?_
    refine tap_sh (n := 29) (q := 6) (b := 472) hs hd (by decide) rfl (by decide) ?_
    refine tap_sh (n := 28) (q := 5) (b := 472) hs hd (by decide) rfl (by decide) ?_
    refine tap_sh (n := 27) (q := 4) (b := 472) hs hd (by decide) rfl (by decide) ?_
    refine tap_sh (n := 26) (q := 3) (b := 472) hs hd (by decide) rfl (by decide) ?_
    refine tap_sh (n := 25) (q := 2) (b := 472) hs hd (by decide) rfl (by decide) ?_
    refine tap_sh (n := 24) (q := 1) (b := 472) hs hd (by decide) rfl (by decide) ?_
    refine tap_sh (n := 23) (q := 0) (b := 472) hs hd (by decide) rfl (by decide) ?_
    refine tap_hb (n := 22) (b := 472) hb hc (by decide) rfl (by decide) ?_
    refine tap_sh (n := 21) (q := 6) (b := 464) hs hd (by decide) rfl (by decide) ?_
    refine tap_sh (n := 20) (q := 5) (b := 464) hs hd (by decide) rfl (by decide) ?_
    refine tap_sh (n := 19) (q := 4) (b := 464) hs hd (by decide) rfl (by decide) ?_
    refine tap_sh (n := 18) (q := 3) (b := 464) hs hd (by decide) rfl (by decide) ?_
    refine tap_sh (n := 17) (q := 2) (b := 464) hs hd (by decide) rfl (by decide) ?_
    refine tap_sh (n := 16) (q := 1) (b := 464) hs hd (by decide) rfl (by decide) ?_
    refine tap_sh (n := 15) (q := 0) (b := 464) hs hd (by decide) rfl (by decide) ?_
    refine tap_hb (n := 14) (b := 464) hb hc (by decide) rfl (by decide) ?_
    refine tap_sh (n := 13) (q := 6) (b := 456) hs hd (by decide) rfl (by decide) ?_
    refine tap_sh (n := 12) (q := 5) (b := 456) hs hd (by decide) rfl (by decide) ?_
    refine tap_sh (n := 11) (q := 4) (b := 456) hs hd (by decide) rfl (by decide) ?_
    refine tap_sh (n := 10) (q := 3) (b := 456) hs hd (by decide) rfl (by decide) ?_
    refine tap_sh (n := 9) (q := 2) (b := 456) hs hd (by decide) rfl (by decide) ?_
    refine tap_sh (n := 8) (q := 1) (b := 456) hs hd (by decide) rfl (by decide) ?_
    refine tap_sh (n := 7) (q := 0) (b := 456) hs hd (by decide) rfl (by decide) ?_
    refine tap_hb (n := 6) (b := 456) hb hc (by decide) rfl (by decide) ?_
    refine tap_sh (n := 5) (q := 6) (b := 448) hs hd (by decide) rfl (by decide) ?_
    refine tap_sh (n := 4) (q := 5) (b := 448) hs hd (by decide) rfl (by decide) ?_
    refine tap_sh (n := 3) (q := 4) (b := 448) hs hd (by decide) rfl (by decide) ?_
    refine tap_sh (n := 2) (q := 3) (b := 448) hs hd (by decide) rfl (by decide) ?_
    refine tap_sh (n := 1) (q := 2) (b := 448) hs hd (by decide) rfl (by decide) ?_
    refine tap_sh (n := 0) (q := 1) (b := 448) hs hd (by decide) rfl (by decide) ?_
    exact isAcc_zero
  refine agrees_cons (fun x => out_piece (o := 416) ?_ x) ?_
  · have hb := hb4 c arg2 harg2 arg3 harg3 arg4 harg4 arg12 x0 x1 x2
    have hc := cb4 c arg2 harg2 arg3 harg3 arg4 harg4 arg12 x0 x1 x2
    have hs := sh4 c arg2 harg2 arg3 harg3 arg4 harg4 arg12 arg13 x0 x1 x2
    have hd := cs4 c arg2 harg2 arg3 harg3 arg4 harg4 arg12 arg13 x0 x1 x2
    refine tap_hb (n := 30) (b := 448) hb hc (by decide) rfl (by decide) ?_
    refine tap_sh (n := 29) (q := 6) (b := 440) hs hd (by decide) rfl (by decide) ?_
    refine tap_sh (n := 28) (q := 5) (b := 440) hs hd (by decide) rfl (by decide) ?_
    refine tap_sh (n := 27) (q := 4) (b := 440) hs hd (by decide) rfl (by decide) ?_
    refine tap_sh (n := 26) (q := 3) (b := 440) hs hd (by decide) rfl (by decide) ?_
    refine tap_sh (n := 25) (q := 2) (b := 440) hs hd (by decide) rfl (by decide) ?_
    refine tap_sh (n := 24) (q := 1) (b := 440) hs hd (by decide) rfl (by decide) ?_
    refine tap_sh (n := 23) (q := 0) (b := 440) hs hd (by decide) rfl (by decide) ?_
    refine tap_hb (n := 22) (b := 440) hb hc (by decide) rfl (by decide) ?_
    refine tap_sh (n := 21) (q := 6) (b := 432) hs hd (by decide) rfl (by decide) ?_
    refine tap_sh (n := 20) (q := 5) (b := 432) hs hd (by decide) rfl (by decide) ?_
    refine tap_sh (n := 19) (q := 4) (b := 432) hs hd (by decide) rfl (by decide) ?_
    refine tap_sh (n := 18) (q := 3) (b := 432) hs hd (by decide) rfl (by decide) ?_
    refine tap_sh (n := 17) (q := 2) (b := 432) hs hd (by decide) rfl (by decide) ?_
    refine tap_sh (n := 16) (q := 1) (b := 432) hs hd (by decide) rfl (by decide) ?_
    refine tap_sh (n := 15) (q := 0) (b := 432) hs hd (by decide) rfl (by decide) ?_
    refine tap_hb (n := 14) (b := 432) hb hc (by decide) rfl (by decide) ?_
    refine tap_sh (n := 13) (q := 6) (b := 424) hs hd (by decide) rfl (by decide) ?_
    refine tap_sh (n := 12) (q := 5) (b := 424) hs hd (by decide) rfl (by decide) ?_
    refine tap_sh (n := 11) (q := 4) (b := 424) hs hd (by decide) rfl (by decide) ?_
    refine tap_sh (n := 10) (q := 3) (b := 424) hs hd (by decide) rfl (by decide) ?_
    refine tap_sh (n := 9) (q := 2) (b := 424) hs hd (by decide) rfl (by decide) ?_
    refine tap_sh (n := 8) (q := 1) (b := 424) hs hd (by decide) rfl (by decide) ?_
    refine tap_sh (n := 7) (q := 0) (b := 424) hs hd (by decide) rfl (by decide) ?_
    refine tap_hb (n := 6) (b := 424) hb hc (by decide) rfl (by decide) ?_
    refine tap_sh (n := 5) (q := 6) (b := 416) hs hd (by decide) rfl (by decide) ?_
    refine tap_sh (n := 4) (q := 5) (b := 416) hs hd (by decide) rfl (by decide) ?_
    refine tap_sh (n := 3) (q := 4) (b := 416) hs hd (by decide) rfl (by decide) ?_
    refine tap_sh (n := 2) (q := 3) (b := 416) hs hd (by decide) rfl (by decide) ?_
    refine tap_sh (n := 1) (q := 2) (b := 416) hs hd (by decide) rfl (by decide) ?_
    refine tap_sh (n := 0) (q := 1) (b := 416) hs hd (by decide) rfl (by decide) ?_
    exact isAcc_zero
  refine agrees_cons (fun x => out_piece (o := 384) ?_ x) ?_
  · have hb := hb4 c arg2 harg2 arg3 harg3 arg4 harg4 arg12 x0 x1 x2
    have hc := cb4 c arg2 harg2 arg3 harg3 arg4 harg4 arg12 x0 x1 x2
    have hs := sh4 c arg2 harg2 arg3 harg3 arg4 harg4 arg12 arg13 x0 x1 x2
    have hd := cs4 c arg2 harg2 arg3 harg3 arg4 harg4 arg12 arg13 x0 x1 x2
    refine tap_hb (n := 30) (b := 416) hb hc (by decide) rfl (by decide) ?_
    refine tap_sh (n := 29) (q := 6) (b := 408) hs hd (by decide) rfl (by decide) ?_
    refine tap_sh (n := 28) (q := 5) (b := 408) hs hd (by decide) rfl (by decide) ?_
    refine tap_sh (n := 27) (q := 4) (b := 408) hs hd (by decide) rfl (by decide) ?_
    refine tap_sh (n := 26) (q := 3) (b := 408) hs hd (by decide) rfl (by decide) ?_
    refine tap_sh (n := 25) (q := 2) (b := 408) hs hd (by decide) rfl (by decide) ?_
    refine tap_sh (n := 24) (q := 1) (b := 408) hs hd (by decide) rfl (by decide) ?_
    refine tap_sh (n := 23) (q := 0) (b := 408) hs hd (by decide) rfl (by decide) ?_
    refine tap_hb (n := 22) (b := 408) hb hc (by decide) rfl (by decide) ?_
    refine tap_sh (n := 21) (q := 6) (b := 400) hs hd (by decide) rfl (by decide) ?_
    refine tap_sh (n := 20) (q := 5) (b := 400) hs hd (by decide) rfl (by decide) ?_
    refine tap_sh (n := 19) (q := 4) (b := 400) hs hd (by decide) rfl (by decide) ?_
    refine tap_sh (n := 18) (q := 3) (b := 400) hs hd (by decide) rfl (by decide) ?_
    refine tap_sh (n := 17) (q := 2) (b := 400) hs hd (by decide) rfl (by decide) ?_
    refine tap_sh (n := 16) (q := 1) (b := 400) hs hd (by decide) rfl (by decide) ?_
    refine tap_sh (n := 15) (q := 0) (b := 400) hs hd (by decide) rfl (by decide) ?_
    refine tap_hb (n := 14) (b := 400) hb hc (by decide) rfl (by decide) ?_
    refine tap_sh (n := 13) (q := 6) (b := 392) hs hd (by decide) rfl (by decide) ?_
    refine tap_sh (n := 12) (q := 5) (b := 392) hs hd (by decide) rfl (by decide) ?_
    refine tap_sh (n := 11) (q := 4) (b := 392) hs hd (by decide) rfl (by decide) ?_
    refine tap_sh (n := 10) (q := 3) (b := 392) hs hd (by decide) rfl (by decide) ?_
    refine tap_sh (n := 9) (q := 2) (b := 392) hs hd (by decide) rfl (by decide) ?_
    refine tap_sh (n := 8) (q := 1) (b := 392) hs hd (by decide) rfl (by decide) ?_
    refine tap_sh (n := 7) (q := 0) (b := 392) hs hd (by decide) rfl (by decide) ?_
    refine tap_hb (n := 6) (b := 392) hb hc (by decide) rfl (by decide) ?_
    refine tap_sh (n := 5) (q := 6) (b := 384) hs hd (by decide) rfl (by decide) ?_
    refine tap_sh (n := 4) (q := 5) (b := 384) hs hd (by decide) rfl (by decide) ?_
    refine tap_sh (n := 3) (q := 4) (b := 384) hs hd (by decide) rfl (by decide) ?_
    refine tap_sh (n := 2) (q := 3) (b := 384) hs hd (by decide) rfl (by decide) ?_
    refine tap_sh (n := 1) (q := 2) (b := 384) hs hd (by decide) rfl (by decide) ?_
    refine tap_sh (n := 0) (q := 1) (b := 384) hs hd (by decide) rfl (by decide) ?_
    exact isAcc_zero
  refine agrees_cons (fun x => out_piece (o := 352) ?_ x) ?_
  · have hb := hb3 c arg2 harg2 arg3 harg3 arg4 harg4 arg12 x0 x1 x2
    have hc := cb3 c arg2 harg2 arg3 harg3 arg4 harg4 arg12 x0 x1 x2
    have hs := sh3 c arg2 harg2 arg3 harg3 arg4 harg4 arg12 arg13 x0 x1 x2
    have hd := cs3 c arg2 harg2 arg3 harg3 arg4 harg4 arg12 arg13 x0 x1 x2
    refine tap_hb (n := 30) (b := 384) hb hc (by decide) rfl (by decide) ?_
    refine tap_sh (n := 29) (q := 6) (b := 376) hs hd (by decide) rfl (by decide) ?_
    refine tap_sh (n := 28) (q := 5) (b := 376) hs hd (by decide) rfl (by decide) ?_
    refine tap_sh (n := 27) (q := 4) (b := 376) hs hd (by decide) rfl (by decide) ?_
    refine tap_sh (n := 26) (q := 3) (b := 376) hs hd (by decide) rfl (by decide) ?_
    refine tap_sh (n := 25) (q := 2) (b := 376) hs hd (by decide) rfl (by decide) ?_
    refine tap_sh (n := 24) (q := 1) (b := 376) hs hd (by decide) rfl (by decide) ?_
    refine tap_sh (n := 23) (q := 0) (b := 376) hs hd (by decide) rfl (by decide) ?_
    refine tap_hb (n := 22) (b := 376) hb hc (by decide) rfl (by decide) ?_
    refine tap_sh (n := 21) (q := 6) (b := 368) hs hd (by decide) rfl (by decide) ?_
    refine tap_sh (n := 20) (q := 5) (b := 368) hs hd (by decide) rfl (by decide) ?_
    refine tap_sh (n := 19) (q := 4) (b := 368) hs hd (by decide) rfl (by decide) ?_
    refine tap_sh (n := 18) (q := 3) (b := 368) hs hd (by decide) rfl (by decide) ?_
    refine tap_sh (n := 17) (q := 2) (b := 368) hs hd (by decide) rfl (by decide) ?_
    refine tap_sh (n := 16) (q := 1) (b := 368) hs hd (by decide) rfl (by decide) ?_
    refine tap_sh (n := 15) (q := 0) (b := 368) hs hd (by decide) rfl (by decide) ?_
    refine tap_hb (n := 14) (b := 368) hb hc (by decide) rfl (by decide) ?_
    refine tap_sh (n := 13) (q := 6) (b := 360) hs hd (by decide) rfl (by decide) ?_
    refine tap_sh (n := 12) (q := 5) (b := 360) hs hd (by decide) rfl (by decide) ?_
    refine tap_sh (n := 11) (q := 4) (b := 360) hs hd (by decide) rfl (by decide) ?_
    refine tap_sh (n := 10) (q := 3) (b := 360) hs hd (by decide) rfl (by decide) ?_
    refine tap_sh (n := 9) (q := 2) (b := 360) hs hd (by decide) rfl (by decide) ?_
    refine tap_sh (n := 8) (q := 1) (b := 360) hs hd (by decide) rfl (by decide) ?_
    refine tap_sh (n := 7) (q := 0) (b := 360) hs hd (by decide) rfl (by decide) ?_
    refine tap_hb (n := 6) (b := 360) hb hc (by decide) rfl (by decide) ?_
    refine tap_sh (n := 5) (q := 6) (b := 352) hs hd (by decide) rfl (by decide) ?_
    refine tap_sh (n := 4) (q := 5) (b := 352) hs hd (by decide) rfl (by decide) ?_
    refine tap_sh (n := 3) (q := 4) (b := 352) hs hd (by decide) rfl (by decide) ?_
    refine tap_sh (n := 2) (q := 3) (b := 352) hs hd (by decide) rfl (by decide) ?_
    refine tap_sh (n := 1) (q := 2) (b := 352) hs hd (by decide) rfl (by decide) ?_
    refine tap_sh (n := 0) (q := 1) (b := 352) hs hd (by decide) rfl (by decide) ?_
    exact isAcc_zero
  refine agrees_cons (fun x => out_piece (o := 320) ?_ x) ?_
  · have hb := hb3 c arg2 harg2 arg3 harg3 arg4 harg4 arg12 x0 x1 x2
    have hc := cb3 c arg2 harg2 arg3 harg3 arg4 harg4 arg12 x0 x1 x2
    have hs := sh3 c arg2 harg2 arg3 harg3 arg4 harg4 arg12 arg13 x0 x1 x2
    have hd := cs3 c arg2 harg2 arg3 harg3 arg4 harg4 arg12 arg13 x0 x1 x2
    refine tap_hb (n := 30) (b := 352) hb hc (by decide) rfl (by decide) ?_
    refine tap_sh (n := 29) (q := 6) (b := 344) hs hd (by decide) rfl (by decide) ?_
    refine tap_sh (n := 28) (q := 5) (b := 344) hs hd (by decide) rfl (by decide) ?_
    refine tap_sh (n := 27) (q := 4) (b := 344) hs hd (by decide) rfl (by decide) ?_
    refine tap_sh (n := 26) (q := 3) (b := 344) hs hd (by decide) rfl (by decide) ?_
    refine tap_sh (n := 25) (q := 2) (b := 344) hs hd (by decide) rfl (by decide) ?_
    refine tap_sh (n := 24) (q := 1) (b := 344) hs hd (by decide) rfl (by decide) ?_
    refine tap_sh (n := 23) (q := 0) (b := 344) hs hd (by decide) rfl (by decide) ?_
    refine tap_hb (n := 22) (b := 344) hb hc (by decide) rfl (by decide) ?_
    refine tap_sh (n := 21) (q := 6) (b := 336) hs hd (by decide) rfl (by decide) ?_
    refine tap_sh (n := 20) (q := 5) (b := 336) hs hd (by decide) rfl (by decide) ?_
    refine tap_sh (n := 19) (q := 4) (b := 336) hs hd (by decide) rfl (by decide) ?_
    refine tap_sh (n := 18) (q := 3) (b := 336) hs hd (by decide) rfl (by decide) ?_
    refine tap_sh (n := 17) (q := 2) (b := 336) hs hd (by decide) rfl (by decide) ?_
    refine tap_sh (n := 16) (q := 1) (b := 336) hs hd (by decide) rfl (by decide) ?_
    refine tap_sh (n := 15) (q := 0) (b := 336) hs hd (by decide) rfl (by decide) ?_
    refine tap_hb (n := 14) (b := 336) hb hc (by decide) rfl (by decide) ?_
    refine tap_sh (n := 13) (q := 6) (b := 328) hs hd (by decide) rfl (by decide) ?_
    refine tap_sh (n := 12) (q := 5) (b := 328) hs hd (by decide) rfl (by decide) ?_
    refine tap_sh (n := 11) (q := 4) (b := 328) hs hd (by decide) rfl (by decide) ?_
    refine tap_sh (n := 10) (q := 3) (b := 328) hs hd (by decide) rfl (by decide) ?_
    refine tap_sh (n := 9) (q := 2) (b := 328) hs hd (by decide) rfl (by decide) ?_
    refine tap_sh (n := 8) (q := 1) (b := 328) hs hd (by decide) rfl (by decide) ?_
    refine tap_sh (n := 7) (q := 0) (b := 328) hs hd (by decide) rfl (by decide) ?_
    refine tap_hb (n := 6) (b := 328) hb hc (by decide) rfl (by decide) ?_
    refine tap_sh (n := 5) (q := 6) (b := 320) hs hd (by decide) rfl (by decide) ?_
    refine tap_sh (n := 4) (q := 5) (b := 320) hs hd (by decide) rfl (by decide) ?_
    refine tap_sh (n := 3) (q := 4) (b := 320) hs hd (by decide) rfl (by decide) ?_
    refine tap_sh (n := 2) (q := 3) (b := 320) hs hd (by decide) rfl (by decide) ?_
    refine tap_sh (n := 1) (q := 2) (b := 320) hs hd (by decide) rfl (by decide) ?_
    refine tap_sh (n := 0) (q := 1) (b := 320) hs hd (by decide) rfl (by decide) ?_
    exact isAcc_zero
  refine agrees_cons (fun x => out_piece (o := 288) ?_ x) ?_
  · have hb := hb3 c arg2 harg2 arg3 harg3 arg4 harg4 arg12 x0 x1 x2
    have hc := cb3 c arg2 harg2 arg3 harg3 arg4 harg4 arg12 x0 x1 x2
    have hs := sh3 c arg2 harg2 arg3 harg3 arg4 harg4 arg12 arg13 x0 x1 x2
    have hd := cs3 c arg2 harg2 arg3 harg3 arg4 harg4 arg12 arg13 x0 x1 x2
    refine tap_hb (n := 30) (b := 320) hb hc (by decide) rfl (by decide) ?_
    refine tap_sh (n := 29) (q := 6) (b := 312) hs hd (by decide) rfl (by decide) ?_
    refine tap_sh (n := 28) (q := 5) (b := 312) hs hd (by decide) rfl (by decide) ?_
    refine tap_sh (n := 27) (q := 4) (b := 312) hs hd (by decide) rfl (by decide) ?_
    refine tap_sh (n := 26) (q := 3) (b := 312) hs hd (by decide) rfl (by decide) ?_
    refine tap_sh (n := 25) (q := 2) (b := 312) hs hd (by decide) rfl (by decide) ?_
    refine tap_sh (n := 24) (q := 1) (b := 312) hs hd (by decide) rfl (by decide) ?_
    refine tap_sh (n := 23) (q := 0) (b := 312) hs hd (by decide) rfl (by decide) ?_
    refine tap_hb (n := 22) (b := 312) hb hc (by decide) rfl (by decide) ?_
    refine tap_sh (n := 21) (q := 6) (b := 304) hs hd (by decide) rfl (by decide) ?_
    refine tap_sh (n := 20) (q := 5) (b := 304) hs hd (by decide) rfl (by decide) ?_
    refine tap_sh (n := 19) (q := 4) (b := 304) hs hd (by decide) rfl (by decide) ?_
    refine tap_sh (n := 18) (q := 3) (b := 304) hs hd (by decide) rfl (by decide) ?_
    refine tap_sh (n := 17) (q := 2) (b := 304) hs hd (by decide) rfl (by decide) ?_
    refine tap_sh (n := 16) (q := 1) (b := 304) hs hd (by decide) rfl (by decide) ?_
    refine tap_sh (n := 15) (q := 0) (b := 304) hs hd (by decide) rfl (by decide) ?_
    refine tap_hb (n := 14) (b := 304) hb hc (by decide) rfl (by decide) ?_
    refine tap_sh (n := 13) (q := 6) (b := 296) hs hd (by decide) rfl (by decide) ?_
    refine tap_sh (n := 12) (q := 5) (b := 296) hs hd (by decide) rfl (by decide) ?_
    refine tap_sh (n := 11) (q := 4) (b := 296) hs hd (by decide) rfl (by decide) ?_
    refine tap_sh (n := 10) (q := 3) (b := 296) hs hd (by decide) rfl (by decide) ?_
    refine tap_sh (n := 9) (q := 2) (b := 296) hs hd (by decide) rfl (by decide) ?_
    refine tap_sh (n := 8) (q := 1) (b := 296) hs hd (by decide) rfl (by decide) ?_
    refine tap_sh (n := 7) (q := 0) (b := 296) hs hd (by decide) rfl (by decide) ?_
    refine tap_hb (n := 6) (b := 296) hb hc (by decide) rfl (by decide) ?_
    refine tap_sh (n := 5) (q := 6) (b := 288) hs hd (by decide) rfl (by decide) ?_
    refine tap_sh (n := 4) (q := 5) (b := 288) hs hd (by decide) rfl (by decide) ?_
    refine tap_sh (n := 3) (q := 4) (b := 288) hs hd (by decide) rfl (by decide) ?_
    refine tap_sh (n := 2) (q := 3) (b := 288) hs hd (by decide) rfl (by decide) ?_
    refine tap_sh (n := 1) (q := 2) (b := 288) hs hd (by decide) rfl (by decide) ?_
    refine tap_sh (n := 0) (q := 1) (b := 288) hs hd (by decide) rfl (by decide) ?_
    exact isAcc_zero
  refine agrees_cons (fun x => out_piece (o := 256) ?_ x) ?_
  · have hb := hb3 c arg2 harg2 arg3 harg3 arg4 harg4 arg12 x0 x1 x2
    have hc := cb3 c arg2 harg2 arg3 harg3 arg4 harg4 arg12 x0 x1 x2
    have hs := sh3 c arg2 harg2 arg3 harg3 arg4 harg4 arg12 arg13 x0 x1 x2
    have hd := cs3 c arg2 harg2 arg3 harg3 arg4 harg4 arg12 arg13 x0 x1 x2
    refine tap_hb (n := 30) (b := 288) hb hc (by decide) rfl (by decide) ?_
    refine tap_sh (n := 29) (q := 6) (b := 280) hs hd (by decide) rfl (by decide) ?_
    refine tap_sh (n := 28) (q := 5) (b := 280) hs hd (by decide) rfl (by decide) ?_
    refine tap_sh (n := 27) (q := 4) (b := 280) hs hd (by decide) rfl (by decide) ?_
    refine tap_sh (n := 26) (q := 3) (b := 280) hs hd (by decide) rfl (by decide) ?_
    refine tap_sh (n := 25) (q := 2) (b := 280) hs hd (by decide) rfl (by decide) ?_
    refine tap_sh (n := 24) (q := 1) (b := 280) hs hd (by decide) rfl (by decide) ?_
    refine tap_sh (n := 23) (q := 0) (b := 280) hs hd (by decide) rfl (by decide) ?_
    refine tap_hb (n := 22) (b := 280) hb hc (by decide) rfl (by decide) ?_
    refine tap_sh (n := 21) (q := 6) (b := 272) hs hd (by decide) rfl (by decide) ?_
    refine tap_sh (n := 20) (q := 5) (b := 272) hs hd (by decide) rfl (by decide) ?_
    refine tap_sh (n := 19) (q := 4) (b := 272) hs hd (by decide) rfl (by decide) ?_
    refine tap_sh (n := 18) (q := 3) (b := 272) hs hd (by decide) rfl (by decide) ?_
    refine tap_sh (n := 17) (q := 2) (b := 272) hs hd (by decide) rfl (by decide) ?_
    refine tap_sh (n := 16) (q := 1) (b := 272) hs hd (by decide) rfl (by decide) ?_
    refine tap_sh (n := 15) (q := 0) (b := 272) hs hd (by decide) rfl (by decide) ?_
    refine tap_hb (n := 14) (b := 272) hb hc (by decide) rfl (by decide) ?_
    refine tap_sh (n := 13) (q := 6) (b := 264) hs hd (by decide) rfl (by decide) ?_
    refine tap_sh (n := 12) (q := 5) (b := 264) hs hd (by decide) rfl (by decide) ?_
    refine tap_sh (n := 11) (q := 4) (b := 264) hs hd (by decide) rfl (by decide) ?_
    refine tap_sh (n := 10) (q := 3) (b := 264) hs hd (by decide) rfl (by decide) ?_
    refine tap_sh (n := 9) (q := 2) (b := 264) hs hd (by decide) rfl (by decide) ?_
    refine tap_sh (n := 8) (q := 1) (b := 264) hs hd (by decide) rfl (by decide) ?_
    refine tap_sh (n := 7) (q := 0) (b := 264) hs hd (by decide) rfl (by decide) ?_
    refine tap_hb (n := 6) (b := 264) hb hc (by decide) rfl (by decide) ?_
    refine tap_sh (n := 5) (q := 6) (b := 256) hs hd (by decide) rfl (by decide) ?_
    refine tap_sh (n := 4) (q := 5) (b := 256) hs hd (by decide) rfl (by decide) ?_
    refine tap_sh (n := 3) (q := 4) (b := 256) hs hd (by decide) rfl (by decide) ?_
    refine tap_sh (n := 2) (q := 3) (b := 256) hs hd (by decide) rfl (by decide) ?_
    refine tap_sh (n := 1) (q := 2) (b := 256) hs hd (by decide) rfl (by decide) ?_
    refine tap_sh (n := 0) (q := 1) (b := 256) hs hd (by decide) rfl (by decide) ?_
    exact isAcc_zero
  refine agrees_cons (fun x => out_piece (o := 224) ?_ x) ?_
  · have hb := hb2 c arg2 harg2 arg3 harg3 arg4 harg4 arg12 x0 x1 x2
    have hc := cb2 c arg2 harg2 arg3 harg3 arg4 harg4 arg12 x0 x1 x2
    have hs := sh2 c arg2 harg2 arg3 harg3 arg4 harg4 arg12 arg13 x0 x1 x2
    have hd := cs2 c arg2 harg2 arg3 harg3 arg4 harg4 arg12 arg13 x0 x1 x2
    refine tap_hb (n := 30) (b := 256) hb hc (by decide) rfl (by decide) ?_
    refine tap_sh (n := 29) (q := 6) (b := 248) hs hd (by decide) rfl (by decide) ?_
    refine tap_sh (n := 28) (q := 5) (b := 248) hs hd (by decide) rfl (by decide) ?_
    refine tap_sh (n := 27) (q := 4) (b := 248) hs hd (by decide) rfl (by decide) ?_
    refine tap_sh (n := 26) (q := 3) (b := 248) hs hd (by decide) rfl (by decide) ?_
    refine tap_sh (n := 25) (q := 2) (b := 248) hs hd (by decide) rfl (by decide) ?_
    refine tap_sh (n := 24) (q := 1) (b := 248) hs hd (by decide) rfl (by decide) ?_
    refine tap_sh (n := 23) (q := 0) (b := 248) hs hd (by decide) rfl (by decide) ?_
    refine tap_hb (n := 22) (b := 248) hb hc (by decide) rfl (by decide) ?_
    refine tap_sh (n := 21) (q := 6) (b := 240) hs hd (by decide) rfl (by decide) ?_
    refine tap_sh (n := 20) (q := 5) (b := 240) hs hd (by decide) rfl (by decide) ?_
    refine tap_sh (n := 19) (q := 4) (b := 240) hs hd (by decide) rfl (by decide) ?_
    refine tap_sh (n := 18) (q := 3) (b := 240) hs hd (by decide) rfl (by decide) ?_
    refine tap_sh (n := 17) (q := 2) (b := 240) hs hd (by decide) rfl (by decide) ?_
    refine tap_sh (n := 16) (q := 1) (b := 240) hs hd (by decide) rfl (by decide) ?_
    refine tap_sh (n := 15) (q := 0) (b := 240) hs hd (by decide) rfl (by decide) ?_
    refine tap_hb (n := 14) (b := 240) hb hc (by decide) rfl (by decide) ?_
    refine tap_sh (n := 13) (q := 6) (b := 232) hs hd (by decide) rfl (by decide) ?_
    refine tap_sh (n := 12) (q := 5) (b := 232) hs hd (by decide) rfl (by decide) ?_
    refine tap_sh (n := 11) (q := 4) (b := 232) hs hd (by decide) rfl (by decide) ?_
    refine tap_sh (n := 10) (q := 3) (b := 232) hs hd (by decide) rfl (by decide) ?_
    refine tap_sh (n := 9) (q := 2) (b := 232) hs hd (by decide) rfl (by decide) ?_
    refine tap_sh (n := 8) (q := 1) (b := 232) hs hd (by decide) rfl (by decide) ?_
    refine tap_sh (n := 7) (q := 0) (b := 232) hs hd (by decide) rfl (by decide) ?_
    refine tap_hb (n := 6) (b := 232) hb hc (by decide) rfl (by decide) ?_
    refine tap_sh (n := 5) (q := 6) (b := 224) hs hd (by decide) rfl (by decide) ?_
    refine tap_sh (n := 4) (q := 5) (b := 224) hs hd (by decide) rfl (by decide) ?_
    refine tap_sh (n := 3) (q := 4) (b := 224) hs hd (by decide) rfl (by decide) ?_
    refine tap_sh (n := 2) (q := 3) (b := 224) hs hd (by decide) rfl (by decide) ?_
    refine tap_sh (n := 1) (q := 2) (b := 224) hs hd (by decide) rfl (by decide) ?_
    refine tap_sh (n := 0) (q := 1) (b := 224) hs hd (by decide) rfl (by decide) ?_
    exact isAcc_zero
  refine agrees_cons (fun x => out_piece (o := 192) ?_ x) ?_
  · have hb := hb2 c arg2 harg2 arg3 harg3 arg4 harg4 arg12 x0 x1 x2
    have hc := cb2 c arg2 harg2 arg3 harg3 arg4 harg4 arg12 x0 x1 x2
    have hs := sh2 c arg2 harg2 arg3 harg3 arg4 harg4 arg12 arg13 x0 x1 x2
    have hd := cs2 c arg2 harg2 arg3 harg3 arg4 harg4 arg12 arg13 x0 x1 x2
    refine tap_hb (n := 30) (b := 224) hb hc (by decide) rfl (by decide) ?_
    refine tap_sh (n := 29) (q := 6) (b := 216) hs hd (by decide) rfl (by decide) ?_
    refine tap_sh (n := 28) (q := 5) (b := 216) hs hd (by decide) rfl (by decide) ?_
    refine tap_sh (n := 27) (q := 4) (b := 216) hs hd (by decide) rfl (by decide) ?_
    refine tap_sh (n := 26) (q := 3) (b := 216) hs hd (by decide) rfl (by decide) ?_
    refine tap_sh (n := 25) (q := 2) (b := 216) hs hd (by decide) rfl (by decide) ?_
    refine tap_sh (n := 24) (q := 1) (b := 216) hs hd (by decide) rfl (by decide) ?_
    refine tap_sh (n := 23) (q := 0) (b := 216) hs hd (by decide) rfl (by decide) ?_
    refine tap_hb (n := 22) (b := 216) hb hc (by decide) rfl (by decide) ?_
    refine tap_sh (n := 21) (q := 6) (b := 208) hs hd (by decide) rfl (by decide) ?_
    refine tap_sh (n := 20) (q := 5) (b := 208) hs hd (by decide) rfl (by decide) ?_
    refine tap_sh (n := 19) (q := 4) (b := 208) hs hd (by decide) rfl (by decide) ?_
    refine tap_sh (n := 18) (q := 3) (b := 208) hs hd (by decide) rfl (by decide) ?_
    refine tap_sh (n := 17) (q := 2) (b := 208) hs hd (by decide) rfl (by decide) ?_
    refine tap_sh (n := 16) (q := 1) (b := 208) hs hd (by decide) rfl (by decide) ?_
    refine tap_sh (n := 15) (q := 0) (b := 208) hs hd (by decide) rfl (by decide) ?_
    refine tap_hb (n := 14) (b := 208) hb hc (by decide) rfl (by decide) ?_
    refine tap_sh (n := 13) (q := 6) (b := 200) hs hd (by decide) rfl (by decide) ?_
    refine tap_sh (n := 12) (q := 5) (b := 200) hs hd (by decide) rfl (by decide) ?_
    refine tap_sh (n := 11) (q := 4) (b := 200) hs hd (by decide) rfl (by decide) ?_
    refine tap_sh (n := 10) (q := 3) (b := 200) hs hd (by decide) rfl (by decide) ?_
    refine tap_sh (n := 9) (q := 2) (b := 200) hs hd (by decide) rfl (by decide) ?_
    refine tap_sh (n := 8) (q := 1) (b := 200) hs hd (by decide) rfl (by decide) ?_
    refine tap_sh (n := 7) (q := 0) (b := 200) hs hd (by decide) rfl (by decide) ?_
    refine tap_hb (n := 6) (b := 200) hb hc (by decide) rfl (by decide) ?_
    refine tap_sh (n := 5) (q := 6) (b := 192) hs hd (by decide) rfl (by decide) ?_
    refine tap_sh (n := 4) (q := 5) (b := 192) hs hd (by decide) rfl (by decide) ?_
    refine tap_sh (n := 3) (q := 4) (b := 192) hs hd (by decide) rfl (by decide) ?_
    refine tap_sh (n := 2) (q := 3) (b := 192) hs hd (by decide) rfl (by decide) ?_
    refine tap_sh (n := 1) (q := 2) (b := 192) hs hd (by decide) rfl (by decide) ?_
    refine tap_sh (n := 0) (q := 1) (b := 192) hs hd (by decide) rfl (by decide) ?_
    exact isAcc_zero
  refine agrees_cons (fun x => out_piece (o := 160) ?_ x) ?_
  · have hb := hb2 c arg2 harg2 arg3 harg3 arg4 harg4 arg12 x0 x1 x2
    have hc := cb2 c arg2 harg2 arg3 harg3 arg4 harg4 arg12 x0 x1 x2
    have hs := sh2 c arg2 harg2 arg3 harg3 arg4 harg4 arg12 arg13 x0 x1 x2
    have hd := cs2 c arg2 harg2 arg3 harg3 arg4 harg4 arg12 arg13 x0 x1 x2
    refine tap_hb (n := 30) (b := 192) hb hc (by decide) rfl (by decide) ?_
    refine tap_sh (n := 29) (q := 6) (b := 184) hs hd (by decide) rfl (by decide) ?_
    refine tap_sh (n := 28) (q := 5) (b := 184) hs hd (by decide) rfl (by decide) ?_
    refine tap_sh (n := 27) (q := 4) (b := 184) hs hd (by decide) rfl (by decide) ?_
    refine tap_sh (n := 26) (q := 3) (b := 184) hs hd (by decide) rfl (by decide) ?_
    refine tap_sh (n := 25) (q := 2) (b := 184) hs hd (by decide) rfl (by decide) ?_
    refine tap_sh (n := 24) (q := 1) (b := 184) hs hd (by decide) rfl (by decide) ?_
    refine tap_sh (n := 23) (q := 0) (b := 184) hs hd (by decide) rfl (by decide) ?_
    refine tap_hb (n := 22) (b := 184) hb hc (by decide) rfl (by decide) ?_
    refine tap_sh (n := 21) (q := 6) (b := 176) hs hd (by decide) rfl (by decide) ?_
    refine tap_sh (n := 20) (q := 5) (b := 176) hs hd (by decide) rfl (by decide) ?_
    refine tap_sh (n := 19) (q := 4) (b := 176) hs hd (by decide) rfl (by decide) ?_
    refine tap_sh (n := 18) (q := 3) (b := 176) hs hd (by decide) rfl (by decide) ?_
    refine tap_sh (n := 17) (q := 2) (b := 176) hs hd (by decide) rfl (by decide) ?_
    refine tap_sh (n := 16) (q := 1) (b := 176) hs hd (by decide) rfl (by decide) ?_
    refine tap_sh (n := 15) (q := 0) (b := 176) hs hd (by decide) rfl (by decide) ?_
    refine tap_hb (n := 14) (b := 176) hb hc (by decide) rfl (by decide) ?_
    refine tap_sh (n := 13) (q := 6) (b := 168) hs hd (by decide) rfl (by decide) ?_
    refine tap_sh (n := 12) (q := 5) (b := 168) hs hd (by decide) rfl (by decide) ?_
    refine tap_sh (n := 11) (q := 4) (b := 168) hs hd (by decide) rfl (by decide) ?_
    refine tap_sh (n := 10) (q := 3) (b := 168) hs hd (by decide) rfl (by decide) ?_
    refine tap_sh (n := 9) (q := 2) (b := 168) hs hd (by decide) rfl (by decide) ?_
    refine tap_sh (n := 8) (q := 1) (b := 168) hs hd (by decide) rfl (by decide) ?_
    refine tap_sh (n := 7) (q := 0) (b := 168) hs hd (by decide) rfl (by decide) ?_
    refine tap_hb (n := 6) (b := 168) hb hc (by decide) rfl (by decide) ?_
    refine tap_sh (n := 5) (q := 6) (b := 160) hs hd (by decide) rfl (by decide) ?_
    refine tap_sh (n := 4) (q := 5) (b := 160) hs hd (by decide) rfl (by decide) ?_
    refine tap_sh (n := 3) (q := 4) (b := 160) hs hd (by decide) rfl (by decide) ?_
    refine tap_sh (n := 2) (q := 3) (b := 160) hs hd (by decide) rfl (by decide) ?_
    refine tap_sh (n := 1) (q := 2) (b := 160) hs hd (by decide) rfl (by decide) ?_
    refine tap_sh (n := 0) (q := 1) (b := 160) hs hd (by decide) rfl (by decide) ?_
    exact isAcc_zero
  refine agrees_cons (fun x => out_piece (o := 128) ?_ x) ?_
  · have hb := hb2 c arg2 harg2 arg3 harg3 arg4 harg4 arg12 x0 x1 x2
    have hc := cb2 c arg2 harg2 arg3 harg3 arg4 harg4 arg12 x0 x1 x2
    have hs := sh2 c arg2 harg2 arg3 harg3 arg4 harg4 arg12 arg13 x0 x1 x2
    have hd := cs2 c arg2 harg2 arg3 harg3 arg4 harg4 arg12 arg13 x0 x1 x2
    refine tap_hb (n := 30) (b := 160) hb hc (by decide) rfl (by decide) ?_
    refine tap_sh (n := 29) (q := 6) (b := 152) hs hd (by decide) rfl (by decide) ?_
    refine tap_sh (n := 28) (q := 5) (b := 152) hs hd (by decide) rfl (by decide) ?_
    refine tap_sh (n := 27) (q := 4) (b := 152) hs hd (by decide) rfl (by decide) ?_
    refine tap_sh (n := 26) (q := 3) (b := 152) hs hd (by decide) rfl (by decide) ?_
    refine tap_sh (n := 25) (q := 2) (b := 152) hs hd (by decide) rfl (by decide) ?_
    refine tap_sh (n := 24) (q := 1) (b := 152) hs hd (by decide) rfl (by decide) ?_
    refine tap_sh (n := 23) (q := 0) (b := 152) hs hd (by decide) rfl (by decide) ?_
    refine tap_hb (n := 22) (b := 152) hb hc (by decide) rfl (by decide) ?_
    refine tap_sh (n := 21) (q := 6) (b := 144) hs hd (by decide) rfl (by decide) ?_
    refine tap_sh (n := 20) (q := 5) (b := 144) hs hd (by decide) rfl (by decide) ?_
    refine tap_sh (n := 19) (q := 4) (b := 144) hs hd (by decide) rfl (by decide) ?_
    refine tap_sh (n := 18) (q := 3) (b := 144) hs hd (by decide) rfl (by decide) ?_
    refine tap_sh (n := 17) (q := 2) (b := 144) hs hd (by decide) rfl (by decide) ?_
    refine tap_sh (n := 16) (q := 1) (b := 144) hs hd (by decide) rfl (by decide) ?_
    refine tap_sh (n := 15) (q := 0) (b := 144) hs hd (by decide) rfl (by decide) ?_
    refine tap_hb (n := 14) (b := 144) hb hc (by decide) rfl (by decide) ?_
    refine tap_sh (n := 13) (q := 6) (b := 136) hs hd (by decide) rfl (by decide) ?_
    refine tap_sh (n := 12) (q := 5) (b := 136) hs hd (by decide) rfl (by decide) ?_
    refine tap_sh (n := 11) (q := 4) (b := 136) hs hd (by decide) rfl (by decide) ?_
    refine tap_sh (n := 10) (q := 3) (b := 136) hs hd (by decide) rfl (by decide) ?_
    refine tap_sh (n := 9) (q := 2) (b := 136) hs hd (by decide) rfl (by decide) ?_
    refine tap_sh (n := 8) (q := 1) (b := 136) hs hd (by decide) rfl (by decide) ?_
    refine tap_sh (n := 7) (q := 0) (b := 136) hs hd (by decide) rfl (by decide) ?_
    refine tap_hb (n := 6) (b := 136) hb hc (by decide) rfl (by decide) ?_
    refine tap_sh (n := 5) (q := 6) (b := 128) hs hd (by decide) rfl (by decide) ?_
    refine tap_sh (n := 4) (q := 5) (b := 128) hs hd (by decide) rfl (by decide) ?_
    refine tap_sh (n := 3) (q := 4) (b := 128) hs hd (by decide) rfl (by decide) ?_
    refine tap_sh (n := 2) (q := 3) (b := 128) hs hd (by decide) rfl (by decide) ?_
    refine tap_sh (n := 1) (q := 2) (b := 128) hs hd (by decide) rfl (by decide) ?_
    refine tap_sh (n := 0) (q := 1) (b := 128) hs hd (by decide) rfl (by decide) ?_
    exact isAcc_zero
  refine agrees_cons (fun x => out_piece (o := 96) ?_ x) ?_
  · have hb := hb1 c arg2 harg2 arg3 harg3 arg4 harg4 arg12 x0 x1 x2
    have hc := cb1 c arg2 harg2 arg3 harg3 arg4 harg4 arg12 x0 x1 x2
    have hs := sh1 c arg2 harg2 arg3 harg3 arg4 harg4 arg12 arg13 x0 x1 x2
    have hd := cs1 c arg2 harg2 arg3 harg3 arg4 harg4 arg12 arg13 x0 x1 x2
    refine tap_hb (n := 30) (b := 128) hb hc (by decide) rfl (by decide) ?_
    refine tap_sh (n := 29) (q := 6) (b := 120) hs hd (by decide) rfl (by decide) ?_
    refine tap_sh (n := 28) (q := 5) (b := 120) hs hd (by decide) rfl (by decide) ?_
    refine tap_sh (n := 27) (q := 4) (b := 120) hs hd (by decide) rfl (by decide) ?_
    refine tap_sh (n := 26) (q := 3) (b := 120) hs hd (by decide) rfl (by decide) ?_
    refine tap_sh (n := 25) (q := 2) (b := 120) hs hd (by decide) rfl (by decide) ?_
    refine tap_sh (n := 24) (q := 1) (b := 120) hs hd (by decide) rfl (by decide) ?_
    refine tap_sh (n := 23) (q := 0) (b := 120) hs hd (by decide) rfl (by decide) ?_
    refine tap_hb (n := 22) (b := 120) hb hc (by decide) rfl (by decide) ?_
    refine tap_sh (n := 21) (q := 6) (b := 112) hs hd (by decide) rfl (by decide) ?_
    refine tap_sh (n := 20) (q := 5) (b := 112) hs hd (by decide) rfl (by decide) ?_
    refine tap_sh (n := 19) (q := 4) (b := 112) hs hd (by decide) rfl (by decide) ?_
    refine tap_sh (n := 18) (q := 3) (b := 112) hs hd (by decide) rfl (by decide) ?_
    refine tap_sh (n := 17) (q := 2) (b := 112) hs hd (by decide) rfl (by decide) ?_
    refine tap_sh (n := 16) (q := 1) (b := 112) hs hd (by decide) rfl (by decide) ?_
    refine tap_sh (n := 15) (q := 0) (b := 112) hs hd (by decide) rfl (by decide) ?_
    refine tap_hb (n := 14) (b := 112) hb hc (by decide) rfl (by decide) ?_
    refine tap_sh (n := 13) (q := 6) (b := 104) hs hd (by decide) rfl (by decide) ?_
    refine tap_sh (n := 12) (q := 5) (b := 104) hs hd (by decide) rfl (by decide) ?_
    refine tap_sh (n := 11) (q := 4) (b := 104) hs hd (by decide) rfl (by decide) ?_
    refine tap_sh (n := 10) (q := 3) (b := 104) hs hd (by decide) rfl (by decide) ?_
    refine tap_sh (n := 9) (q := 2) (b := 104) hs hd (by decide) rfl (by decide) ?_
    refine tap_sh (n := 8) (q := 1) (b := 104) hs hd (by decide) rfl (by decide) ?_
    refine tap_sh (n := 7) (q := 0) (b := 104) hs hd (by decide) rfl (by decide) ?_
    refine tap_hb (n := 6) (b := 104) hb hc (by decide) rfl (by decide) ?_
    refine tap_sh (n := 5) (q := 6) (b := 96) hs hd (by decide) rfl (by decide) ?_
    refine tap_sh (n := 4) (q := 5) (b := 96) hs hd (by decide) rfl (by decide) ?_
    refine tap_sh (n := 3) (q := 4) (b := 96) hs hd (by decide) rfl (by decide) ?_
    refine tap_sh (n := 2) (q := 3) (b := 96) hs hd (by decide) rfl (by decide) ?_
    refine tap_sh (n := 1) (q := 2) (b := 96) hs hd (by decide) rfl (by decide) ?_
    refine tap_sh (n := 0) (q := 1) (b := 96) hs hd (by decide) rfl (by decide) ?_
    exact isAcc_zero
  refine agrees_cons (fun x => out_piece (o := 64) ?_ x) ?_
  · have hb := hb1 c arg2 harg2 arg3 harg3 arg4 harg4 arg12 x0 x1 x2
    have hc := cb1 c arg2 harg2 arg3 harg3 arg4 harg4 arg12 x0 x1 x2
    have hs := sh1 c arg2 harg2 arg3 harg3 arg4 harg4 arg12 arg13 x0 x1 x2
    have hd := cs1 c arg2 harg2 arg3 harg3 arg4 harg4 arg12 arg13 x0 x1 x2
    refine tap_hb (n := 30) (b := 96) hb hc (by decide) rfl (by decide) ?_
    refine tap_sh (n := 29) (q := 6) (b := 88) hs hd (by decide) rfl (by decide) ?_
    refine tap_sh (n := 28) (q := 5) (b := 88) hs hd (by decide) rfl (by decide) ?_
    refine tap_sh (n := 27) (q := 4) (b := 88) hs hd (by decide) rfl (by decide) ?_
    refine tap_sh (n := 26) (q := 3) (b := 88) hs hd (by decide) rfl (by decide) ?_
    refine tap_sh (n := 25) (q := 2) (b := 88) hs hd (by decide) rfl (by decide) ?_
    refine tap_sh (n := 24) (q := 1) (b := 88) hs hd (by decide) rfl (by decide) ?_
    refine tap_sh (n := 23) (q := 0) (b := 88) hs hd (by decide) rfl (by decide) ?_
    refine tap_hb (n := 22) (b := 88) hb hc (by decide) rfl (by decide) ?_
    refine tap_sh (n := 21) (q := 6) (b := 80) hs hd (by decide) rfl (by decide) ?_
    refine tap_sh (n := 20) (q := 5) (b := 80) hs hd (by decide) rfl (by decide) ?_
    refine tap_sh (n := 19) (q := 4) (b := 80) hs hd (by decide) rfl (by decide) ?_
    refine tap_sh (n := 18) (q := 3) (b := 80) hs hd (by decide) rfl (by decide) ?_
    refine tap_sh (n := 17) (q := 2) (b := 80) hs hd (by decide) rfl (by decide) ?_
    refine tap_sh (n := 16) (q := 1) (b := 80) hs hd (by decide) rfl (by decide) ?_
    refine tap_sh (n := 15) (q := 0) (b := 80) hs hd (by decide) rfl (by decide) ?_
    refine tap_hb (n := 14) (b := 80) hb hc (by decide) rfl (by decide) ?_
    refine tap_sh (n := 13) (q := 6) (b := 72) hs hd (by decide) rfl (by decide) ?_
    refine tap_sh (n := 12) (q := 5) (b := 72) hs hd (by decide) rfl (by decide) ?_
    refine tap_sh (n := 11) (q := 4) (b := 72) hs hd (by decide) rfl (by decide) ?_
    refine tap_sh (n := 10) (q := 3) (b := 72) hs hd (by decide) rfl (by decide) ?_
    refine tap_sh (n := 9) (q := 2) (b := 72) hs hd (by decide) rfl (by decide) ?_
    refine tap_sh (n := 8) (q := 1) (b := 72) hs hd (by decide) rfl (by decide) ?_
    refine tap_sh (n := 7) (q := 0) (b := 72) hs hd (by decide) rfl (by decide) ?_
    refine tap_hb (n := 6) (b := 72) hb hc (by decide) rfl (by decide) ?_
    refine tap_sh (n := 5) (q := 6) (b := 64) hs hd (by decide) rfl (by decide) ?_
    refine tap_sh (n := 4) (q := 5) (b := 64) hs hd (by decide) rfl (by decide) ?_
    refine tap_sh (n := 3) (q := 4) (b := 64) hs hd (by decide) rfl (by decide) ?_
    refine tap_sh (n := 2) (q := 3) (b := 64) hs hd (by decide) rfl (by decide) ?_
    refine tap_sh (n := 1) (q := 2) (b := 64) hs hd (by decide) rfl (by decide) ?_
    refine tap_sh (n := 0) (q := 1) (b := 64) hs hd (by decide) rfl (by decide) ?_
    exact isAcc_zero
  refine agrees_cons (fun x => out_piece (o := 32) ?_ x) ?_
  · have hb := hb1 c arg2 harg2 arg3 harg3 arg4 harg4 arg12 x0 x1 x2
    have hc := cb1 c arg2 harg2 arg3 harg3 arg4 harg4 arg12 x0 x1 x2
    have hs := sh1 c arg2 harg2 arg3 harg3 arg4 harg4 arg12 arg13 x0 x1 x2
    have hd := cs1 c arg2 harg2 arg3 harg3 arg4 harg4 arg12 arg13 x0 x1 x2
    refine tap_hb (n := 30) (b := 64) hb hc (by decide) rfl (by decide) ?_
    refine tap_sh (n := 29) (q := 6) (b := 56) hs hd (by decide) rfl (by decide) ?_
    refine tap_sh (n := 28) (q := 5) (b := 56) hs hd (by decide) rfl (by decide) ?_
    refine tap_sh (n := 27) (q := 4) (b := 56) hs hd (by decide) rfl (by decide) ?_
    refine tap_sh (n := 26) (q := 3) (b := 56) hs hd (by decide) rfl (by decide) ?_
    refine tap_sh (n := 25) (q := 2) (b := 56) hs hd (by decide) rfl (by decide) ?_
    refine tap_sh (n := 24) (q := 1) (b := 56) hs hd (by decide) rfl (by decide) ?_
    refine tap_sh (n := 23) (q := 0) (b := 56) hs hd (by decide) rfl (by decide) ?_
    refine tap_hb (n := 22) (b := 56) hb hc (by decide) rfl (by decide) ?_
    refine tap_sh (n := 21) (q := 6) (b := 48) hs hd (by decide) rfl (by decide) ?_
    refine tap_sh (n := 20) (q := 5) (b := 48) hs hd (by decide) rfl (by decide) ?_
    refine tap_sh (n := 19) (q := 4) (b := 48) hs hd (by decide) rfl (by decide) ?_
    refine tap_sh (n := 18) (q := 3) (b := 48) hs hd (by decide) rfl (by decide) ?_
    refine tap_sh (n := 17) (q := 2) (b := 48) hs hd (by decide) rfl (by decide) ?_
    refine tap_sh (n := 16) (q := 1) (b := 48) hs hd (by decide) rfl (by decide) ?_
    refine tap_sh (n := 15) (q := 0) (b := 48) hs hd (by decide) rfl (by decide) ?_
    refine tap_hb (n := 14) (b := 48) hb hc (by decide) rfl (by decide) ?_
    refine tap_sh (n := 13) (q := 6) (b := 40) hs hd (by decide) rfl (by decide) ?_
    refine tap_sh (n := 12) (q := 5) (b := 40) hs hd (by decide) rfl (by decide) ?_
    refine tap_sh (n := 11) (q := 4) (b := 40) hs hd (by decide) rfl (by decide) ?_
    refine tap_sh (n := 10) (q := 3) (b := 40) hs hd (by decide) rfl (by decide) ?_
    refine tap_sh (n := 9) (q := 2) (b := 40) hs hd (by decide) rfl (by decide) ?_
    refine tap_sh (n := 8) (q := 1) (b := 40) hs hd (by decide) rfl (by decide) ?_
    refine tap_sh (n := 7) (q := 0) (b := 40) hs hd (by decide) rfl (by decide) ?_
    refine tap_hb (n := 6) (b := 40) hb hc (by decide) rfl (by decide) ?_
    refine tap_sh (n := 5) (q := 6) (b := 32) hs hd (by decide) rfl (by decide) ?_
    refine tap_sh (n := 4) (q := 5) (b := 32) hs hd (by decide) rfl (by decide) ?_
    refine tap_sh (n := 3) (q := 4) (b := 32) hs hd (by decide) rfl (by decide) ?_
    refine tap_sh (n := 2) (q := 3) (b := 32) hs hd (by decide) rfl (by decide) ?_
    refine tap_sh (n := 1) (q := 2) (b := 32) hs hd (by decide) rfl (by decide) ?_
    refine tap_sh (n := 0) (q := 1) (b := 32) hs hd (by decide) rfl (by decide) ?_
    exact isAcc_zero
  refine agrees_cons (fun x => out_piece (o := 0) ?_ x) ?_
  · have hb := hb1 c arg2 harg2 arg3 harg3 arg4 harg4 arg12 x0 x1 x2
    have hc := cb1 c arg2 harg2 arg3 harg3 arg4 harg4 arg12 x0 x1 x2
    have hs := sh1 c arg2 harg2 arg3 harg3 arg4 harg4 arg12 arg13 x0 x1 x2
    have hd := cs1 c arg2 harg2 arg3 harg3 arg4 harg4 arg12 arg13 x0 x1 x2
    refine tap_hb (n := 30) (b := 32) hb hc (by decide) rfl (by decide) ?_
    refine tap_sh (n := 29) (q := 6) (b := 24) hs hd (by decide) rfl (by decide) ?_
    refine tap_sh (n := 28) (q := 5) (b := 24) hs hd (by decide) rfl (by decide) ?_
    refine tap_sh (n := 27) (q := 4) (b := 24) hs hd (by decide) rfl (by decide) ?_
    refine tap_sh (n := 26) (q := 3) (b := 24) hs hd (by decide) rfl (by decide) ?_
    refine tap_sh (n := 25) (q := 2) (b := 24) hs hd (by decide) rfl (by decide) ?_
    refine tap_sh (n := 24) (q := 1) (b := 24) hs hd (by decide) rfl (by decide) ?_
    refine tap_sh (n := 23) (q := 0) (b := 24) hs hd (by decide) rfl (by decide) ?_
    refine tap_hb (n := 22) (b := 24) hb hc (by decide) rfl (by decide) ?_
    refine tap_sh (n := 21) (q := 6) (b := 16) hs hd (by decide) rfl (by decide) ?_
    refine tap_sh (n := 20) (q := 5) (b := 16) hs hd (by decide) rfl (by decide) ?_
    refine tap_sh (n := 19) (q := 4) (b := 16) hs hd (by decide) rfl (by decide) ?_
    refine tap_sh (n := 18) (q := 3) (b := 16) hs hd (by decide) rfl (by decide) ?_
    refine tap_sh (n := 17) (q := 2) (b := 16) hs hd (by decide) rfl (by decide) ?_
    refine tap_sh (n := 16) (q := 1) (b := 16) hs hd (by decide) rfl (by decide) ?_
    refine tap_sh (n := 15) (q := 0) (b := 16) hs hd (by decide) rfl (by decide) ?_
    refine tap_hb (n := 14) (b := 16) hb hc (by decide) rfl (by decide) ?_
    refine tap_sh (n := 13) (q := 6) (b := 8) hs hd (by decide) rfl (by decide) ?_
    refine tap_sh (n := 12) (q := 5) (b := 8) hs hd (by decide) rfl (by decide) ?_
    refine tap_sh (n := 11) (q := 4) (b := 8) hs hd (by decide) rfl (by decide) ?_
    refine tap_sh (n := 10) (q := 3) (b := 8) hs hd (by decide) rfl (by decide) ?_
    refine tap_sh (n := 9) (q := 2) (b := 8) hs hd (by decide) rfl (by decide) ?_
    refine tap_sh (n := 8) (q := 1) (b := 8) hs hd (by decide) rfl (by decide) ?_
    refine tap_sh (n := 7) (q := 0) (b := 8) hs hd (by decide) rfl (by decide) ?_
    refine tap_hb (n := 6) (b := 8) hb hc (by decide) rfl (by decide) ?_
    refine tap_sh (n := 5) (q := 6) (b := 0) hs hd (by decide) rfl (by decide) ?_
    refine tap_sh (n := 4) (q := 5) (b := 0) hs hd (by decide) rfl (by decide) ?_
    refine tap_sh (n := 3) (q := 4) (b := 0) hs hd (by decide) rfl (by decide) ?_
    refine tap_sh (n := 2) (q := 3) (b := 0) hs hd (by decide) rfl (by decide) ?_
    refine tap_sh (n := 1) (q := 2) (b := 0) hs hd (by decide) rfl (by decide) ?_
    refine tap_sh (n := 0) (q := 1) (b := 0) hs hd (by decide) rfl (by decide) ?_
    exact isAcc_zero
  exact agrees_nil _

/-- What the point leaves in its two output blocks and in the buffer that it passes on. -/
theorem block8 : out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = OF (Hx x0 x1 x2) x4 x5 x6 x7 := by
  unfold out0_A_8
  rw [View.read_writes_junk_eq_canon]
  funext y
  exact View.canon_apply_of_pieces _ _ (out8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7) y (cover0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)

theorem block9 : out0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = PRF x0 x1 x3 := by
  unfold out0_A_9
  rw [View.read_writes_junk_eq_canon]
  funext y
  exact View.canon_apply_of_pieces _ _ (out9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7) y (cover0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)

theorem carried : sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = HF (Hx x0 x1 x2) := by
  unfold sout0_A_1
  rw [View.read_writes_junk_eq_canon]
  funext y
  exact View.canon_apply_of_pieces _ _ (hb4 c arg2 harg2 arg3 harg3 arg4 harg4 arg12 x0 x1 x2) y (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)

end Cert.ConvIdeal.PayA

end
-- ==== Proof.ConvB1.lean ====
/-
  Hand-written, untrusted. The convolution kernel's scratch buffers at a grid point that carries the convolution on: every write of the
  normalised rows, of the gated rows and of their moved copies.
-/
module

public import proofs.«01_k».proof.Proof.ConvPay

@[expose] public section

set_option maxRecDepth 16384
set_option maxHeartbeats 4000000

noncomputable section

namespace Cert.ConvIdeal.PayB

open Idealize.ShloMosaic Idealize.ShloMosaic.TcCoe Idealize.ShloMosaic.Tactic Idealize.SL.Sem
open Cert.ConvIdeal Cert.ConvIdeal.Gen Cert.RowSpec Cert.ConvIdeal.Pay Cert.ConvIdeal.Gen.kernelRun0_B

variable (c : Dev nD) (arg2 : Memref sig .tc .vmem S1x512x1024 .f32) (harg2 : arg2.IsWhole)
  (arg3 : Memref sig .tc .vmem S1x1024 .f32) (harg3 : arg3.IsWhole) (arg4 : Memref sig .tc .vmem S1024x1024 .bf16)
  (harg4 : arg4.IsWhole) (arg12 : Memref sig .tc .vmem S512x1024 .bf16) (arg13 : Memref sig .tc .vmem S544x512 .f32) (harg13 : arg13.IsWhole)
  (x0 : Vec Ideal S1x512x1024 .f32) (x1 : Vec Ideal S1x1024 .f32) (x2 : Vec Ideal S1024x1024 .bf16) (xs1 : Vec Ideal S544x512 .f32)

/-- The history that the point before left in the buffer's last 32 rows. -/
def Hx : ℕ → Fin 512 → EReal := HN (hist xs1) x0 x1 x2

theorem hs1 : Agrees (sl.HS0_1 c arg2 harg2 arg3 harg3 x0 x1) (hF x0 x1) :=
  agrees_cons (fun x => hs_piece x) (agrees_nil _)

theorem hs2 : Agrees (sl.HS0_2 c arg2 harg2 arg3 harg3 x0 x1) (hF x0 x1) :=
  agrees_cons (fun x => hs_piece x) (hs1 c arg2 harg2 arg3 harg3 x0 x1)

theorem hs3 : Agrees (sl.HS0_3 c arg2 harg2 arg3 harg3 x0 x1) (hF x0 x1) :=
  agrees_cons (fun x => hs_piece x) (hs2 c arg2 harg2 arg3 harg3 x0 x1)

theorem hs4 : Agrees (sl.HS0_4 c arg2 harg2 arg3 harg3 x0 x1) (hF x0 x1) :=
  agrees_cons (fun x => hs_piece x) (hs3 c arg2 harg2 arg3 harg3 x0 x1)

theorem rows1 (r : Fin 128) (k : Fin 1024) : sl.v26 c arg2 harg2 arg3 harg3 arg12 x0 x1 (ix2 r k)
    = hF x0 x1 (ix2 ⟨0 + r.val, by omega⟩ k) :=
  hs_read (hs1 c arg2 harg2 arg3 harg3 x0 x1) (by sl_kernel_rfl) r k

theorem rows2 (r : Fin 128) (k : Fin 1024) : sl.v1140 c arg2 harg2 arg3 harg3 arg12 x0 x1 (ix2 r k)
    = hF x0 x1 (ix2 ⟨128 + r.val, by omega⟩ k) :=
  hs_read (hs2 c arg2 harg2 arg3 harg3 x0 x1) (by sl_kernel_rfl) r k

theorem rows3 (r : Fin 128) (k : Fin 1024) : sl.v2226 c arg2 harg2 arg3 harg3 arg12 x0 x1 (ix2 r k)
    = hF x0 x1 (ix2 ⟨256 + r.val, by omega⟩ k) :=
  hs_read (hs3 c arg2 harg2 arg3 harg3 x0 x1) (by sl_kernel_rfl) r k

theorem rows4 (r : Fin 128) (k : Fin 1024) : sl.v3312 c arg2 harg2 arg3 harg3 arg12 x0 x1 (ix2 r k)
    = hF x0 x1 (ix2 ⟨384 + r.val, by omega⟩ k) :=
  hs_read (hs4 c arg2 harg2 arg3 harg3 x0 x1) (by sl_kernel_rfl) r k

theorem hb1 : Agrees (sl.HS1_3 c arg2 harg2 arg3 harg3 arg4 harg4 arg12 arg13 harg13 x0 x1 x2 xs1) (HF (Hx x0 x1 x2 xs1)) :=
  agrees_cons (fun x => gat_piece (o := 0) (by decide) (rows1 c arg2 harg2 arg3 harg3 arg12 x0 x1) rfl rfl x)
  (agrees_cons (fun x => gat_piece (o := 0) (by decide) (rows1 c arg2 harg2 arg3 harg3 arg12 x0 x1) rfl rfl x)
  (agrees_cons (fun x => carry_piece x) (agrees_nil _)))

theorem cb1 : cov1 (sl.HS1_3 c arg2 harg2 arg3 harg3 arg4 harg4 arg12 arg13 harg13 x0 x1 x2 xs1) 20 = true := by sl_kernel_rfl

theorem hb2 : Agrees (sl.HS1_5 c arg2 harg2 arg3 harg3 arg4 harg4 arg12 arg13 harg13 x0 x1 x2 xs1) (HF (Hx x0 x1 x2 xs1)) :=
  agrees_cons (fun x => gat_piece (o := 128) (by decide) (rows2 c arg2 harg2 arg3 harg3 arg12 x0 x1) rfl rfl x)
  (agrees_cons (fun x => gat_piece (o := 128) (by decide) (rows2 c arg2 harg2 arg3 harg3 arg12 x0 x1) rfl rfl x)
  (hb1 c arg2 harg2 arg3 harg3 arg4 harg4 arg12 arg13 harg13 x0 x1 x2 xs1))

theorem cb2 : cov1 (sl.HS1_5 c arg2 harg2 arg3 harg3 arg4 harg4 arg12 arg13 harg13 x0 x1 x2 xs1) 36 = true := by sl_kernel_rfl

theorem hb3 : Agrees (sl.HS1_7 c arg2 harg2 arg3 harg3 arg4 harg4 arg12 arg13 harg13 x0 x1 x2 xs1) (HF (Hx x0 x1 x2 xs1)) :=
  agrees_cons (fun x => gat_piece (o := 256) (by decide) (rows3 c arg2 harg2 arg3 harg3 arg12 x0 x1) rfl rfl x)
  (agrees_cons (fun x => gat_piece (o := 256) (by decide) (rows3 c arg2 harg2 arg3 harg3 arg12 x0 x1) rfl rfl x)
  (hb2 c arg2 harg2 arg3 harg3 arg4 harg4 arg12 arg13 harg13 x0 x1 x2 xs1))

theorem cb3 : cov1 (sl.HS1_7 c arg2 harg2 arg3 harg3 arg4 harg4 arg12 arg13 harg13 x0 x1 x2 xs1) 52 = true := by sl_kernel_rfl

theorem hb4 : Agrees (sl.HS1_9 c arg2 harg2 arg3 harg3 arg4 harg4 arg12 arg13 harg13 x0 x1 x2 xs1) (HF (Hx x0 x1 x2 xs1)) :=
  agrees_cons (fun x => gat_piece (o := 384) (by decide) (rows4 c arg2 harg2 arg3 harg3 arg12 x0 x1) rfl rfl x)
  (agrees_cons (fun x => gat_piece (o := 384) (by decide) (rows4 c arg2 harg2 arg3 harg3 arg12 x0 x1) rfl rfl x)
  (hb3 c arg2 harg2 arg3 harg3 arg4 harg4 arg12 arg13 harg13 x0 x1 x2 xs1))

theorem cb4 : cov1 (sl.HS1_9 c arg2 harg2 arg3 harg3 arg4 harg4 arg12 arg13 harg13 x0 x1 x2 xs1) 68 = true := by sl_kernel_rfl

theorem sh1 : Agrees (sl.HS2_35 c arg2 harg2 arg3 harg3 arg4 harg4 arg12 arg13 harg13 x0 x1 x2 xs1) (SF (Hx x0 x1 x2 xs1)) := by
  have hA := hb1 c arg2 harg2 arg3 harg3 arg4 harg4 arg12 arg13 harg13 x0 x1 x2 xs1
  have hC := cb1 c arg2 harg2 arg3 harg3 arg4 harg4 arg12 arg13 harg13 x0 x1 x2 xs1
  unfold sl.HS2_35
  refine agrees_cons (fun x => sh_piece' (q := 6) (b := 128) (o := 135) hA hC (by decide) rfl x) ?_
  refine agrees_cons (fun x => sh_piece (q := 6) (b := 96) (o := 103) hA hC (by decide) rfl x) ?_
  refine agrees_cons (fun x => sh_piece (q := 6) (b := 64) (o := 71) hA hC (by decide) rfl x) ?_
  refine agrees_cons (fun x => sh_piece (q := 6) (b := 32) (o := 39) hA hC (by decide) rfl x) ?_
  refine agrees_cons (fun x => sh_piece (q := 6) (b := 0) (o := 7) hA hC (by decide) rfl x) ?_
  refine agrees_cons (fun x => sh_piece' (q := 5) (b := 128) (o := 134) hA hC (by decide) rfl x) ?_
  refine agrees_cons (fun x => sh_piece (q := 5) (b := 96) (o := 102) hA hC (by decide) rfl x) ?_
  refine agrees_cons (fun x => sh_piece (q := 5) (b := 64) (o := 70) hA hC (by decide) rfl x) ?_
  refine agrees_cons (fun x => sh_piece (q := 5) (b := 32) (o := 38) hA hC (by decide) rfl x) ?_
  refine agrees_cons (fun x => sh_piece (q := 5) (b := 0) (o := 6) hA hC (by decide) rfl x) ?_
  refine agrees_cons (fun x => sh_piece' (q := 4) (b := 128) (o := 133) hA hC (by decide) rfl x) ?_
  refine agrees_cons (fun x => sh_piece (q := 4) (b := 96) (o := 101) hA hC (by decide) rfl x) ?_
  refine agrees_cons (fun x => sh_piece (q := 4) (b := 64) (o := 69) hA hC (by decide) rfl x) ?_
  refine agrees_cons (fun x => sh_piece (q := 4) (b := 32) (o := 37) hA hC (by decide) rfl x) ?_
  refine agrees_cons (fun x => sh_piece (q := 4) (b := 0) (o := 5) hA hC (by decide) rfl x) ?_
  refine agrees_cons (fun x => sh_piece' (q := 3) (b := 128) (o := 132) hA hC (by decide) rfl x) ?_
  refine agrees_cons (fun x => sh_piece (q := 3) (b := 96) (o := 100) hA hC (by decide) rfl x) ?_
  refine agrees_cons (fun x => sh_piece (q := 3) (b := 64) (o := 68) hA hC (by decide) rfl x) ?_
  refine agrees_cons (fun x => sh_piece (q := 3) (b := 32) (o := 36) hA hC (by decide) rfl x) ?_
  refine agrees_cons (fun x => sh_piece (q := 3) (b := 0) (o := 4) hA hC (by decide) rfl x) ?_
  refine agrees_cons (fun x => sh_piece' (q := 2) (b := 128) (o := 131) hA hC (by decide) rfl x) ?_
  refine agrees_cons (fun x => sh_piece (q := 2) (b := 96) (o := 99) hA hC (by decide) rfl x) ?_
  refine agrees_cons (fun x => sh_piece (q := 2) (b := 64) (o := 67) hA hC (by decide) rfl x) ?_
  refine agrees_cons (fun x => sh_piece (q := 2) (b := 32) (o := 35) hA hC (by decide) rfl x) ?_
  refine agrees_cons (fun x => sh_piece (q := 2) (b := 0) (o := 3) hA hC (by decide) rfl x) ?_
  refine agrees_cons (fun x => sh_piece' (q := 1) (b := 128) (o := 130) hA hC (by decide) rfl x) ?_
  refine agrees_cons (fun x => sh_piece (q := 1) (b := 96) (o := 98) hA hC (by decide) rfl x) ?_
  refine agrees_cons (fun x => sh_piece (q := 1) (b := 64) (o := 66) hA hC (by decide) rfl x) ?_
  refine agrees_cons (fun x => sh_piece (q := 1) (b := 32) (o := 34) hA hC (by decide) rfl x) ?_
  refine agrees_cons (fun x => sh_piece (q := 1) (b := 0) (o := 2) hA hC (by decide) rfl x) ?_
  refine agrees_cons (fun x => sh_piece' (q := 0) (b := 128) (o := 129) hA hC (by decide) rfl x) ?_
  refine agrees_cons (fun x => sh_piece (q := 0) (b := 96) (o := 97) hA hC (by decide) rfl x) ?_
  refine agrees_cons (fun x => sh_piece (q := 0) (b := 64) (o := 65) hA hC (by decide) rfl x) ?_
  refine agrees_cons (fun x => sh_piece (q := 0) (b := 32) (o := 33) hA hC (by decide) rfl x) ?_
  refine agrees_cons (fun x => sh_piece (q := 0) (b := 0) (o := 1) hA hC (by decide) rfl x) ?_
  exact agrees_nil _

theorem cs1 : cov2 (sl.HS2_35 c arg2 harg2 arg3 harg3 arg4 harg4 arg12 arg13 harg13 x0 x1 x2 xs1) 19 = true := by sl_kernel_rfl

theorem sh2 : Agrees (sl.HS2_63 c arg2 harg2 arg3 harg3 arg4 harg4 arg12 arg13 harg13 x0 x1 x2 xs1) (SF (Hx x0 x1 x2 xs1)) := by
  have hA := hb2 c arg2 harg2 arg3 harg3 arg4 harg4 arg12 arg13 harg13 x0 x1 x2 xs1
  have hC := cb2 c arg2 harg2 arg3 harg3 arg4 harg4 arg12 arg13 harg13 x0 x1 x2 xs1
  unfold sl.HS2_63
  refine agrees_cons (fun x => sh_piece (q := 6) (b := 248) (o := 255) hA hC (by decide) rfl x) ?_
  refine agrees_cons (fun x => sh_piece (q := 6) (b := 216) (o := 223) hA hC (by decide) rfl x) ?_
  refine agrees_cons (fun x => sh_piece (q := 6) (b := 184) (o := 191) hA hC (by decide) rfl x) ?_
  refine agrees_cons (fun x => sh_piece (q := 6) (b := 152) (o := 159) hA hC (by decide) rfl x) ?_
  refine agrees_cons (fun x => sh_piece (q := 5) (b := 248) (o := 254) hA hC (by decide) rfl x) ?_
  refine agrees_cons (fun x => sh_piece (q := 5) (b := 216) (o := 222) hA hC (by decide) rfl x) ?_
  refine agrees_cons (fun x => sh_piece (q := 5) (b := 184) (o := 190) hA hC (by decide) rfl x) ?_
  refine agrees_cons (fun x => sh_piece (q := 5) (b := 152) (o := 158) hA hC (by decide) rfl x) ?_
  refine agrees_cons (fun x => sh_piece (q := 4) (b := 248) (o := 253) hA hC (by decide) rfl x) ?_
  refine agrees_cons (fun x => sh_piece (q := 4) (b := 216) (o := 221) hA hC (by decide) rfl x) ?_
  refine agrees_cons (fun x => sh_piece (q := 4) (b := 184) (o := 189) hA hC (by decide) rfl x) ?_
  refine agrees_cons (fun x => sh_piece (q := 4) (b := 152) (o := 157) hA hC (by decide) rfl x) ?_
  refine agrees_cons (fun x => sh_piece (q := 3) (b := 248) (o := 252) hA hC (by decide) rfl x) ?_
  refine agrees_cons (fun x => sh_piece (q := 3) (b := 216) (o := 220) hA hC (by decide) rfl x) ?_
  refine agrees_cons (fun x => sh_piece (q := 3) (b := 184) (o := 188) hA hC (by decide) rfl x) ?_
  refine agrees_cons (fun x => sh_piece (q := 3) (b := 152) (o := 156) hA hC (by decide) rfl x) ?_
  refine agrees_cons (fun x => sh_piece (q := 2) (b := 248) (o := 251) hA hC (by decide) rfl x) ?_
  refine agrees_cons (fun x => sh_piece (q := 2) (b := 216) (o := 219) hA hC (by decide) rfl x) ?_
  refine agrees_cons (fun x => sh_piece (q := 2) (b := 184) (o := 187) hA hC (by decide) rfl x) ?_
  refine agrees_cons (fun x => sh_piece (q := 2) (b := 152) (o := 155) hA hC (by decide) rfl x) ?_
  refine agrees_cons (fun x => sh_piece (q := 1) (b := 248) (o := 250) hA hC (by decide) rfl x) ?_
  refine agrees_cons (fun x => sh_piece (q := 1) (b := 216) (o := 218) hA hC (by decide) rfl x) ?_
  refine agrees_cons (fun x => sh_piece (q := 1) (b := 184) (o := 186) hA hC (by decide) rfl x) ?_
  refine agrees_cons (fun x => sh_piece (q := 1) (b := 152) (o := 154) hA hC (by decide) rfl x) ?_
  refine agrees_cons (fun x => sh_piece (q := 0) (b := 248) (o := 249) hA hC (by decide) rfl x) ?_
  refine agrees_cons (fun x => sh_piece (q := 0) (b := 216) (o := 217) hA hC (by decide) rfl x) ?_
  refine agrees_cons (fun x => sh_piece (q := 0) (b := 184) (o := 185) hA hC (by decide) rfl x) ?_
  refine agrees_cons (fun x => sh_piece (q := 0) (b := 152) (o := 153) hA hC (by decide) rfl x) ?_
  exact sh1 c arg2 harg2 arg3 harg3 arg4 harg4 arg12 arg13 harg13 x0 x1 x2 xs1

theorem cs2 : cov2 (sl.HS2_63 c arg2 harg2 arg3 harg3 arg4 harg4 arg12 arg13 harg13 x0 x1 x2 xs1) 35 = true := by sl_kernel_rfl

theorem sh3 : Agrees (sl.HS2_91 c arg2 harg2 arg3 harg3 arg4 harg4 arg12 arg13 harg13 x0 x1 x2 xs1) (SF (Hx x0 x1 x2 xs1)) := by
  have hA := hb3 c arg2 harg2 arg3 harg3 arg4 harg4 arg12 arg13 harg13 x0 x1 x2 xs1
  have hC := cb3 c arg2 harg2 arg3 harg3 arg4 harg4 arg12 arg13 harg13 x0 x1 x2 xs1
  unfold sl.HS2_91
  refine agrees_cons (fun x => sh_piece (q := 6) (b := 376) (o := 383) hA hC (by decide) rfl x) ?_
  refine agrees_cons (fun x => sh_piece (q := 6) (b := 344) (o := 351) hA hC (by decide) rfl x) ?_
  refine agrees_cons (fun x => sh_piece (q := 6) (b := 312) (o := 319) hA hC (by decide) rfl x) ?_
  refine agrees_cons (fun x => sh_piece (q := 6) (b := 280) (o := 287) hA hC (by decide) rfl x) ?_
  refine agrees_cons (fun x => sh_piece (q := 5) (b := 376) (o := 382) hA hC (by decide) rfl x) ?_
  refine agrees_cons (fun x => sh_piece (q := 5) (b := 344) (o := 350) hA hC (by decide) rfl x) ?_
  refine agrees_cons (fun x => sh_piece (q := 5) (b := 312) (o := 318) hA hC (by decide) rfl x) ?_
  refine agrees_cons (fun x => sh_piece (q := 5) (b := 280) (o := 286) hA hC (by decide) rfl x) ?_
  refine agrees_cons (fun x => sh_piece (q := 4) (b := 376) (o := 381) hA hC (by decide) rfl x) ?_
  refine agrees_cons (fun x => sh_piece (q := 4) (b := 344) (o := 349) hA hC (by decide) rfl x) ?_
  refine agrees_cons (fun x => sh_piece (q := 4) (b := 312) (o := 317) hA hC (by decide) rfl x) ?_
  refine agrees_cons (fun x => sh_piece (q := 4) (b := 280) (o := 285) hA hC (by decide) rfl x) ?_
  refine agrees_cons (fun x => sh_piece (q := 3) (b := 376) (o := 380) hA hC (by decide) rfl x) ?_
  refine agrees_cons (fun x => sh_piece (q := 3) (b := 344) (o := 348) hA hC (by decide) rfl x) ?_
  refine agrees_cons (fun x => sh_piece (q := 3) (b := 312) (o := 316) hA hC (by decide) rfl x) ?_
  refine agrees_cons (fun x => sh_piece (q := 3) (b := 280) (o := 284) hA hC (by decide) rfl x) ?_
  refine agrees_cons (fun x => sh_piece (q := 2) (b := 376) (o := 379) hA hC (by decide) rfl x) ?_
  refine agrees_cons (fun x => sh_piece (q := 2) (b := 344) (o := 347) hA hC (by decide) rfl x) ?_
  refine agrees_cons (fun x => sh_piece (q := 2) (b := 312) (o := 315) hA hC (by decide) rfl x) ?_
  refine agrees_cons (fun x => sh_piece (q := 2) (b := 280) (o := 283) hA hC (by decide) rfl x) ?_
  refine agrees_cons (fun x => sh_piece (q := 1) (b := 376) (o := 378) hA hC (by decide) rfl x) ?_
  refine agrees_cons (fun x => sh_piece (q := 1) (b := 344) (o := 346) hA hC (by decide) rfl x) ?_
  refine agrees_cons (fun x => sh_piece (q := 1) (b := 312) (o := 314) hA hC (by decide) rfl x) ?_
  refine agrees_cons (fun x => sh_piece (q := 1) (b := 280) (o := 282) hA hC (by decide) rfl x) ?_
  refine agrees_cons (fun x => sh_piece (q := 0) (b := 376) (o := 377) hA hC (by decide) rfl x) ?_
  refine agrees_cons (fun x => sh_piece (q := 0) (b := 344) (o := 345) hA hC (by decide) rfl x) ?_
  refine agrees_cons (fun x => sh_piece (q := 0) (b := 312) (o := 313) hA hC (by decide) rfl x) ?_
  refine agrees_cons (fun x => sh_piece (q := 0) (b := 280) (o := 281) hA hC (by decide) rfl x) ?_
  exact sh2 c arg2 harg2 arg3 harg3 arg4 harg4 arg12 arg13 harg13 x0 x1 x2 xs1

theorem cs3 : cov2 (sl.HS2_91 c arg2 harg2 arg3 harg3 arg4 harg4 arg12 arg13 harg13 x0 x1 x2 xs1) 51 = true := by sl_kernel_rfl

theorem sh4 : Agrees (sl.HS2_119 c arg2 harg2 arg3 harg3 arg4 harg4 arg12 arg13 harg13 x0 x1 x2 xs1) (SF (Hx x0 x1 x2 xs1)) := by
  have hA := hb4 c arg2 harg2 arg3 harg3 arg4 harg4 arg12 arg13 harg13 x0 x1 x2 xs1
  have hC := cb4 c arg2 harg2 arg3 harg3 arg4 harg4 arg12 arg13 harg13 x0 x1 x2 xs1
  unfold sl.HS2_119
  refine agrees_cons (fun x => sh_piece (q := 6) (b := 504) (o := 511) hA hC (by decide) rfl x) ?_
  refine agrees_cons (fun x => sh_piece (q := 6) (b := 472) (o := 479) hA hC (by decide) rfl x) ?_
  refine agrees_cons (fun x => sh_piece (q := 6) (b := 440) (o := 447) hA hC (by decide) rfl x) ?_
  refine agrees_cons (fun x => sh_piece (q := 6) (b := 408) (o := 415) hA hC (by decide) rfl x) ?_
  refine agrees_cons (fun x => sh_piece (q := 5) (b := 504) (o := 510) hA hC (by decide) rfl x) ?_
  refine agrees_cons (fun x => sh_piece (q := 5) (b := 472) (o := 478) hA hC (by decide) rfl x) ?_
  refine agrees_cons (fun x => sh_piece (q := 5) (b := 440) (o := 446) hA hC (by decide) rfl x) ?_
  refine agrees_cons (fun x => sh_piece (q := 5) (b := 408) (o := 414) hA hC (by decide) rfl x) ?_
  refine agrees_cons (fun x => sh_piece (q := 4) (b := 504) (o := 509) hA hC (by decide) rfl x) ?_
  refine agrees_cons (fun x => sh_piece (q := 4) (b := 472) (o := 477) hA hC (by decide) rfl x) ?_
  refine agrees_cons (fun x => sh_piece (q := 4) (b := 440) (o := 445) hA hC (by decide) rfl x) ?_
  refine agrees_cons (fun x => sh_piece (q := 4) (b := 408) (o := 413) hA hC (by decide) rfl x) ?_
  refine agrees_cons (fun x => sh_piece (q := 3) (b := 504) (o := 508) hA hC (by decide) rfl x) ?_
  refine agrees_cons (fun x => sh_piece (q := 3) (b := 472) (o := 476) hA hC (by decide) rfl x) ?_
  refine agrees_cons (fun x => sh_piece (q := 3) (b := 440) (o := 444) hA hC (by decide) rfl x) ?_
  refine agrees_cons (fun x => sh_piece (q := 3) (b := 408) (o := 412) hA hC (by decide) rfl x) ?_
  refine agrees_cons (fun x => sh_piece (q := 2) (b := 504) (o := 507) hA hC (by decide) rfl x) ?_
  refine agrees_cons (fun x => sh_piece (q := 2) (b := 472) (o := 475) hA hC (by decide) rfl x) ?_
  refine agrees_cons (fun x => sh_piece (q := 2) (b := 440) (o := 443) hA hC (by decide) rfl x) ?_
  refine agrees_cons (fun x => sh_piece (q := 2) (b := 408) (o := 411) hA hC (by decide) rfl x) ?_
  refine agrees_cons (fun x => sh_piece (q := 1) (b := 504) (o := 506) hA hC (by decide) rfl x) ?_
  refine agrees_cons (fun x => sh_piece (q := 1) (b := 472) (o := 474) hA hC (by decide) rfl x) ?_
  refine agrees_cons (fun x => sh_piece (q := 1) (b := 440) (o := 442) hA hC (by decide) rfl x) ?_
  refine agrees_cons (fun x => sh_piece (q := 1) (b := 408) (o := 410) hA hC (by decide) rfl x) ?_
  refine agrees_cons (fun x => sh_piece (q := 0) (b := 504) (o := 505) hA hC (by decide) rfl x) ?_
  refine agrees_cons (fun x => sh_piece (q := 0) (b := 472) (o := 473) hA hC (by decide) rfl x) ?_
  refine agrees_cons (fun x => sh_piece (q := 0) (b := 440) (o := 441) hA hC (by decide) rfl x) ?_
  refine agrees_cons (fun x => sh_piece (q := 0) (b := 408) (o := 409) hA hC (by decide) rfl x) ?_
  exact sh3 c arg2 harg2 arg3 harg3 arg4 harg4 arg12 arg13 harg13 x0 x1 x2 xs1

theorem cs4 : cov2 (sl.HS2_119 c arg2 harg2 arg3 harg3 arg4 harg4 arg12 arg13 harg13 x0 x1 x2 xs1) 67 = true := by sl_kernel_rfl

end Cert.ConvIdeal.PayB

end
-- ==== Proof.ConvB2.lean ====
/-
  Hand-written, untrusted. The convolution kernel's two output blocks at a grid point that carries the convolution on.
-/
module

public import proofs.«01_k».proof.Proof.ConvOut
public import proofs.«01_k».proof.Proof.ConvB1

@[expose] public section

set_option maxRecDepth 16384
set_option maxHeartbeats 8000000

noncomputable section

namespace Cert.ConvIdeal.PayB

open Idealize.ShloMosaic Idealize.ShloMosaic.TcCoe Idealize.ShloMosaic.Tactic Idealize.SL.Sem
open Cert.ConvIdeal Cert.ConvIdeal.Gen Cert.RowSpec Cert.ConvIdeal.Pay Cert.ConvIdeal.Gen.kernelRun0_B

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1920 .bf16) (harg5 : arg5.IsWhole) (arg6 : Memref sig .tc .vmem S31x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512x512 .bf16) (harg10 : arg10.IsWhole) (arg11 : Memref sig .tc .vmem S1x512x1920 .bf16) (harg11 : arg11.IsWhole) (arg12 : Memref sig .tc .vmem S512x1024 .bf16) (harg12 : arg12.IsWhole) (arg13 : Memref sig .tc .vmem S544x512 .f32) (harg13 : arg13.IsWhole) (arg14 : Memref sig .tc .vmem S7x544x512 .f32) (harg14 : arg14.IsWhole) (hc0 : ¬cond0_0 i) (hc1 : cond0_1 i)
    (x0 : Vec Ideal S1x512x1024 .f32) (x1 : Vec Ideal S1x1024 .f32) (x2 : Vec Ideal S1024x1024 .bf16) (x3 : Vec Ideal S1024x1920 .bf16) (x4 : Vec Ideal S31x512 .f32) (x5 : Vec Ideal S1x512 .f32) (x6 : Vec Ideal S1x512 .f32) (x7 : Vec Ideal S1x512 .f32) (xs1 : Vec Ideal S544x512 .f32)

theorem out9 : Agrees (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs1).2.1 (PRF x0 x1 x3) := by
  dsimp only [kernelRun0_B]
  refine agrees_cons (fun x => pr_piece' (o := 384) (a := 1792) (by decide) (rows4 c arg2 harg2 arg3 harg3 arg12 x0 x1) x) ?_
  refine agrees_cons (fun x => pr_piece (o := 384) (a := 1536) (by decide) (rows4 c arg2 harg2 arg3 harg3 arg12 x0 x1) x) ?_
  refine agrees_cons (fun x => pr_piece (o := 384) (a := 1280) (by decide) (rows4 c arg2 harg2 arg3 harg3 arg12 x0 x1) x) ?_
  refine agrees_cons (fun x => pr_piece (o := 384) (a := 1024) (by decide) (rows4 c arg2 harg2 arg3 harg3 arg12 x0 x1) x) ?_
  refine agrees_cons (fun x => pr_piece (o := 384) (a := 768) (by decide) (rows4 c arg2 harg2 arg3 harg3 arg12 x0 x1) x) ?_
  refine agrees_cons (fun x => pr_piece (o := 384) (a := 512) (by decide) (rows4 c arg2 harg2 arg3 harg3 arg12 x0 x1) x) ?_
  refine agrees_cons (fun x => pr_piece (o := 384) (a := 256) (by decide) (rows4 c arg2 harg2 arg3 harg3 arg12 x0 x1) x) ?_
  refine agrees_cons (fun x => pr_piece (o := 384) (a := 0) (by decide) (rows4 c arg2 harg2 arg3 harg3 arg12 x0 x1) x) ?_
  refine agrees_cons (fun x => pr_piece' (o := 256) (a := 1792) (by decide) (rows3 c arg2 harg2 arg3 harg3 arg12 x0 x1) x) ?_
  refine agrees_cons (fun x => pr_piece (o := 256) (a := 1536) (by decide) (rows3 c arg2 harg2 arg3 harg3 arg12 x0 x1) x) ?_
  refine agrees_cons (fun x => pr_piece (o := 256) (a := 1280) (by decide) (rows3 c arg2 harg2 arg3 harg3 arg12 x0 x1) x) ?_
  refine agrees_cons (fun x => pr_piece (o := 256) (a := 1024) (by decide) (rows3 c arg2 harg2 arg3 harg3 arg12 x0 x1) x) ?_
  refine agrees_cons (fun x => pr_piece (o := 256) (a := 768) (by decide) (rows3 c arg2 harg2 arg3 harg3 arg12 x0 x1) x) ?_
  refine agrees_cons (fun x => pr_piece (o := 256) (a := 512) (by decide) (rows3 c arg2 harg2 arg3 harg3 arg12 x0 x1) x) ?_
  refine agrees_cons (fun x => pr_piece (o := 256) (a := 256) (by decide) (rows3 c arg2 harg2 arg3 harg3 arg12 x0 x1) x) ?_
  refine agrees_cons (fun x => pr_piece (o := 256) (a := 0) (by decide) (rows3 c arg2 harg2 arg3 harg3 arg12 x0 x1) x) ?_
  refine agrees_cons (fun x => pr_piece' (o := 128) (a := 1792) (by decide) (rows2 c arg2 harg2 arg3 harg3 arg12 x0 x1) x) ?_
  refine agrees_cons (fun x => pr_piece (o := 128) (a := 1536) (by decide) (rows2 c arg2 harg2 arg3 harg3 arg12 x0 x1) x) ?_
  refine agrees_cons (fun x => pr_piece (o := 128) (a := 1280) (by decide) (rows2 c arg2 harg2 arg3 harg3 arg12 x0 x1) x) ?_
  refine agrees_cons (fun x => pr_piece (o := 128) (a := 1024) (by decide) (rows2 c arg2 harg2 arg3 harg3 arg12 x0 x1) x) ?_
  refine agrees_cons (fun x => pr_piece (o := 128) (a := 768) (by decide) (rows2 c arg2 harg2 arg3 harg3 arg12 x0 x1) x) ?_
  refine agrees_cons (fun x => pr_piece (o := 128) (a := 512) (by decide) (rows2 c arg2 harg2 arg3 harg3 arg12 x0 x1) x) ?_
  refine agrees_cons (fun x => pr_piece (o := 128) (a := 256) (by decide) (rows2 c arg2 harg2 arg3 harg3 arg12 x0 x1) x) ?_
  refine agrees_cons (fun x => pr_piece (o := 128) (a := 0) (by decide) (rows2 c arg2 harg2 arg3 harg3 arg12 x0 x1) x) ?_
  refine agrees_cons (fun x => pr_piece' (o := 0) (a := 1792) (by decide) (rows1 c arg2 harg2 arg3 harg3 arg12 x0 x1) x) ?_
  refine agrees_cons (fun x => pr_piece (o := 0) (a := 1536) (by decide) (rows1 c arg2 harg2 arg3 harg3 arg12 x0 x1) x) ?_
  refine agrees_cons (fun x => pr_piece (o := 0) (a := 1280) (by decide) (rows1 c arg2 harg2 arg3 harg3 arg12 x0 x1) x) ?_
  refine agrees_cons (fun x => pr_piece (o := 0) (a := 1024) (by decide) (rows1 c arg2 harg2 arg3 harg3 arg12 x0 x1) x) ?_
  refine agrees_cons (fun x => pr_piece (o := 0) (a := 768) (by decide) (rows1 c arg2 harg2 arg3 harg3 arg12 x0 x1) x) ?_
  refine agrees_cons (fun x => pr_piece (o := 0) (a := 512) (by decide) (rows1 c arg2 harg2 arg3 harg3 arg12 x0 x1) x) ?_
  refine agrees_cons (fun x => pr_piece (o := 0) (a := 256) (by decide) (rows1 c arg2 harg2 arg3 harg3 arg12 x0 x1) x) ?_
  refine agrees_cons (fun x => pr_piece (o := 0) (a := 0) (by decide) (rows1 c arg2 harg2 arg3 harg3 arg12 x0 x1) x) ?_
  exact agrees_nil _

theorem out8 : Agrees (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs1).1 (OF (Hx x0 x1 x2 xs1) x4 x5 x6 x7) := by
  dsimp only [kernelRun0_B]
  refine agrees_cons (fun x => out_piece (o := 480) ?_ x) ?_
  · have hb := hb4 c arg2 harg2 arg3 harg3 arg4 harg4 arg12 arg13 harg13 x0 x1 x2 xs1
    have hc := cb4 c arg2 harg2 arg3 harg3 arg4 harg4 arg12 arg13 harg13 x0 x1 x2 xs1
    have hs := sh4 c arg2 harg2 arg3 harg3 arg4 harg4 arg12 arg13 harg13 x0 x1 x2 xs1
    have hd := cs4 c arg2 harg2 arg3 harg3 arg4 harg4 arg12 arg13 harg13 x0 x1 x2 xs1
    refine tap_hb (n := 30) (b := 512) hb hc (by decide) rfl (by decide) ?_
    refine tap_sh (n := 29) (q := 6) (b := 504) hs hd (by decide) rfl (by decide) ?_
    refine tap_sh (n := 28) (q := 5) (b := 504) hs hd (by decide) rfl (by decide) ?_
    refine tap_sh (n := 27) (q := 4) (b := 504) hs hd (by decide) rfl (by decide) ?_
    refine tap_sh (n := 26) (q := 3) (b := 504) hs hd (by decide) rfl (by decide) ?_
    refine tap_sh (n := 25) (q := 2) (b := 504) hs hd (by decide) rfl (by decide) ?_
    refine tap_sh (n := 24) (q := 1) (b := 504) hs hd (by decide) rfl (by decide) ?_
    refine tap_sh (n := 23) (q := 0) (b := 504) hs hd (by decide) rfl (by decide) ?_
    refine tap_hb (n := 22) (b := 504) hb hc (by decide) rfl (by decide) ?_
    refine tap_sh (n := 21) (q := 6) (b := 496) hs hd (by decide) rfl (by decide) ?_
    refine tap_sh (n := 20) (q := 5) (b := 496) hs hd (by decide) rfl (by decide) ?_
    refine tap_sh (n := 19) (q := 4) (b := 496) hs hd (by decide) rfl (by decide) ?_
    refine tap_sh (n := 18) (q := 3) (b := 496) hs hd (by decide) rfl (by decide) ?_
    refine tap_sh (n := 17) (q := 2) (b := 496) hs hd (by decide) rfl (by decide) ?_
    refine tap_sh (n := 16) (q := 1) (b := 496) hs hd (by decide) rfl (by decide) ?_
    refine tap_sh (n := 15) (q := 0) (b := 496) hs hd (by decide) rfl (by decide) ?_
    refine tap_hb (n := 14) (b := 496) hb hc (by decide) rfl (by decide) ?_
    refine tap_sh (n := 13) (q := 6) (b := 488) hs hd (by decide) rfl (by decide) ?_
    refine tap_sh (n := 12) (q := 5) (b := 488) hs hd (by decide) rfl (by decide) ?_
    refine tap_sh (n := 11) (q := 4) (b := 488) hs hd (by decide) rfl (by decide) ?_
    refine tap_sh (n := 10) (q := 3) (b := 488) hs hd (by decide) rfl (by decide) ?_
    refine tap_sh (n := 9) (q := 2) (b := 488) hs hd (by decide) rfl (by decide) ?_
    refine tap_sh (n := 8) (q := 1) (b := 488) hs hd (by decide) rfl (by decide) ?_
    refine tap_sh (n := 7) (q := 0) (b := 488) hs hd (by decide) rfl (by decide) ?_
    refine tap_hb (n := 6) (b := 488) hb hc (by decide) rfl (by decide) ?_
    refine tap_sh (n := 5) (q := 6) (b := 480) hs hd (by decide) rfl (by decide) ?_
    refine tap_sh (n := 4) (q := 5) (b := 480) hs hd (by decide) rfl (by decide) ?_
    refine tap_sh (n := 3) (q := 4) (b := 480) hs hd (by decide) rfl (by decide) ?_
    refine tap_sh (n := 2) (q := 3) (b := 480) hs hd (by decide) rfl (by decide) ?_
    refine tap_sh (n := 1) (q := 2) (b := 480) hs hd (by decide) rfl (by decide) ?_
    refine tap_sh (n := 0) (q := 1) (b := 480) hs hd (by decide) rfl (by decide) ?_
    exact isAcc_zero
  refine agrees_cons (fun x => out_piece (o := 448) ?_ x) ?_
  · have hb := hb4 c arg2 harg2 arg3 harg3 arg4 harg4 arg12 arg13 harg13 x0 x1 x2 xs1
    have hc := cb4 c arg2 harg2 arg3 harg3 arg4 harg4 arg12 arg13 harg13 x0 x1 x2 xs1
    have hs := sh4 c arg2 harg2 arg3 harg3 arg4 harg4 arg12 arg13 harg13 x0 x1 x2 xs1
    have hd := cs4 c arg2 harg2 arg3 harg3 arg4 harg4 arg12 arg13 harg13 x0 x1 x2 xs1
    refine tap_hb (n := 30) (b := 480) hb hc (by decide) rfl (by decide) ?_
    refine tap_sh (n := 29) (q := 6) (b := 472) hs hd (by decide) rfl (by decide) ?_
    refine tap_sh (n := 28) (q := 5) (b := 472) hs hd (by decide) rfl (by decide) ?_
    refine tap_sh (n := 27) (q := 4) (b := 472) hs hd (by decide) rfl (by decide) ?_
    refine tap_sh (n := 26) (q := 3) (b := 472) hs hd (by decide) rfl (by decide) ?_
    refine tap_sh (n := 25) (q := 2) (b := 472) hs hd (by decide) rfl (by decide) ?_
    refine tap_sh (n := 24) (q := 1) (b := 472) hs hd (by decide) rfl (by decide) ?_
    refine tap_sh (n := 23) (q := 0) (b := 472) hs hd (by decide) rfl (by decide) ?_
    refine tap_hb (n := 22) (b := 472) hb hc (by decide) rfl (by decide) ?_
    refine tap_sh (n := 21) (q := 6) (b := 464) hs hd (by decide) rfl (by decide) ?_
    refine tap_sh (n := 20) (q := 5) (b := 464) hs hd (by decide) rfl (by decide) ?_
    refine tap_sh (n := 19) (q := 4) (b := 464) hs hd (by decide) rfl (by decide) ?_
    refine tap_sh (n := 18) (q := 3) (b := 464) hs hd (by decide) rfl (by decide) ?_
    refine tap_sh (n := 17) (q := 2) (b := 464) hs hd (by decide) rfl (by decide) ?_
    refine tap_sh (n := 16) (q := 1) (b := 464) hs hd (by decide) rfl (by decide) ?_
    refine tap_sh (n := 15) (q := 0) (b := 464) hs hd (by decide) rfl (by decide) ?_
    refine tap_hb (n := 14) (b := 464) hb hc (by decide) rfl (by decide) ?_
    refine tap_sh (n := 13) (q := 6) (b := 456) hs hd (by decide) rfl (by decide) ?_
    refine tap_sh (n := 12) (q := 5) (b := 456) hs hd (by decide) rfl (by decide) ?_
    refine tap_sh (n := 11) (q := 4) (b := 456) hs hd (by decide) rfl (by decide) ?_
    refine tap_sh (n := 10) (q := 3) (b := 456) hs hd (by decide) rfl (by decide) ?_
    refine tap_sh (n := 9) (q := 2) (b := 456) hs hd (by decide) rfl (by decide) ?_
    refine tap_sh (n := 8) (q := 1) (b := 456) hs hd (by decide) rfl (by decide) ?_
    refine tap_sh (n := 7) (q := 0) (b := 456) hs hd (by decide) rfl (by decide) ?_
    refine tap_hb (n := 6) (b := 456) hb hc (by decide) rfl (by decide) ?_
    refine tap_sh (n := 5) (q := 6) (b := 448) hs hd (by decide) rfl (by decide) ?_
    refine tap_sh (n := 4) (q := 5) (b := 448) hs hd (by decide) rfl (by decide) ?_
    refine tap_sh (n := 3) (q := 4) (b := 448) hs hd (by decide) rfl (by decide) ?_
    refine tap_sh (n := 2) (q := 3) (b := 448) hs hd (by decide) rfl (by decide) ?_
    refine tap_sh (n := 1) (q := 2) (b := 448) hs hd (by decide) rfl (by decide) ?_
    refine tap_sh (n := 0) (q := 1) (b := 448) hs hd (by decide) rfl (by decide) ?_
    exact isAcc_zero
  refine agrees_cons (fun x => out_piece (o := 416) ?_ x) ?_
  · have hb := hb4 c arg2 harg2 arg3 harg3 arg4 harg4 arg12 arg13 harg13 x0 x1 x2 xs1
    have hc := cb4 c arg2 harg2 arg3 harg3 arg4 harg4 arg12 arg13 harg13 x0 x1 x2 xs1
    have hs := sh4 c arg2 harg2 arg3 harg3 arg4 harg4 arg12 arg13 harg13 x0 x1 x2 xs1
    have hd := cs4 c arg2 harg2 arg3 harg3 arg4 harg4 arg12 arg13 harg13 x0 x1 x2 xs1
    refine tap_hb (n := 30) (b := 448) hb hc (by decide) rfl (by decide) ?_
    refine tap_sh (n := 29) (q := 6) (b := 440) hs hd (by decide) rfl (by decide) ?_
    refine tap_sh (n := 28) (q := 5) (b := 440) hs hd (by decide) rfl (by decide) ?_
    refine tap_sh (n := 27) (q := 4) (b := 440) hs hd (by decide) rfl (by decide) ?_
    refine tap_sh (n := 26) (q := 3) (b := 440) hs hd (by decide) rfl (by decide) ?_
    refine tap_sh (n := 25) (q := 2) (b := 440) hs hd (by decide) rfl (by decide) ?_
    refine tap_sh (n := 24) (q := 1) (b := 440) hs hd (by decide) rfl (by decide) ?_
    refine tap_sh (n := 23) (q := 0) (b := 440) hs hd (by decide) rfl (by decide) ?_
    refine tap_hb (n := 22) (b := 440) hb hc (by decide) rfl (by decide) ?_
    refine tap_sh (n := 21) (q := 6) (b := 432) hs hd (by decide) rfl (by decide) ?_
    refine tap_sh (n := 20) (q := 5) (b := 432) hs hd (by decide) rfl (by decide) ?_
    refine tap_sh (n := 19) (q := 4) (b := 432) hs hd (by decide) rfl (by decide) ?_
    refine tap_sh (n := 18) (q := 3) (b := 432) hs hd (by decide) rfl (by decide) ?_
    refine tap_sh (n := 17) (q := 2) (b := 432) hs hd (by decide) rfl (by decide) ?_
    refine tap_sh (n := 16) (q := 1) (b := 432) hs hd (by decide) rfl (by decide) ?_
    refine tap_sh (n := 15) (q := 0) (b := 432) hs hd (by decide) rfl (by decide) ?_
    refine tap_hb (n := 14) (b := 432) hb hc (by decide) rfl (by decide) ?_
    refine tap_sh (n := 13) (q := 6) (b := 424) hs hd (by decide) rfl (by decide) ?_
    refine tap_sh (n := 12) (q := 5) (b := 424) hs hd (by decide) rfl (by decide) ?_
    refine tap_sh (n := 11) (q := 4) (b := 424) hs hd (by decide) rfl (by decide) ?_
    refine tap_sh (n := 10) (q := 3) (b := 424) hs hd (by decide) rfl (by decide) ?_
    refine tap_sh (n := 9) (q := 2) (b := 424) hs hd (by decide) rfl (by decide) ?_
    refine tap_sh (n := 8) (q := 1) (b := 424) hs hd (by decide) rfl (by decide) ?_
    refine tap_sh (n := 7) (q := 0) (b := 424) hs hd (by decide) rfl (by decide) ?_
    refine tap_hb (n := 6) (b := 424) hb hc (by decide) rfl (by decide) ?_
    refine tap_sh (n := 5) (q := 6) (b := 416) hs hd (by decide) rfl (by decide) ?_
    refine tap_sh (n := 4) (q := 5) (b := 416) hs hd (by decide) rfl (by decide) ?_
    refine tap_sh (n := 3) (q := 4) (b := 416) hs hd (by decide) rfl (by decide) ?_
    refine tap_sh (n := 2) (q := 3) (b := 416) hs hd (by decide) rfl (by decide) ?_
    refine tap_sh (n := 1) (q := 2) (b := 416) hs hd (by decide) rfl (by decide) ?_
    refine tap_sh (n := 0) (q := 1) (b := 416) hs hd (by decide) rfl (by decide) ?_
    exact isAcc_zero
  refine agrees_cons (fun x => out_piece (o := 384) ?_ x) ?_
  · have hb := hb4 c arg2 harg2 arg3 harg3 arg4 harg4 arg12 arg13 harg13 x0 x1 x2 xs1
    have hc := cb4 c arg2 harg2 arg3 harg3 arg4 harg4 arg12 arg13 harg13 x0 x1 x2 xs1
    have hs := sh4 c arg2 harg2 arg3 harg3 arg4 harg4 arg12 arg13 harg13 x0 x1 x2 xs1
    have hd := cs4 c arg2 harg2 arg3 harg3 arg4 harg4 arg12 arg13 harg13 x0 x1 x2 xs1
    refine tap_hb (n := 30) (b := 416) hb hc (by decide) rfl (by decide) ?_
    refine tap_sh (n := 29) (q := 6) (b := 408) hs hd (by decide) rfl (by decide) ?_
    refine tap_sh (n := 28) (q := 5) (b := 408) hs hd (by decide) rfl (by decide) ?_
    refine tap_sh (n := 27) (q := 4) (b := 408) hs hd (by decide) rfl (by decide) ?_
    refine tap_sh (n := 26) (q := 3) (b := 408) hs hd (by decide) rfl (by decide) ?_
    refine tap_sh (n := 25) (q := 2) (b := 408) hs hd (by decide) rfl (by decide) ?_
    refine tap_sh (n := 24) (q := 1) (b := 408) hs hd (by decide) rfl (by decide) ?_
    refine tap_sh (n := 23) (q := 0) (b := 408) hs hd (by decide) rfl (by decide) ?_
    refine tap_hb (n := 22) (b := 408) hb hc (by decide) rfl (by decide) ?_
    refine tap_sh (n := 21) (q := 6) (b := 400) hs hd (by decide) rfl (by decide) ?_
    refine tap_sh (n := 20) (q := 5) (b := 400) hs hd (by decide) rfl (by decide) ?_
    refine tap_sh (n := 19) (q := 4) (b := 400) hs hd (by decide) rfl (by decide) ?_
    refine tap_sh (n := 18) (q := 3) (b := 400) hs hd (by decide) rfl (by decide) ?_
    refine tap_sh (n := 17) (q := 2) (b := 400) hs hd (by decide) rfl (by decide) ?_
    refine tap_sh (n := 16) (q := 1) (b := 400) hs hd (by decide) rfl (by decide) ?_
    refine tap_sh (n := 15) (q := 0) (b := 400) hs hd (by decide) rfl (by decide) ?_
    refine tap_hb (n := 14) (b := 400) hb hc (by decide) rfl (by decide) ?_
    refine tap_sh (n := 13) (q := 6) (b := 392) hs hd (by decide) rfl (by decide) ?_
    refine tap_sh (n := 12) (q := 5) (b := 392) hs hd (by decide) rfl (by decide) ?_
    refine tap_sh (n := 11) (q := 4) (b := 392) hs hd (by decide) rfl (by decide) ?_
    refine tap_sh (n := 10) (q := 3) (b := 392) hs hd (by decide) rfl (by decide) ?_
    refine tap_sh (n := 9) (q := 2) (b := 392) hs hd (by decide) rfl (by decide) ?_
    refine tap_sh (n := 8) (q := 1) (b := 392) hs hd (by decide) rfl (by decide) ?_
    refine tap_sh (n := 7) (q := 0) (b := 392) hs hd (by decide) rfl (by decide) ?_
    refine tap_hb (n := 6) (b := 392) hb hc (by decide) rfl (by decide) ?_
    refine tap_sh (n := 5) (q := 6) (b := 384) hs hd (by decide) rfl (by decide) ?_
    refine tap_sh (n := 4) (q := 5) (b := 384) hs hd (by decide) rfl (by decide) ?_
    refine tap_sh (n := 3) (q := 4) (b := 384) hs hd (by decide) rfl (by decide) ?_
    refine tap_sh (n := 2) (q := 3) (b := 384) hs hd (by decide) rfl (by decide) ?_
    refine tap_sh (n := 1) (q := 2) (b := 384) hs hd (by decide) rfl (by decide) ?_
    refine tap_sh (n := 0) (q := 1) (b := 384) hs hd (by decide) rfl (by decide) ?_
    exact isAcc_zero
  refine agrees_cons (fun x => out_piece (o := 352) ?_ x) ?_
  · have hb := hb3 c arg2 harg2 arg3 harg3 arg4 harg4 arg12 arg13 harg13 x0 x1 x2 xs1
    have hc := cb3 c arg2 harg2 arg3 harg3 arg4 harg4 arg12 arg13 harg13 x0 x1 x2 xs1
    have hs := sh3 c arg2 harg2 arg3 harg3 arg4 harg4 arg12 arg13 harg13 x0 x1 x2 xs1
    have hd := cs3 c arg2 harg2 arg3 harg3 arg4 harg4 arg12 arg13 harg13 x0 x1 x2 xs1
    refine tap_hb (n := 30) (b := 384) hb hc (by decide) rfl (by decide) ?_
    refine tap_sh (n := 29) (q := 6) (b := 376) hs hd (by decide) rfl (by decide) ?_
    refine tap_sh (n := 28) (q := 5) (b := 376) hs hd (by decide) rfl (by decide) ?_
    refine tap_sh (n := 27) (q := 4) (b := 376) hs hd (by decide) rfl (by decide) ?_
    refine tap_sh (n := 26) (q := 3) (b := 376) hs hd (by decide) rfl (by decide) ?_
    refine tap_sh (n := 25) (q := 2) (b := 376) hs hd (by decide) rfl (by decide) ?_
    refine tap_sh (n := 24) (q := 1) (b := 376) hs hd (by decide) rfl (by decide) ?_
    refine tap_sh (n := 23) (q := 0) (b := 376) hs hd (by decide) rfl (by decide) ?_
    refine tap_hb (n := 22) (b := 376) hb hc (by decide) rfl (by decide) ?_
    refine tap_sh (n := 21) (q := 6) (b := 368) hs hd (by decide) rfl (by decide) ?_
    refine tap_sh (n := 20) (q := 5) (b := 368) hs hd (by decide) rfl (by decide) ?_
    refine tap_sh (n := 19) (q := 4) (b := 368) hs hd (by decide) rfl (by decide) ?_
    refine tap_sh (n := 18) (q := 3) (b := 368) hs hd (by decide) rfl (by decide) ?_
    refine tap_sh (n := 17) (q := 2) (b := 368) hs hd (by decide) rfl (by decide) ?_
    refine tap_sh (n := 16) (q := 1) (b := 368) hs hd (by decide) rfl (by decide) ?_
    refine tap_sh (n := 15) (q := 0) (b := 368) hs hd (by decide) rfl (by decide) ?_
    refine tap_hb (n := 14) (b := 368) hb hc (by decide) rfl (by decide) ?_
    refine tap_sh (n := 13) (q := 6) (b := 360) hs hd (by decide) rfl (by decide) ?_
    refine tap_sh (n := 12) (q := 5) (b := 360) hs hd (by decide) rfl (by decide) ?_
    refine tap_sh (n := 11) (q := 4) (b := 360) hs hd (by decide) rfl (by decide) ?_
    refine tap_sh (n := 10) (q := 3) (b := 360) hs hd (by decide) rfl (by decide) ?_
    refine tap_sh (n := 9) (q := 2) (b := 360) hs hd (by decide) rfl (by decide) ?_
    refine tap_sh (n := 8) (q := 1) (b := 360) hs hd (by decide) rfl (by decide) ?_
    refine tap_sh (n := 7) (q := 0) (b := 360) hs hd (by decide) rfl (by decide) ?_
    refine tap_hb (n := 6) (b := 360) hb hc (by decide) rfl (by decide) ?_
    refine tap_sh (n := 5) (q := 6) (b := 352) hs hd (by decide) rfl (by decide) ?_
    refine tap_sh (n := 4) (q := 5) (b := 352) hs hd (by decide) rfl (by decide) ?_
    refine tap_sh (n := 3) (q := 4) (b := 352) hs hd (by decide) rfl (by decide) ?_
    refine tap_sh (n := 2) (q := 3) (b := 352) hs hd (by decide) rfl (by decide) ?_
    refine tap_sh (n := 1) (q := 2) (b := 352) hs hd (by decide) rfl (by decide) ?_
    refine tap_sh (n := 0) (q := 1) (b := 352) hs hd (by decide) rfl (by decide) ?_
    exact isAcc_zero
  refine agrees_cons (fun x => out_piece (o := 320) ?_ x) ?_
  · have hb := hb3 c arg2 harg2 arg3 harg3 arg4 harg4 arg12 arg13 harg13 x0 x1 x2 xs1
    have hc := cb3 c arg2 harg2 arg3 harg3 arg4 harg4 arg12 arg13 harg13 x0 x1 x2 xs1
    have hs := sh3 c arg2 harg2 arg3 harg3 arg4 harg4 arg12 arg13 harg13 x0 x1 x2 xs1
    have hd := cs3 c arg2 harg2 arg3 harg3 arg4 harg4 arg12 arg13 harg13 x0 x1 x2 xs1
    refine tap_hb (n := 30) (b := 352) hb hc (by decide) rfl (by decide) ?_
    refine tap_sh (n := 29) (q := 6) (b := 344) hs hd (by decide) rfl (by decide) ?_
    refine tap_sh (n := 28) (q := 5) (b := 344) hs hd (by decide) rfl (by decide) ?_
    refine tap_sh (n := 27) (q := 4) (b := 344) hs hd (by decide) rfl (by decide) ?_
    refine tap_sh (n := 26) (q := 3) (b := 344) hs hd (by decide) rfl (by decide) ?_
    refine tap_sh (n := 25) (q := 2) (b := 344) hs hd (by decide) rfl (by decide) ?_
    refine tap_sh (n := 24) (q := 1) (b := 344) hs hd (by decide) rfl (by decide) ?_
    refine tap_sh (n := 23) (q := 0) (b := 344) hs hd (by decide) rfl (by decide) ?_
    refine tap_hb (n := 22) (b := 344) hb hc (by decide) rfl (by decide) ?_
    refine tap_sh (n := 21) (q := 6) (b := 336) hs hd (by decide) rfl (by decide) ?_
    refine tap_sh (n := 20) (q := 5) (b := 336) hs hd (by decide) rfl (by decide) ?_
    refine tap_sh (n := 19) (q := 4) (b := 336) hs hd (by decide) rfl (by decide) ?_
    refine tap_sh (n := 18) (q := 3) (b := 336) hs hd (by decide) rfl (by decide) ?_
    refine tap_sh (n := 17) (q := 2) (b := 336) hs hd (by decide) rfl (by decide) ?_
    refine tap_sh (n := 16) (q := 1) (b := 336) hs hd (by decide) rfl (by decide) ?_
    refine tap_sh (n := 15) (q := 0) (b := 336) hs hd (by decide) rfl (by decide) ?_
    refine tap_hb (n := 14) (b := 336) hb hc (by decide) rfl (by decide) ?_
    refine tap_sh (n := 13) (q := 6) (b := 328) hs hd (by decide) rfl (by decide) ?_
    refine tap_sh (n := 12) (q := 5) (b := 328) hs hd (by decide) rfl (by decide) ?_
    refine tap_sh (n := 11) (q := 4) (b := 328) hs hd (by decide) rfl (by decide) ?_
    refine tap_sh (n := 10) (q := 3) (b := 328) hs hd (by decide) rfl (by decide) ?_
    refine tap_sh (n := 9) (q := 2) (b := 328) hs hd (by decide) rfl (by decide) ?_
    refine tap_sh (n := 8) (q := 1) (b := 328) hs hd (by decide) rfl (by decide) ?_
    refine tap_sh (n := 7) (q := 0) (b := 328) hs hd (by decide) rfl (by decide) ?_
    refine tap_hb (n := 6) (b := 328) hb hc (by decide) rfl (by decide) ?_
    refine tap_sh (n := 5) (q := 6) (b := 320) hs hd (by decide) rfl (by decide) ?_
    refine tap_sh (n := 4) (q := 5) (b := 320) hs hd (by decide) rfl (by decide) ?_
    refine tap_sh (n := 3) (q := 4) (b := 320) hs hd (by decide) rfl (by decide) ?_
    refine tap_sh (n := 2) (q := 3) (b := 320) hs hd (by decide) rfl (by decide) ?_
    refine tap_sh (n := 1) (q := 2) (b := 320) hs hd (by decide) rfl (by decide) ?_
    refine tap_sh (n := 0) (q := 1) (b := 320) hs hd (by decide) rfl (by decide) ?_
    exact isAcc_zero
  refine agrees_cons (fun x => out_piece (o := 288) ?_ x) ?_
  · have hb := hb3 c arg2 harg2 arg3 harg3 arg4 harg4 arg12 arg13 harg13 x0 x1 x2 xs1
    have hc := cb3 c arg2 harg2 arg3 harg3 arg4 harg4 arg12 arg13 harg13 x0 x1 x2 xs1
    have hs := sh3 c arg2 harg2 arg3 harg3 arg4 harg4 arg12 arg13 harg13 x0 x1 x2 xs1
    have hd := cs3 c arg2 harg2 arg3 harg3 arg4 harg4 arg12 arg13 harg13 x0 x1 x2 xs1
    refine tap_hb (n := 30) (b := 320) hb hc (by decide) rfl (by decide) ?_
    refine tap_sh (n := 29) (q := 6) (b := 312) hs hd (by decide) rfl (by decide) ?_
    refine tap_sh (n := 28) (q := 5) (b := 312) hs hd (by decide) rfl (by decide) ?_
    refine tap_sh (n := 27) (q := 4) (b := 312) hs hd (by decide) rfl (by decide) ?_
    refine tap_sh (n := 26) (q := 3) (b := 312) hs hd (by decide) rfl (by decide) ?_
    refine tap_sh (n := 25) (q := 2) (b := 312) hs hd (by decide) rfl (by decide) ?_
    refine tap_sh (n := 24) (q := 1) (b := 312) hs hd (by decide) rfl (by decide) ?_
    refine tap_sh (n := 23) (q := 0) (b := 312) hs hd (by decide) rfl (by decide) ?_
    refine tap_hb (n := 22) (b := 312) hb hc (by decide) rfl (by decide) ?_
    refine tap_sh (n := 21) (q := 6) (b := 304) hs hd (by decide) rfl (by decide) ?_
    refine tap_sh (n := 20) (q := 5) (b := 304) hs hd (by decide) rfl (by decide) ?_
    refine tap_sh (n := 19) (q := 4) (b := 304) hs hd (by decide) rfl (by decide) ?_
    refine tap_sh (n := 18) (q := 3) (b := 304) hs hd (by decide) rfl (by decide) ?_
    refine tap_sh (n := 17) (q := 2) (b := 304) hs hd (by decide) rfl (by decide) ?_
    refine tap_sh (n := 16) (q := 1) (b := 304) hs hd (by decide) rfl (by decide) ?_
    refine tap_sh (n := 15) (q := 0) (b := 304) hs hd (by decide) rfl (by decide) ?_
    refine tap_hb (n := 14) (b := 304) hb hc (by decide) rfl (by decide) ?_
    refine tap_sh (n := 13) (q := 6) (b := 296) hs hd (by decide) rfl (by decide) ?_
    refine tap_sh (n := 12) (q := 5) (b := 296) hs hd (by decide) rfl (by decide) ?_
    refine tap_sh (n := 11) (q := 4) (b := 296) hs hd (by decide) rfl (by decide) ?_
    refine tap_sh (n := 10) (q := 3) (b := 296) hs hd (by decide) rfl (by decide) ?_
    refine tap_sh (n := 9) (q := 2) (b := 296) hs hd (by decide) rfl (by decide) ?_
    refine tap_sh (n := 8) (q := 1) (b := 296) hs hd (by decide) rfl (by decide) ?_
    refine tap_sh (n := 7) (q := 0) (b := 296) hs hd (by decide) rfl (by decide) ?_
    refine tap_hb (n := 6) (b := 296) hb hc (by decide) rfl (by decide) ?_
    refine tap_sh (n := 5) (q := 6) (b := 288) hs hd (by decide) rfl (by decide) ?_
    refine tap_sh (n := 4) (q := 5) (b := 288) hs hd (by decide) rfl (by decide) ?_
    refine tap_sh (n := 3) (q := 4) (b := 288) hs hd (by decide) rfl (by decide) ?_
    refine tap_sh (n := 2) (q := 3) (b := 288) hs hd (by decide) rfl (by decide) ?_
    refine tap_sh (n := 1) (q := 2) (b := 288) hs hd (by decide) rfl (by decide) ?_
    refine tap_sh (n := 0) (q := 1) (b := 288) hs hd (by decide) rfl (by decide) ?_
    exact isAcc_zero
  refine agrees_cons (fun x => out_piece (o := 256) ?_ x) ?_
  · have hb := hb3 c arg2 harg2 arg3 harg3 arg4 harg4 arg12 arg13 harg13 x0 x1 x2 xs1
    have hc := cb3 c arg2 harg2 arg3 harg3 arg4 harg4 arg12 arg13 harg13 x0 x1 x2 xs1
    have hs := sh3 c arg2 harg2 arg3 harg3 arg4 harg4 arg12 arg13 harg13 x0 x1 x2 xs1
    have hd := cs3 c arg2 harg2 arg3 harg3 arg4 harg4 arg12 arg13 harg13 x0 x1 x2 xs1
    refine tap_hb (n := 30) (b := 288) hb hc (by decide) rfl (by decide) ?_
    refine tap_sh (n := 29) (q := 6) (b := 280) hs hd (by decide) rfl (by decide) ?_
    refine tap_sh (n := 28) (q := 5) (b := 280) hs hd (by decide) rfl (by decide) ?_
    refine tap_sh (n := 27) (q := 4) (b := 280) hs hd (by decide) rfl (by decide) ?_
    refine tap_sh (n := 26) (q := 3) (b := 280) hs hd (by decide) rfl (by decide) ?_
    refine tap_sh (n := 25) (q := 2) (b := 280) hs hd (by decide) rfl (by decide) ?_
    refine tap_sh (n := 24) (q := 1) (b := 280) hs hd (by decide) rfl (by decide) ?_
    refine tap_sh (n := 23) (q := 0) (b := 280) hs hd (by decide) rfl (by decide) ?_
    refine tap_hb (n := 22) (b := 280) hb hc (by decide) rfl (by decide) ?_
    refine tap_sh (n := 21) (q := 6) (b := 272) hs hd (by decide) rfl (by decide) ?_
    refine tap_sh (n := 20) (q := 5) (b := 272) hs hd (by decide) rfl (by decide) ?_
    refine tap_sh (n := 19) (q := 4) (b := 272) hs hd (by decide) rfl (by decide) ?_
    refine tap_sh (n := 18) (q := 3) (b := 272) hs hd (by decide) rfl (by decide) ?_
    refine tap_sh (n := 17) (q := 2) (b := 272) hs hd (by decide) rfl (by decide) ?_
    refine tap_sh (n := 16) (q := 1) (b := 272) hs hd (by decide) rfl (by decide) ?_
    refine tap_sh (n := 15) (q := 0) (b := 272) hs hd (by decide) rfl (by decide) ?_
    refine tap_hb (n := 14) (b := 272) hb hc (by decide) rfl (by decide) ?_
    refine tap_sh (n := 13) (q := 6) (b := 264) hs hd (by decide) rfl (by decide) ?_
    refine tap_sh (n := 12) (q := 5) (b := 264) hs hd (by decide) rfl (by decide) ?_
    refine tap_sh (n := 11) (q := 4) (b := 264) hs hd (by decide) rfl (by decide) ?_
    refine tap_sh (n := 10) (q := 3) (b := 264) hs hd (by decide) rfl (by decide) ?_
    refine tap_sh (n := 9) (q := 2) (b := 264) hs hd (by decide) rfl (by decide) ?_
    refine tap_sh (n := 8) (q := 1) (b := 264) hs hd (by decide) rfl (by decide) ?_
    refine tap_sh (n := 7) (q := 0) (b := 264) hs hd (by decide) rfl (by decide) ?_
    refine tap_hb (n := 6) (b := 264) hb hc (by decide) rfl (by decide) ?_
    refine tap_sh (n := 5) (q := 6) (b := 256) hs hd (by decide) rfl (by decide) ?_
    refine tap_sh (n := 4) (q := 5) (b := 256) hs hd (by decide) rfl (by decide) ?_
    refine tap_sh (n := 3) (q := 4) (b := 256) hs hd (by decide) rfl (by decide) ?_
    refine tap_sh (n := 2) (q := 3) (b := 256) hs hd (by decide) rfl (by decide) ?_
    refine tap_sh (n := 1) (q := 2) (b := 256) hs hd (by decide) rfl (by decide) ?_
    refine tap_sh (n := 0) (q := 1) (b := 256) hs hd (by decide) rfl (by decide) ?_
    exact isAcc_zero
  refine agrees_cons (fun x => out_piece (o := 224) ?_ x) ?_
  · have hb := hb2 c arg2 harg2 arg3 harg3 arg4 harg4 arg12 arg13 harg13 x0 x1 x2 xs1
    have hc := cb2 c arg2 harg2 arg3 harg3 arg4 harg4 arg12 arg13 harg13 x0 x1 x2 xs1
    have hs := sh2 c arg2 harg2 arg3 harg3 arg4 harg4 arg12 arg13 harg13 x0 x1 x2 xs1
    have hd := cs2 c arg2 harg2 arg3 harg3 arg4 harg4 arg12 arg13 harg13 x0 x1 x2 xs1
    refine tap_hb (n := 30) (b := 256) hb hc (by decide) rfl (by decide) ?_
    refine tap_sh (n := 29) (q := 6) (b := 248) hs hd (by decide) rfl (by decide) ?_
    refine tap_sh (n := 28) (q := 5) (b := 248) hs hd (by decide) rfl (by decide) ?_
    refine tap_sh (n := 27) (q := 4) (b := 248) hs hd (by decide) rfl (by decide) ?_
    refine tap_sh (n := 26) (q := 3) (b := 248) hs hd (by decide) rfl (by decide) ?_
    refine tap_sh (n := 25) (q := 2) (b := 248) hs hd (by decide) rfl (by decide) ?_
    refine tap_sh (n := 24) (q := 1) (b := 248) hs hd (by decide) rfl (by decide) ?_
    refine tap_sh (n := 23) (q := 0) (b := 248) hs hd (by decide) rfl (by decide) ?_
    refine tap_hb (n := 22) (b := 248) hb hc (by decide) rfl (by decide) ?_
    refine tap_sh (n := 21) (q := 6) (b := 240) hs hd (by decide) rfl (by decide) ?_
    refine tap_sh (n := 20) (q := 5) (b := 240) hs hd (by decide) rfl (by decide) ?_
    refine tap_sh (n := 19) (q := 4) (b := 240) hs hd (by decide) rfl (by decide) ?_
    refine tap_sh (n := 18) (q := 3) (b := 240) hs hd (by decide) rfl (by decide) ?_
    refine tap_sh (n := 17) (q := 2) (b := 240) hs hd (by decide) rfl (by decide) ?_
    refine tap_sh (n := 16) (q := 1) (b := 240) hs hd (by decide) rfl (by decide) ?_
    refine tap_sh (n := 15) (q := 0) (b := 240) hs hd (by decide) rfl (by decide) ?_
    refine tap_hb (n := 14) (b := 240) hb hc (by decide) rfl (by decide) ?_
    refine tap_sh (n := 13) (q := 6) (b := 232) hs hd (by decide) rfl (by decide) ?_
    refine tap_sh (n := 12) (q := 5) (b := 232) hs hd (by decide) rfl (by decide) ?_
    refine tap_sh (n := 11) (q := 4) (b := 232) hs hd (by decide) rfl (by decide) ?_
    refine tap_sh (n := 10) (q := 3) (b := 232) hs hd (by decide) rfl (by decide) ?_
    refine tap_sh (n := 9) (q := 2) (b := 232) hs hd (by decide) rfl (by decide) ?_
    refine tap_sh (n := 8) (q := 1) (b := 232) hs hd (by decide) rfl (by decide) ?_
    refine tap_sh (n := 7) (q := 0) (b := 232) hs hd (by decide) rfl (by decide) ?_
    refine tap_hb (n := 6) (b := 232) hb hc (by decide) rfl (by decide) ?_
    refine tap_sh (n := 5) (q := 6) (b := 224) hs hd (by decide) rfl (by decide) ?_
    refine tap_sh (n := 4) (q := 5) (b := 224) hs hd (by decide) rfl (by decide) ?_
    refine tap_sh (n := 3) (q := 4) (b := 224) hs hd (by decide) rfl (by decide) ?_
    refine tap_sh (n := 2) (q := 3) (b := 224) hs hd (by decide) rfl (by decide) ?_
    refine tap_sh (n := 1) (q := 2) (b := 224) hs hd (by decide) rfl (by decide) ?_
    refine tap_sh (n := 0) (q := 1) (b := 224) hs hd (by decide) rfl (by decide) ?_
    exact isAcc_zero
  refine agrees_cons (fun x => out_piece (o := 192) ?_ x) ?_
  · have hb := hb2 c arg2 harg2 arg3 harg3 arg4 harg4 arg12 arg13 harg13 x0 x1 x2 xs1
    have hc := cb2 c arg2 harg2 arg3 harg3 arg4 harg4 arg12 arg13 harg13 x0 x1 x2 xs1
    have hs := sh2 c arg2 harg2 arg3 harg3 arg4 harg4 arg12 arg13 harg13 x0 x1 x2 xs1
    have hd := cs2 c arg2 harg2 arg3 harg3 arg4 harg4 arg12 arg13 harg13 x0 x1 x2 xs1
    refine tap_hb (n := 30) (b := 224) hb hc (by decide) rfl (by decide) ?_
    refine tap_sh (n := 29) (q := 6) (b := 216) hs hd (by decide) rfl (by decide) ?_
    refine tap_sh (n := 28) (q := 5) (b := 216) hs hd (by decide) rfl (by decide) ?_
    refine tap_sh (n := 27) (q := 4) (b := 216) hs hd (by decide) rfl (by decide) ?_
    refine tap_sh (n := 26) (q := 3) (b := 216) hs hd (by decide) rfl (by decide) ?_
    refine tap_sh (n := 25) (q := 2) (b := 216) hs hd (by decide) rfl (by decide) ?_
    refine tap_sh (n := 24) (q := 1) (b := 216) hs hd (by decide) rfl (by decide) ?_
    refine tap_sh (n := 23) (q := 0) (b := 216) hs hd (by decide) rfl (by decide) ?_
    refine tap_hb (n := 22) (b := 216) hb hc (by decide) rfl (by decide) ?_
    refine tap_sh (n := 21) (q := 6) (b := 208) hs hd (by decide) rfl (by decide) ?_
    refine tap_sh (n := 20) (q := 5) (b := 208) hs hd (by decide) rfl (by decide) ?_
    refine tap_sh (n := 19) (q := 4) (b := 208) hs hd (by decide) rfl (by decide) ?_
    refine tap_sh (n := 18) (q := 3) (b := 208) hs hd (by decide) rfl (by decide) ?_
    refine tap_sh (n := 17) (q := 2) (b := 208) hs hd (by decide) rfl (by decide) ?_
    refine tap_sh (n := 16) (q := 1) (b := 208) hs hd (by decide) rfl (by decide) ?_
    refine tap_sh (n := 15) (q := 0) (b := 208) hs hd (by decide) rfl (by decide) ?_
    refine tap_hb (n := 14) (b := 208) hb hc (by decide) rfl (by decide) ?_
    refine tap_sh (n := 13) (q := 6) (b := 200) hs hd (by decide) rfl (by decide) ?_
    refine tap_sh (n := 12) (q := 5) (b := 200) hs hd (by decide) rfl (by decide) ?_
    refine tap_sh (n := 11) (q := 4) (b := 200) hs hd (by decide) rfl (by decide) ?_
    refine tap_sh (n := 10) (q := 3) (b := 200) hs hd (by decide) rfl (by decide) ?_
    refine tap_sh (n := 9) (q := 2) (b := 200) hs hd (by decide) rfl (by decide) ?_
    refine tap_sh (n := 8) (q := 1) (b := 200) hs hd (by decide) rfl (by decide) ?_
    refine tap_sh (n := 7) (q := 0) (b := 200) hs hd (by decide) rfl (by decide) ?_
    refine tap_hb (n := 6) (b := 200) hb hc (by decide) rfl (by decide) ?_
    refine tap_sh (n := 5) (q := 6) (b := 192) hs hd (by decide) rfl (by decide) ?_
    refine tap_sh (n := 4) (q := 5) (b := 192) hs hd (by decide) rfl (by decide) ?_
    refine tap_sh (n := 3) (q := 4) (b := 192) hs hd (by decide) rfl (by decide) ?_
    refine tap_sh (n := 2) (q := 3) (b := 192) hs hd (by decide) rfl (by decide) ?_
    refine tap_sh (n := 1) (q := 2) (b := 192) hs hd (by decide) rfl (by decide) ?_
    refine tap_sh (n := 0) (q := 1) (b := 192) hs hd (by decide) rfl (by decide) ?_
    exact isAcc_zero
  refine agrees_cons (fun x => out_piece (o := 160) ?_ x) ?_
  · have hb := hb2 c arg2 harg2 arg3 harg3 arg4 harg4 arg12 arg13 harg13 x0 x1 x2 xs1
    have hc := cb2 c arg2 harg2 arg3 harg3 arg4 harg4 arg12 arg13 harg13 x0 x1 x2 xs1
    have hs := sh2 c arg2 harg2 arg3 harg3 arg4 harg4 arg12 arg13 harg13 x0 x1 x2 xs1
    have hd := cs2 c arg2 harg2 arg3 harg3 arg4 harg4 arg12 arg13 harg13 x0 x1 x2 xs1
    refine tap_hb (n := 30) (b := 192) hb hc (by decide) rfl (by decide) ?_
    refine tap_sh (n := 29) (q := 6) (b := 184) hs hd (by decide) rfl (by decide) ?_
    refine tap_sh (n := 28) (q := 5) (b := 184) hs hd (by decide) rfl (by decide) ?_
    refine tap_sh (n := 27) (q := 4) (b := 184) hs hd (by decide) rfl (by decide) ?_
    refine tap_sh (n := 26) (q := 3) (b := 184) hs hd (by decide) rfl (by decide) ?_
    refine tap_sh (n := 25) (q := 2) (b := 184) hs hd (by decide) rfl (by decide) ?_
    refine tap_sh (n := 24) (q := 1) (b := 184) hs hd (by decide) rfl (by decide) ?_
    refine tap_sh (n := 23) (q := 0) (b := 184) hs hd (by decide) rfl (by decide) ?_
    refine tap_hb (n := 22) (b := 184) hb hc (by decide) rfl (by decide) ?_
    refine tap_sh (n := 21) (q := 6) (b := 176) hs hd (by decide) rfl (by decide) ?_
    refine tap_sh (n := 20) (q := 5) (b := 176) hs hd (by decide) rfl (by decide) ?_
    refine tap_sh (n := 19) (q := 4) (b := 176) hs hd (by decide) rfl (by decide) ?_
    refine tap_sh (n := 18) (q := 3) (b := 176) hs hd (by decide) rfl (by decide) ?_
    refine tap_sh (n := 17) (q := 2) (b := 176) hs hd (by decide) rfl (by decide) ?_
    refine tap_sh (n := 16) (q := 1) (b := 176) hs hd (by decide) rfl (by decide) ?_
    refine tap_sh (n := 15) (q := 0) (b := 176) hs hd (by decide) rfl (by decide) ?_
    refine tap_hb (n := 14) (b := 176) hb hc (by decide) rfl (by decide) ?_
    refine tap_sh (n := 13) (q := 6) (b := 168) hs hd (by decide) rfl (by decide) ?_
    refine tap_sh (n := 12) (q := 5) (b := 168) hs hd (by decide) rfl (by decide) ?_
    refine tap_sh (n := 11) (q := 4) (b := 168) hs hd (by decide) rfl (by decide) ?_
    refine tap_sh (n := 10) (q := 3) (b := 168) hs hd (by decide) rfl (by decide) ?_
    refine tap_sh (n := 9) (q := 2) (b := 168) hs hd (by decide) rfl (by decide) ?_
    refine tap_sh (n := 8) (q := 1) (b := 168) hs hd (by decide) rfl (by decide) ?_
    refine tap_sh (n := 7) (q := 0) (b := 168) hs hd (by decide) rfl (by decide) ?_
    refine tap_hb (n := 6) (b := 168) hb hc (by decide) rfl (by decide) ?_
    refine tap_sh (n := 5) (q := 6) (b := 160) hs hd (by decide) rfl (by decide) ?_
    refine tap_sh (n := 4) (q := 5) (b := 160) hs hd (by decide) rfl (by decide) ?_
    refine tap_sh (n := 3) (q := 4) (b := 160) hs hd (by decide) rfl (by decide) ?_
    refine tap_sh (n := 2) (q := 3) (b := 160) hs hd (by decide) rfl (by decide) ?_
    refine tap_sh (n := 1) (q := 2) (b := 160) hs hd (by decide) rfl (by decide) ?_
    refine tap_sh (n := 0) (q := 1) (b := 160) hs hd (by decide) rfl (by decide) ?_
    exact isAcc_zero
  refine agrees_cons (fun x => out_piece (o := 128) ?_ x) ?_
  · have hb := hb2 c arg2 harg2 arg3 harg3 arg4 harg4 arg12 arg13 harg13 x0 x1 x2 xs1
    have hc := cb2 c arg2 harg2 arg3 harg3 arg4 harg4 arg12 arg13 harg13 x0 x1 x2 xs1
    have hs := sh2 c arg2 harg2 arg3 harg3 arg4 harg4 arg12 arg13 harg13 x0 x1 x2 xs1
    have hd := cs2 c arg2 harg2 arg3 harg3 arg4 harg4 arg12 arg13 harg13 x0 x1 x2 xs1
    refine tap_hb (n := 30) (b := 160) hb hc (by decide) rfl (by decide) ?_
    refine tap_sh (n := 29) (q := 6) (b := 152) hs hd (by decide) rfl (by decide) ?_
    refine tap_sh (n := 28) (q := 5) (b := 152) hs hd (by decide) rfl (by decide) ?_
    refine tap_sh (n := 27) (q := 4) (b := 152) hs hd (by decide) rfl (by decide) ?_
    refine tap_sh (n := 26) (q := 3) (b := 152) hs hd (by decide) rfl (by decide) ?_
    refine tap_sh (n := 25) (q := 2) (b := 152) hs hd (by decide) rfl (by decide) ?_
    refine tap_sh (n := 24) (q := 1) (b := 152) hs hd (by decide) rfl (by decide) ?_
    refine tap_sh (n := 23) (q := 0) (b := 152) hs hd (by decide) rfl (by decide) ?_
    refine tap_hb (n := 22) (b := 152) hb hc (by decide) rfl (by decide) ?_
    refine tap_sh (n := 21) (q := 6) (b := 144) hs hd (by decide) rfl (by decide) ?_
    refine tap_sh (n := 20) (q := 5) (b := 144) hs hd (by decide) rfl (by decide) ?_
    refine tap_sh (n := 19) (q := 4) (b := 144) hs hd (by decide) rfl (by decide) ?_
    refine tap_sh (n := 18) (q := 3) (b := 144) hs hd (by decide) rfl (by decide) ?_
    refine tap_sh (n := 17) (q := 2) (b := 144) hs hd (by decide) rfl (by decide) ?_
    refine tap_sh (n := 16) (q := 1) (b := 144) hs hd (by decide) rfl (by decide) ?_
    refine tap_sh (n := 15) (q := 0) (b := 144) hs hd (by decide) rfl (by decide) ?_
    refine tap_hb (n := 14) (b := 144) hb hc (by decide) rfl (by decide) ?_
    refine tap_sh (n := 13) (q := 6) (b := 136) hs hd (by decide) rfl (by decide) ?_
    refine tap_sh (n := 12) (q := 5) (b := 136) hs hd (by decide) rfl (by decide) ?_
    refine tap_sh (n := 11) (q := 4) (b := 136) hs hd (by decide) rfl (by decide) ?_
    refine tap_sh (n := 10) (q := 3) (b := 136) hs hd (by decide) rfl (by decide) ?_
    refine tap_sh (n := 9) (q := 2) (b := 136) hs hd (by decide) rfl (by decide) ?_
    refine tap_sh (n := 8) (q := 1) (b := 136) hs hd (by decide) rfl (by decide) ?_
    refine tap_sh (n := 7) (q := 0) (b := 136) hs hd (by decide) rfl (by decide) ?_
    refine tap_hb (n := 6) (b := 136) hb hc (by decide) rfl (by decide) ?_
    refine tap_sh (n := 5) (q := 6) (b := 128) hs hd (by decide) rfl (by decide) ?_
    refine tap_sh (n := 4) (q := 5) (b := 128) hs hd (by decide) rfl (by decide) ?_
    refine tap_sh (n := 3) (q := 4) (b := 128) hs hd (by decide) rfl (by decide) ?_
    refine tap_sh (n := 2) (q := 3) (b := 128) hs hd (by decide) rfl (by decide) ?_
    refine tap_sh (n := 1) (q := 2) (b := 128) hs hd (by decide) rfl (by decide) ?_
    refine tap_sh (n := 0) (q := 1) (b := 128) hs hd (by decide) rfl (by decide) ?_
    exact isAcc_zero
  refine agrees_cons (fun x => out_piece (o := 96) ?_ x) ?_
  · have hb := hb1 c arg2 harg2 arg3 harg3 arg4 harg4 arg12 arg13 harg13 x0 x1 x2 xs1
    have hc := cb1 c arg2 harg2 arg3 harg3 arg4 harg4 arg12 arg13 harg13 x0 x1 x2 xs1
    have hs := sh1 c arg2 harg2 arg3 harg3 arg4 harg4 arg12 arg13 harg13 x0 x1 x2 xs1
    have hd := cs1 c arg2 harg2 arg3 harg3 arg4 harg4 arg12 arg13 harg13 x0 x1 x2 xs1
    refine tap_hb (n := 30) (b := 128) hb hc (by decide) rfl (by decide) ?_
    refine tap_sh (n := 29) (q := 6) (b := 120) hs hd (by decide) rfl (by decide) ?_
    refine tap_sh (n := 28) (q := 5) (b := 120) hs hd (by decide) rfl (by decide) ?_
    refine tap_sh (n := 27) (q := 4) (b := 120) hs hd (by decide) rfl (by decide) ?_
    refine tap_sh (n := 26) (q := 3) (b := 120) hs hd (by decide) rfl (by decide) ?_
    refine tap_sh (n := 25) (q := 2) (b := 120) hs hd (by decide) rfl (by decide) ?_
    refine tap_sh (n := 24) (q := 1) (b := 120) hs hd (by decide) rfl (by decide) ?_
    refine tap_sh (n := 23) (q := 0) (b := 120) hs hd (by decide) rfl (by decide) ?_
    refine tap_hb (n := 22) (b := 120) hb hc (by decide) rfl (by decide) ?_
    refine tap_sh (n := 21) (q := 6) (b := 112) hs hd (by decide) rfl (by decide) ?_
    refine tap_sh (n := 20) (q := 5) (b := 112) hs hd (by decide) rfl (by decide) ?_
    refine tap_sh (n := 19) (q := 4) (b := 112) hs hd (by decide) rfl (by decide) ?_
    refine tap_sh (n := 18) (q := 3) (b := 112) hs hd (by decide) rfl (by decide) ?_
    refine tap_sh (n := 17) (q := 2) (b := 112) hs hd (by decide) rfl (by decide) ?_
    refine tap_sh (n := 16) (q := 1) (b := 112) hs hd (by decide) rfl (by decide) ?_
    refine tap_sh (n := 15) (q := 0) (b := 112) hs hd (by decide) rfl (by decide) ?_
    refine tap_hb (n := 14) (b := 112) hb hc (by decide) rfl (by decide) ?_
    refine tap_sh (n := 13) (q := 6) (b := 104) hs hd (by decide) rfl (by decide) ?_
    refine tap_sh (n := 12) (q := 5) (b := 104) hs hd (by decide) rfl (by decide) ?_
    refine tap_sh (n := 11) (q := 4) (b := 104) hs hd (by decide) rfl (by decide) ?_
    refine tap_sh (n := 10) (q := 3) (b := 104) hs hd (by decide) rfl (by decide) ?_
    refine tap_sh (n := 9) (q := 2) (b := 104) hs hd (by decide) rfl (by decide) ?_
    refine tap_sh (n := 8) (q := 1) (b := 104) hs hd (by decide) rfl (by decide) ?_
    refine tap_sh (n := 7) (q := 0) (b := 104) hs hd (by decide) rfl (by decide) ?_
    refine tap_hb (n := 6) (b := 104) hb hc (by decide) rfl (by decide) ?_
    refine tap_sh (n := 5) (q := 6) (b := 96) hs hd (by decide) rfl (by decide) ?_
    refine tap_sh (n := 4) (q := 5) (b := 96) hs hd (by decide) rfl (by decide) ?_
    refine tap_sh (n := 3) (q := 4) (b := 96) hs hd (by decide) rfl (by decide) ?_
    refine tap_sh (n := 2) (q := 3) (b := 96) hs hd (by decide) rfl (by decide) ?_
    refine tap_sh (n := 1) (q := 2) (b := 96) hs hd (by decide) rfl (by decide) ?_
    refine tap_sh (n := 0) (q := 1) (b := 96) hs hd (by decide) rfl (by decide) ?_
    exact isAcc_zero
  refine agrees_cons (fun x => out_piece (o := 64) ?_ x) ?_
  · have hb := hb1 c arg2 harg2 arg3 harg3 arg4 harg4 arg12 arg13 harg13 x0 x1 x2 xs1
    have hc := cb1 c arg2 harg2 arg3 harg3 arg4 harg4 arg12 arg13 harg13 x0 x1 x2 xs1
    have hs := sh1 c arg2 harg2 arg3 harg3 arg4 harg4 arg12 arg13 harg13 x0 x1 x2 xs1
    have hd := cs1 c arg2 harg2 arg3 harg3 arg4 harg4 arg12 arg13 harg13 x0 x1 x2 xs1
    refine tap_hb (n := 30) (b := 96) hb hc (by decide) rfl (by decide) ?_
    refine tap_sh (n := 29) (q := 6) (b := 88) hs hd (by decide) rfl (by decide) ?_
    refine tap_sh (n := 28) (q := 5) (b := 88) hs hd (by decide) rfl (by decide) ?_
    refine tap_sh (n := 27) (q := 4) (b := 88) hs hd (by decide) rfl (by decide) ?_
    refine tap_sh (n := 26) (q := 3) (b := 88) hs hd (by decide) rfl (by decide) ?_
    refine tap_sh (n := 25) (q := 2) (b := 88) hs hd (by decide) rfl (by decide) ?_
    refine tap_sh (n := 24) (q := 1) (b := 88) hs hd (by decide) rfl (by decide) ?_
    refine tap_sh (n := 23) (q := 0) (b := 88) hs hd (by decide) rfl (by decide) ?_
    refine tap_hb (n := 22) (b := 88) hb hc (by decide) rfl (by decide) ?_
    refine tap_sh (n := 21) (q := 6) (b := 80) hs hd (by decide) rfl (by decide) ?_
    refine tap_sh (n := 20) (q := 5) (b := 80) hs hd (by decide) rfl (by decide) ?_
    refine tap_sh (n := 19) (q := 4) (b := 80) hs hd (by decide) rfl (by decide) ?_
    refine tap_sh (n := 18) (q := 3) (b := 80) hs hd (by decide) rfl (by decide) ?_
    refine tap_sh (n := 17) (q := 2) (b := 80) hs hd (by decide) rfl (by decide) ?_
    refine tap_sh (n := 16) (q := 1) (b := 80) hs hd (by decide) rfl (by decide) ?_
    refine tap_sh (n := 15) (q := 0) (b := 80) hs hd (by decide) rfl (by decide) ?_
    refine tap_hb (n := 14) (b := 80) hb hc (by decide) rfl (by decide) ?_
    refine tap_sh (n := 13) (q := 6) (b := 72) hs hd (by decide) rfl (by decide) ?_
    refine tap_sh (n := 12) (q := 5) (b := 72) hs hd (by decide) rfl (by decide) ?_
    refine tap_sh (n := 11) (q := 4) (b := 72) hs hd (by decide) rfl (by decide) ?_
    refine tap_sh (n := 10) (q := 3) (b := 72) hs hd (by decide) rfl (by decide) ?_
    refine tap_sh (n := 9) (q := 2) (b := 72) hs hd (by decide) rfl (by decide) ?_
    refine tap_sh (n := 8) (q := 1) (b := 72) hs hd (by decide) rfl (by decide) ?_
    refine tap_sh (n := 7) (q := 0) (b := 72) hs hd (by decide) rfl (by decide) ?_
    refine tap_hb (n := 6) (b := 72) hb hc (by decide) rfl (by decide) ?_
    refine tap_sh (n := 5) (q := 6) (b := 64) hs hd (by decide) rfl (by decide) ?_
    refine tap_sh (n := 4) (q := 5) (b := 64) hs hd (by decide) rfl (by decide) ?_
    refine tap_sh (n := 3) (q := 4) (b := 64) hs hd (by decide) rfl (by decide) ?_
    refine tap_sh (n := 2) (q := 3) (b := 64) hs hd (by decide) rfl (by decide) ?_
    refine tap_sh (n := 1) (q := 2) (b := 64) hs hd (by decide) rfl (by decide) ?_
    refine tap_sh (n := 0) (q := 1) (b := 64) hs hd (by decide) rfl (by decide) ?_
    exact isAcc_zero
  refine agrees_cons (fun x => out_piece (o := 32) ?_ x) ?_
  · have hb := hb1 c arg2 harg2 arg3 harg3 arg4 harg4 arg12 arg13 harg13 x0 x1 x2 xs1
    have hc := cb1 c arg2 harg2 arg3 harg3 arg4 harg4 arg12 arg13 harg13 x0 x1 x2 xs1
    have hs := sh1 c arg2 harg2 arg3 harg3 arg4 harg4 arg12 arg13 harg13 x0 x1 x2 xs1
    have hd := cs1 c arg2 harg2 arg3 harg3 arg4 harg4 arg12 arg13 harg13 x0 x1 x2 xs1
    refine tap_hb (n := 30) (b := 64) hb hc (by decide) rfl (by decide) ?_
    refine tap_sh (n := 29) (q := 6) (b := 56) hs hd (by decide) rfl (by decide) ?_
    refine tap_sh (n := 28) (q := 5) (b := 56) hs hd (by decide) rfl (by decide) ?_
    refine tap_sh (n := 27) (q := 4) (b := 56) hs hd (by decide) rfl (by decide) ?_
    refine tap_sh (n := 26) (q := 3) (b := 56) hs hd (by decide) rfl (by decide) ?_
    refine tap_sh (n := 25) (q := 2) (b := 56) hs hd (by decide) rfl (by decide) ?_
    refine tap_sh (n := 24) (q := 1) (b := 56) hs hd (by decide) rfl (by decide) ?_
    refine tap_sh (n := 23) (q := 0) (b := 56) hs hd (by decide) rfl (by decide) ?_
    refine tap_hb (n := 22) (b := 56) hb hc (by decide) rfl (by decide) ?_
    refine tap_sh (n := 21) (q := 6) (b := 48) hs hd (by decide) rfl (by decide) ?_
    refine tap_sh (n := 20) (q := 5) (b := 48) hs hd (by decide) rfl (by decide) ?_
    refine tap_sh (n := 19) (q := 4) (b := 48) hs hd (by decide) rfl (by decide) ?_
    refine tap_sh (n := 18) (q := 3) (b := 48) hs hd (by decide) rfl (by decide) ?_
    refine tap_sh (n := 17) (q := 2) (b := 48) hs hd (by decide) rfl (by decide) ?_
    refine tap_sh (n := 16) (q := 1) (b := 48) hs hd (by decide) rfl (by decide) ?_
    refine tap_sh (n := 15) (q := 0) (b := 48) hs hd (by decide) rfl (by decide) ?_
    refine tap_hb (n := 14) (b := 48) hb hc (by decide) rfl (by decide) ?_
    refine tap_sh (n := 13) (q := 6) (b := 40) hs hd (by decide) rfl (by decide) ?_
    refine tap_sh (n := 12) (q := 5) (b := 40) hs hd (by decide) rfl (by decide) ?_
    refine tap_sh (n := 11) (q := 4) (b := 40) hs hd (by decide) rfl (by decide) ?_
    refine tap_sh (n := 10) (q := 3) (b := 40) hs hd (by decide) rfl (by decide) ?_
    refine tap_sh (n := 9) (q := 2) (b := 40) hs hd (by decide) rfl (by decide) ?_
    refine tap_sh (n := 8) (q := 1) (b := 40) hs hd (by decide) rfl (by decide) ?_
    refine tap_sh (n := 7) (q := 0) (b := 40) hs hd (by decide) rfl (by decide) ?_
    refine tap_hb (n := 6) (b := 40) hb hc (by decide) rfl (by decide) ?_
    refine tap_sh (n := 5) (q := 6) (b := 32) hs hd (by decide) rfl (by decide) ?_
    refine tap_sh (n := 4) (q := 5) (b := 32) hs hd (by decide) rfl (by decide) ?_
    refine tap_sh (n := 3) (q := 4) (b := 32) hs hd (by decide) rfl (by decide) ?_
    refine tap_sh (n := 2) (q := 3) (b := 32) hs hd (by decide) rfl (by decide) ?_
    refine tap_sh (n := 1) (q := 2) (b := 32) hs hd (by decide) rfl (by decide) ?_
    refine tap_sh (n := 0) (q := 1) (b := 32) hs hd (by decide) rfl (by decide) ?_
    exact isAcc_zero
  refine agrees_cons (fun x => out_piece (o := 0) ?_ x) ?_
  · have hb := hb1 c arg2 harg2 arg3 harg3 arg4 harg4 arg12 arg13 harg13 x0 x1 x2 xs1
    have hc := cb1 c arg2 harg2 arg3 harg3 arg4 harg4 arg12 arg13 harg13 x0 x1 x2 xs1
    have hs := sh1 c arg2 harg2 arg3 harg3 arg4 harg4 arg12 arg13 harg13 x0 x1 x2 xs1
    have hd := cs1 c arg2 harg2 arg3 harg3 arg4 harg4 arg12 arg13 harg13 x0 x1 x2 xs1
    refine tap_hb (n := 30) (b := 32) hb hc (by decide) rfl (by decide) ?_
    refine tap_sh (n := 29) (q := 6) (b := 24) hs hd (by decide) rfl (by decide) ?_
    refine tap_sh (n := 28) (q := 5) (b := 24) hs hd (by decide) rfl (by decide) ?_
    refine tap_sh (n := 27) (q := 4) (b := 24) hs hd (by decide) rfl (by decide) ?_
    refine tap_sh (n := 26) (q := 3) (b := 24) hs hd (by decide) rfl (by decide) ?_
    refine tap_sh (n := 25) (q := 2) (b := 24) hs hd (by decide) rfl (by decide) ?_
    refine tap_sh (n := 24) (q := 1) (b := 24) hs hd (by decide) rfl (by decide) ?_
    refine tap_sh (n := 23) (q := 0) (b := 24) hs hd (by decide) rfl (by decide) ?_
    refine tap_hb (n := 22) (b := 24) hb hc (by decide) rfl (by decide) ?_
    refine tap_sh (n := 21) (q := 6) (b := 16) hs hd (by decide) rfl (by decide) ?_
    refine tap_sh (n := 20) (q := 5) (b := 16) hs hd (by decide) rfl (by decide) ?_
    refine tap_sh (n := 19) (q := 4) (b := 16) hs hd (by decide) rfl (by decide) ?_
    refine tap_sh (n := 18) (q := 3) (b := 16) hs hd (by decide) rfl (by decide) ?_
    refine tap_sh (n := 17) (q := 2) (b := 16) hs hd (by decide) rfl (by decide) ?_
    refine tap_sh (n := 16) (q := 1) (b := 16) hs hd (by decide) rfl (by decide) ?_
    refine tap_sh (n := 15) (q := 0) (b := 16) hs hd (by decide) rfl (by decide) ?_
    refine tap_hb (n := 14) (b := 16) hb hc (by decide) rfl (by decide) ?_
    refine tap_sh (n := 13) (q := 6) (b := 8) hs hd (by decide) rfl (by decide) ?_
    refine tap_sh (n := 12) (q := 5) (b := 8) hs hd (by decide) rfl (by decide) ?_
    refine tap_sh (n := 11) (q := 4) (b := 8) hs hd (by decide) rfl (by decide) ?_
    refine tap_sh (n := 10) (q := 3) (b := 8) hs hd (by decide) rfl (by decide) ?_
    refine tap_sh (n := 9) (q := 2) (b := 8) hs hd (by decide) rfl (by decide) ?_
    refine tap_sh (n := 8) (q := 1) (b := 8) hs hd (by decide) rfl (by decide) ?_
    refine tap_sh (n := 7) (q := 0) (b := 8) hs hd (by decide) rfl (by decide) ?_
    refine tap_hb (n := 6) (b := 8) hb hc (by decide) rfl (by decide) ?_
    refine tap_sh (n := 5) (q := 6) (b := 0) hs hd (by decide) rfl (by decide) ?_
    refine tap_sh (n := 4) (q := 5) (b := 0) hs hd (by decide) rfl (by decide) ?_
    refine tap_sh (n := 3) (q := 4) (b := 0) hs hd (by decide) rfl (by decide) ?_
    refine tap_sh (n := 2) (q := 3) (b := 0) hs hd (by decide) rfl (by decide) ?_
    refine tap_sh (n := 1) (q := 2) (b := 0) hs hd (by decide) rfl (by decide) ?_
    refine tap_sh (n := 0) (q := 1) (b := 0) hs hd (by decide) rfl (by decide) ?_
    exact isAcc_zero
  exact agrees_nil _

/-- What the point leaves in its two output blocks and in the buffer that it passes on. -/
theorem block8 : out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs1 = OF (Hx x0 x1 x2 xs1) x4 x5 x6 x7 := by
  unfold out0_B_8
  rw [View.read_writes_junk_eq_canon]
  funext y
  exact View.canon_apply_of_pieces _ _ (out8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs1) y (cover0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs1 y)

theorem block9 : out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs1 = PRF x0 x1 x3 := by
  unfold out0_B_9
  rw [View.read_writes_junk_eq_canon]
  funext y
  exact View.canon_apply_of_pieces _ _ (out9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs1) y (cover0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs1 y)

theorem carried : sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs1 = HF (Hx x0 x1 x2 xs1) := by
  unfold sout0_B_1
  rw [View.read_writes_junk_eq_canon]
  funext y
  exact View.canon_apply_of_pieces _ _ (hb4 c arg2 harg2 arg3 harg3 arg4 harg4 arg12 arg13 harg13 x0 x1 x2 xs1) y (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs1 y)

end Cert.ConvIdeal.PayB

end
-- ==== Proof.ConvRun.lean ====
/-
  Hand-written, untrusted. The convolution kernel's two result arrays as row functions of the argument arrays: what its windows
  read, what it hands from one block of rows to the next, and what it writes.
-/
module

public import proofs.«01_k».proof.Proof.ConvSpec
public import proofs.«01_k».proof.Proof.ConvA2
public import proofs.«01_k».proof.Proof.ConvB2
public import proofs.«01_k».proof.Proof.Gen.ConvIdeal.Value

@[expose] public section

set_option maxRecDepth 16384

noncomputable section

namespace Cert.ConvIdeal.Arr

open Idealize.ShloMosaic Idealize.ShloMosaic.TcCoe Idealize.SL.Sem
open Cert.ConvIdeal Cert.ConvIdeal.Gen Cert.RowSpec Cert.ConvSpec Cert.ConvIdeal.Pay

/-- The first result as a function of the argument arrays. -/
def R8 (x : FVec Ideal S8x8192x1024 .f32) (g : FVec Ideal S1024 .f32) (w : FVec Ideal S1024x2848 .f32)
    (cw : FVec Ideal S31x512 .f32) (cb lg lb : FVec Ideal S512 .f32) : FVec Ideal S8x8192x512 .bf16 := fun i =>
  convRow (fun t k => x (ix3 (i 0) t k)) (fun k => g (ix1 k)) (fun k d => w (ix2 k d)) (fun j c => cw (ix2 j c))
    (fun c => cb (ix1 c)) (fun c => lg (ix1 c)) (fun c => lb (ix1 c)) (i 1).val (i 2)

/-- The second result. -/
def R9 (x : FVec Ideal S8x8192x1024 .f32) (g : FVec Ideal S1024 .f32) (w : FVec Ideal S1024x2848 .f32) :
    FVec Ideal S8x8192x1920 .bf16 := fun i =>
  restRow (rmsRow (fun k => x (ix3 (i 0) (i 1) k)) (fun k => g (ix1 k))) (fun k d => w (ix2 k d)) (i 2)

variable (m : (ℓ : Loc nD τ sig) → Buf (Elt Ideal) ℓ) (ρ : Dev nD → PrngReg)

theorem idx : ∀ t : Fin grid0.N, win0_0.index t = ![t.val / 16, t.val % 16, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val / 16, t.val % 16, 0]
    ∧ win0_9.index t = ![t.val / 16, t.val % 16, 0] := by decide +kernel

/-- The sequence of grid point `t`, and the sequence's row at row `r` of the point's block. -/
def bat (t : Fin grid0.N) : Fin 8 := ⟨t.val / 16, by have := t.isLt; change _ < 128 at this; omega⟩
def row (t : Fin grid0.N) (r : Fin 512) : Fin 8192 := ⟨t.val % 16 * 512 + r.val, by omega⟩

/-! What the region finds in each operand's array. -/

theorem slice_apply (w : FVec Ideal S1024x2848 .f32) (k d : Fin 1024) :
    extractStridedSlice S1024x1024 ![0, 0] w slices_S1024x2848_S1024x1024_0_0 (ix2 k d) = w (ix2 k ⟨d.val, by omega⟩) := by
  pointwise

theorem V_v3 (c : Dev nD) (k : Fin 1024) (d : Fin 1024) : (V m c main_v3 : FVec Ideal S1024x1024 .bf16) (ix2 k d)
    = (m ((c : Thread nD τ).loc main_arg2) : FVec Ideal S1024x2848 .f32) (ix2 k ⟨d.val, by omega⟩) := by
  refine Eq.trans ?_ (slice_apply _ k d)
  entry_read
  rfl

theorem sitofp_zero : FloatOps.sitofp (F := Ideal) .f32 (0#32 : BitVec 32) = (0 : EReal) := by
  show ((((0#32 : BitVec 32).toInt : ℝ)) : EReal) = 0
  simp

/-- The last columns of the projection's weight, with 96 columns of zeros after them. -/
def wrest (w : FVec Ideal S1024x2848 .f32) (k : Fin 1024) (d : Fin 1920) : EReal :=
  if hd : d.val < 1824 then w (ix2 k ⟨1024 + d.val, by omega⟩) else 0

theorem pad_apply (w : FVec Ideal S1024x2848 .f32) (k : Fin 1024) (d : Fin 1920) :
    pad S1024x1920 ![0, 0] ![0, 96] ![0, 0] (extractStridedSlice S1024x1824 ![0, 1024] w slices_S1024x2848_S1024x1824_0_1024)
      (sitofp .f32 (constantI S_ 32 0#32)) pads_S1024x1824_S1024x1920_000_0960 h_S_ (ix2 k d) = wrest w k d := by
  unfold wrest
  by_cases hd : d.val < 1824
  · rw [dif_pos hd]
    pointwise
    rw [dif_pos hd]
  · rw [dif_neg hd]
    pointwise
    rw [dif_neg hd]
    exact sitofp_zero

theorem V_v4 (c : Dev nD) (k : Fin 1024) (d : Fin 1920) : (V m c main_v4 : FVec Ideal S1024x1920 .bf16) (ix2 k d)
    = wrest (m ((c : Thread nD τ).loc main_arg2)) k d := by
  rw [← pad_apply]
  entry_read
  rfl

theorem V_v5 (c : Dev nD) : (V m c main_v5 : FVec Ideal S1x1024 .f32)
    = shapeCast S1x1024 (m ((c : Thread nD τ).loc main_arg1) : FVec Ideal S1024 .f32) shapeCasts_S1024_S1x1024 := by
  entry_read
  rfl

theorem V_v6 (c : Dev nD) : (V m c main_v6 : FVec Ideal S1x512 .f32)
    = shapeCast S1x512 (m ((c : Thread nD τ).loc main_arg4) : FVec Ideal S512 .f32) shapeCasts_S512_S1x512 := by
  entry_read
  rfl

theorem V_v7 (c : Dev nD) : (V m c main_v7 : FVec Ideal S1x512 .f32)
    = shapeCast S1x512 (m ((c : Thread nD τ).loc main_arg5) : FVec Ideal S512 .f32) shapeCasts_S512_S1x512 := by
  entry_read
  rfl

theorem V_v8 (c : Dev nD) : (V m c main_v8 : FVec Ideal S1x512 .f32)
    = shapeCast S1x512 (m ((c : Thread nD τ).loc main_arg6) : FVec Ideal S512 .f32) shapeCasts_S512_S1x512 := by
  entry_read
  rfl

theorem V_arg0 (c : Dev nD) : (V m c main_arg0 : FVec Ideal S8x8192x1024 .f32) = m ((c : Thread nD τ).loc main_arg0) := by
  entry_read
  rfl

theorem V_arg3 (c : Dev nD) : (V m c main_arg3 : FVec Ideal S31x512 .f32) = m ((c : Thread nD τ).loc main_arg3) := by
  entry_read
  rfl

/-! What each window hands the point. -/

theorem blk0 (c : Dev nD) (t : Fin grid0.N) (r : Fin 512) (k : Fin 1024) : iblk m c 0 t (ix3 0 r k)
    = (m ((c : Thread nD τ).loc main_arg0) : FVec Ideal S8x8192x1024 .f32) (ix3 (bat t) (row t r) k) := by
  have h : iblk m c 0 t (ix3 0 r k) = (V m c main_arg0 : FVec Ideal S8x8192x1024 .f32) (ix3 (bat t) (row t r) k) := by
    blk_ext [iblk, idx t, bat, row]
  rw [h, V_arg0]

theorem blk1 (c : Dev nD) (t : Fin grid0.N) (k : Fin 1024) :
    iblk m c 1 t (ix2 0 k) = (m ((c : Thread nD τ).loc main_arg1) : FVec Ideal S1024 .f32) (ix1 k) := by
  have h : iblk m c 1 t (ix2 0 k) = (V m c main_v5 : FVec Ideal S1x1024 .f32) (ix2 0 k) := by
    blk_ext [iblk, idx t]
  rw [h, V_v5]
  pointwise

theorem blk2 (c : Dev nD) (t : Fin grid0.N) (k : Fin 1024) (d : Fin 1024) : iblk m c 2 t (ix2 k d)
    = (m ((c : Thread nD τ).loc main_arg2) : FVec Ideal S1024x2848 .f32) (ix2 k ⟨d.val, by omega⟩) := by
  have h : iblk m c 2 t (ix2 k d) = (V m c main_v3 : FVec Ideal S1024x1024 .bf16) (ix2 k d) := by
    blk_ext [iblk, idx t]
  rw [h, V_v3]

theorem blk3 (c : Dev nD) (t : Fin grid0.N) (k : Fin 1024) (d : Fin 1920) : iblk m c 3 t (ix2 k d)
    = wrest (m ((c : Thread nD τ).loc main_arg2)) k d := by
  have h : iblk m c 3 t (ix2 k d) = (V m c main_v4 : FVec Ideal S1024x1920 .bf16) (ix2 k d) := by
    blk_ext [iblk, idx t]
  rw [h, V_v4]

theorem blk4 (c : Dev nD) (t : Fin grid0.N) (j : Fin 31) (d : Fin 512) :
    iblk m c 4 t (ix2 j d) = (m ((c : Thread nD τ).loc main_arg3) : FVec Ideal S31x512 .f32) (ix2 j d) := by
  have h : iblk m c 4 t (ix2 j d) = (V m c main_arg3 : FVec Ideal S31x512 .f32) (ix2 j d) := by
    blk_ext [iblk, idx t]
  rw [h, V_arg3]

theorem blk5 (c : Dev nD) (t : Fin grid0.N) (k : Fin 512) :
    iblk m c 5 t (ix2 0 k) = (m ((c : Thread nD τ).loc main_arg4) : FVec Ideal S512 .f32) (ix1 k) := by
  have h : iblk m c 5 t (ix2 0 k) = (V m c main_v6 : FVec Ideal S1x512 .f32) (ix2 0 k) := by
    blk_ext [iblk, idx t]
  rw [h, V_v6]
  pointwise

theorem blk6 (c : Dev nD) (t : Fin grid0.N) (k : Fin 512) :
    iblk m c 6 t (ix2 0 k) = (m ((c : Thread nD τ).loc main_arg5) : FVec Ideal S512 .f32) (ix1 k) := by
  have h : iblk m c 6 t (ix2 0 k) = (V m c main_v7 : FVec Ideal S1x512 .f32) (ix2 0 k) := by
    blk_ext [iblk, idx t]
  rw [h, V_v7]
  pointwise

theorem blk7 (c : Dev nD) (t : Fin grid0.N) (k : Fin 512) :
    iblk m c 7 t (ix2 0 k) = (m ((c : Thread nD τ).loc main_arg6) : FVec Ideal S512 .f32) (ix1 k) := by
  have h : iblk m c 7 t (ix2 0 k) = (V m c main_v8 : FVec Ideal S1x512 .f32) (ix2 0 k) := by
    blk_ext [iblk, idx t]
  rw [h, V_v8]
  pointwise

theorem emb8 (t : Fin grid0.N) (r : Fin 512) (l : Fin 512) :
    ((cfg0.win 8).blk t).view.emb (ix3 0 r l) = (ix3 (bat t) (row t r) l : S8x8192x512.Idx) := by
  blk_ext [idx t, bat, row]

theorem emb9 (t : Fin grid0.N) (r : Fin 512) (l : Fin 1920) :
    ((cfg0.win 9).blk t).view.emb (ix3 0 r l) = (ix3 (bat t) (row t r) l : S8x8192x1920.Idx) := by
  blk_ext [idx t, bat, row]

/-! The point's rows. -/

theorem hF_eq (c : Dev nD) (t : Fin grid0.N) (r : Fin 512) (k : Fin 1024) : hF (iblk m c 0 t) (iblk m c 1 t) (ix2 r k)
    = rmsRow (fun k => (m ((c : Thread nD τ).loc main_arg0) : FVec Ideal S8x8192x1024 .f32) (ix3 (bat t) (row t r) k))
        (fun k => (m ((c : Thread nD τ).loc main_arg1) : FVec Ideal S1024 .f32) (ix1 k)) k :=
  rmsRow_congr (fun k => blk0 m c t r k) (fun k => blk1 m c t k) rfl

theorem proj_eq (c : Dev nD) (t : Fin grid0.N) (r : Fin 512) (d : Fin 1024) :
    proj (iblk m c 0 t) (iblk m c 1 t) (iblk m c 2 t) r d
      = inRow (rmsRow (fun k => (m ((c : Thread nD τ).loc main_arg0) : FVec Ideal S8x8192x1024 .f32) (ix3 (bat t) (row t r) k))
        (fun k => (m ((c : Thread nD τ).loc main_arg1) : FVec Ideal S1024 .f32) (ix1 k)))
        (fun k d => (m ((c : Thread nD τ).loc main_arg2) : FVec Ideal S1024x2848 .f32) (ix2 k d)) ⟨d.val, by omega⟩ := by
  unfold proj inRow
  exact Finset.sum_congr rfl fun k _ => by rw [hF_eq, blk2]

theorem gcol_eq (c : Dev nD) (t : Fin grid0.N) (r d : Fin 512) :
    gcol (iblk m c 0 t) (iblk m c 1 t) (iblk m c 2 t) r d
      = gluRow (rmsRow (fun k => (m ((c : Thread nD τ).loc main_arg0) : FVec Ideal S8x8192x1024 .f32) (ix3 (bat t) (row t r) k))
        (fun k => (m ((c : Thread nD τ).loc main_arg1) : FVec Ideal S1024 .f32) (ix1 k)))
        (fun k d => (m ((c : Thread nD τ).loc main_arg2) : FVec Ideal S1024x2848 .f32) (ix2 k d)) d := by
  unfold gcol gluRow
  rw [proj_eq, proj_eq]

/-- The padded rows of the point's sequence. -/
def seqRows (c : Dev nD) (b : Fin 8) : ℕ → Fin 512 → EReal :=
  padded (fun t k => (m ((c : Thread nD τ).loc main_arg0) : FVec Ideal S8x8192x1024 .f32) (ix3 b t k))
    (fun k => (m ((c : Thread nD τ).loc main_arg1) : FVec Ideal S1024 .f32) (ix1 k))
    (fun k d => (m ((c : Thread nD τ).loc main_arg2) : FVec Ideal S1024x2848 .f32) (ix2 k d))

/-- The buffer at a point holds the padded rows from the block's first, when its history does. -/
theorem rows_eq (c : Dev nD) (t : Fin grid0.N) (hs : S32x512.Idx → EReal)
    (hh : ∀ (n : Fin 32) (d : Fin 512), hs (ix2 n d) = seqRows m c (bat t) (t.val % 16 * 512 + n.val) d) (n : ℕ) (hn : n < 544)
    (d : Fin 512) : HN hs (iblk m c 0 t) (iblk m c 1 t) (iblk m c 2 t) n d = seqRows m c (bat t) (t.val % 16 * 512 + n) d := by
  unfold HN
  by_cases h : n < 32
  · rw [dif_pos h, hh]
  · rw [dif_neg h, dif_pos (by omega), gcol_eq]
    unfold seqRows padded
    rw [if_neg (by omega), dif_pos (by omega)]
    have e : row t ⟨n - 32, by omega⟩ = ⟨t.val % 16 * 512 + n - 32, by omega⟩ := Fin.ext (by
      show t.val % 16 * 512 + (n - 32) = t.val % 16 * 512 + n - 32; omega)
    rw [e]

/-- The padded rows of a sequence's first block start with its 32 rows of zeros. -/
theorem first (c : Dev nD) (t : Fin grid0.N) (h0 : t.val % 16 = 0) (n : Fin 32) (d : Fin 512) :
    (fun _ => 0 : S32x512.Idx → EReal) (ix2 n d) = seqRows m c (bat t) (t.val % 16 * 512 + n.val) d := by
  unfold seqRows padded
  rw [if_pos (by omega)]

/-- What every point hands to the next: the padded rows of its sequence, from its block's first. -/
theorem handed (c : Dev nD) : ∀ (n : ℕ) (hn : n < grid0.N) (r : Fin 544) (d : Fin 512),
    (outsAt0 m c n hn).2.2 (ix2 r d) = seqRows m c (bat ⟨n, hn⟩) (n % 16 * 512 + r.val) d := by
  intro n
  induction n with
  | zero =>
    intro hn r d
    have e := outsAt0_A m c ⟨0, hn⟩ (Nat.zero_mod 16) (by show ¬1 ≤ 0 % 16; omega)
    rw [show outsAt0 m c 0 hn = _ from e]
    dsimp only
    rw [PayA.carried]
    exact rows_eq m c ⟨0, hn⟩ (fun _ => 0) (first m c ⟨0, hn⟩ rfl) r.val r.isLt d
  | succ n ih =>
    intro hn r d
    by_cases h0 : (n + 1) % 16 = 0
    · have e := outsAt0_A m c ⟨n + 1, hn⟩ h0 (by show ¬1 ≤ (n + 1) % 16; omega)
      rw [show outsAt0 m c (n + 1) hn = _ from e]
      dsimp only
      rw [PayA.carried]
      exact rows_eq m c ⟨n + 1, hn⟩ (fun _ => 0) (first m c ⟨n + 1, hn⟩ h0) r.val r.isLt d
    · have e := outsAt0_B m c ⟨n + 1, hn⟩ h0 (by show 1 ≤ (n + 1) % 16; omega)
      rw [show outsAt0 m c (n + 1) hn = _ from e]
      dsimp only
      rw [PayB.carried]
      refine rows_eq m c ⟨n + 1, hn⟩ _ (fun q d => ?_) r.val r.isLt d
      refine (ih (Nat.lt_of_succ_lt hn) ⟨512 + q.val, by omega⟩ d).trans ?_
      have eb : bat ⟨n, Nat.lt_of_succ_lt hn⟩ = bat ⟨n + 1, hn⟩ := Fin.ext (by show n / 16 = (n + 1) / 16; omega)
      rw [eb]
      congr 1
      show n % 16 * 512 + (512 + q.val) = (n + 1) % 16 * 512 + q.val
      omega

/-- What a later point of a sequence finds as its history. -/
theorem later (c : Dev nD) (t : Fin grid0.N) (h0 : ¬t.val % 16 = 0) (n : Fin 32) (d : Fin 512) :
    hist (outsAt0 m c (t.val - 1) (Nat.lt_of_le_of_lt (Nat.sub_le _ _) t.isLt)).2.2 (ix2 n d)
      = seqRows m c (bat t) (t.val % 16 * 512 + n.val) d := by
  refine (handed m c (t.val - 1) (Nat.lt_of_le_of_lt (Nat.sub_le _ _) t.isLt) ⟨512 + n.val, by omega⟩ d).trans ?_
  have eb : bat ⟨t.val - 1, Nat.lt_of_le_of_lt (Nat.sub_le _ _) t.isLt⟩ = bat t := Fin.ext (by show (t.val - 1) / 16 = t.val / 16; omega)
  rw [eb]
  congr 1
  show (t.val - 1) % 16 * 512 + (512 + n.val) = t.val % 16 * 512 + n.val
  omega

/-- The first output's block, over a buffer that holds the padded rows, is the first result at the rows it lands on. -/
theorem of_eq (c : Dev nD) (t : Fin grid0.N) (H : ℕ → Fin 512 → EReal)
    (hH : ∀ n, n < 544 → ∀ d, H n d = seqRows m c (bat t) (t.val % 16 * 512 + n) d) (r l : Fin 512) :
    OF H (iblk m c 4 t) (iblk m c 5 t) (iblk m c 6 t) (iblk m c 7 t) (ix3 0 r l)
      = R8 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix3 (bat t) (row t r) l) := by
  unfold OF R8 convRow
  exact lnSilu_congr (fun k => taps_eq hH (fun j d => blk4 m c t j d) (fun d => blk5 m c t d) r.val r.isLt k 31 (by omega))
    (fun k => blk6 m c t k) (fun k => blk7 m c t k) rfl

theorem prf_eq (c : Dev nD) (t : Fin grid0.N) (r : Fin 512) (l : Fin 1920) :
    PRF (iblk m c 0 t) (iblk m c 1 t) (iblk m c 3 t) (ix3 0 r l)
      = R9 (m ((c : Thread nD τ).loc main_arg0)) (m ((c : Thread nD τ).loc main_arg1)) (m ((c : Thread nD τ).loc main_arg2))
        (ix3 (bat t) (row t r) l) := by
  unfold PRF R9 restRow
  exact Finset.sum_congr rfl fun k _ => congrArg₂ (· * ·) (hF_eq m c t r k) (blk3 m c t k l)

theorem point8 (c : Dev nD) (t : Fin grid0.N) (r l : Fin 512) (i : S8x8192x512.Idx) (hi : i = ix3 (bat t) (row t r) l) :
    (outsAt0 m c t.val t.isLt).1 (ix3 0 r l)
      = R8 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) i := by
  subst hi
  by_cases h0 : t.val % 16 = 0
  · rw [outsAt0_A m c t h0 (by omega)]
    dsimp only
    rw [PayA.block8]
    exact of_eq m c t _ (rows_eq m c t (fun _ => 0) (first m c t h0)) r l
  · rw [outsAt0_B m c t h0 (by omega)]
    dsimp only
    rw [PayB.block8]
    exact of_eq m c t _ (rows_eq m c t _ (later m c t h0)) r l

theorem point9 (c : Dev nD) (t : Fin grid0.N) (r : Fin 512) (l : Fin 1920) (i : S8x8192x1920.Idx)
    (hi : i = ix3 (bat t) (row t r) l) : (outsAt0 m c t.val t.isLt).2.1 (ix3 0 r l)
      = R9 (m ((c : Thread nD τ).loc main_arg0)) (m ((c : Thread nD τ).loc main_arg1)) (m ((c : Thread nD τ).loc main_arg2)) i := by
  subst hi
  by_cases h0 : t.val % 16 = 0
  · rw [outsAt0_A m c t h0 (by omega)]
    dsimp only
    rw [PayA.block9]
    exact prf_eq m c t r l
  · rw [outsAt0_B m c t h0 (by omega)]
    dsimp only
    rw [PayB.block9]
    exact prf_eq m c t r l

theorem final8 (c : Dev nD) : (dats m 0 c).arrAt 8 cfg0.N
    = R8 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 8 _ (by decide +kernel) fun t hf y => ?_
  blk_simp
  rw [after0_8]
  idx_vars y
  obtain rfl : y0 = 0 := Fin.fin_one_eq_zero y0
  exact point8 m c t y1 y2 _ (emb8 t y1 y2)

theorem final9 (c : Dev nD) : (dats m 0 c).arrAt 9 cfg0.N
    = R9 (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  idx_vars y
  obtain rfl : y0 = 0 := Fin.fin_one_eq_zero y0
  exact point9 m c t y1 y2 _ (emb9 t y1 y2)

end Cert.ConvIdeal.Arr

end
-- ==== Proof.ConvRef.lean ====
/-
  Hand-written, untrusted. The reference's input projection and convolution as the same row functions of the argument arrays.
-/
module

public import proofs.«01_k».proof.Proof.ConvSpec
public import proofs.«01_k».proof.Proof.Gen.ConvRefIdeal.Run

@[expose] public section

set_option maxRecDepth 16384

noncomputable section

namespace Cert.ConvRefIdeal.Arr

open Idealize.ShloMosaic Idealize.ShloMosaic.TcCoe Idealize.SL.Sem
open Cert.ConvRefIdeal Cert.ConvRefIdeal.Gen Cert.RowSpec Cert.ConvSpec Cert.ConvIdeal.Pay

/-- The first result as a function of the argument arrays. -/
def R8 (x : FVec Ideal S8x8192x1024 .f32) (g : FVec Ideal S1024 .f32) (w : FVec Ideal S1024x2848 .f32)
    (cw : FVec Ideal S31x512 .f32) (cb lg lb : FVec Ideal S512 .f32) : FVec Ideal S8x8192x512 .bf16 := fun i =>
  convRow (fun t k => x (ix3 (i 0) t k)) (fun k => g (ix1 k)) (fun k d => w (ix2 k d)) (fun j c => cw (ix2 j c))
    (fun c => cb (ix1 c)) (fun c => lg (ix1 c)) (fun c => lb (ix1 c)) (i 1).val (i 2)

/-- The second result. -/
def R9 (x : FVec Ideal S8x8192x1024 .f32) (g : FVec Ideal S1024 .f32) (w : FVec Ideal S1024x2848 .f32) :
    FVec Ideal S8x8192x1920 .bf16 := fun i =>
  restRow (rmsRow (fun k => x (ix3 (i 0) (i 1) k)) (fun k => g (ix1 k))) (fun k d => w (ix2 k d)) (i 2)

/-- The reference's normalisation of a whole array. -/
def norm (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2
    (Host.rsqrt (addf (Host.divf (broadcastInDim S8x8192x1 ![0, 1] bcast_S8x8192_S8x8192x1_0_1
      (Host.reduceAdd (mulf x x) (constant S_ .f32 0x00000000#32) reducesTo_S8x8192x1024_S8x8192_d2 h_S_))
      (broadcastInDim S8x8192x1 ![] bcast_S_S8x8192x1 (constant S_ .f32 0x44800000#32)))
      (broadcastInDim S8x8192x1 ![] bcast_S_S8x8192x1 (constant S_ .f32 0x358637BD#32))))))
    (broadcastInDim S8x8192x1024 ![0, 1, 2] bcast_S1x1x1024_S8x8192x1024_0_1_2
      (broadcastInDim S1x1x1024 ![2] bcast_S1024_S1x1x1024_2 g))

theorem norm_apply (x : FVec Ideal S8x8192x1024 .f32) (g : FVec Ideal S1024 .f32) (b : Fin 8) (t : Fin 8192) (l : Fin 1024) :
    norm x g (ix3 b t l) = rmsRow (fun k => x (ix3 b t k)) (fun k => g (ix1 k)) l := by
  pointwise [norm, rmsRow, rmsScale]

/-- The reference's input projection. -/
def inp (x : FVec Ideal S8x8192x1024 .f32) (g : FVec Ideal S1024 .f32) (w : FVec Ideal S1024x2848 .f32) :
    FVec Ideal S8x8192x2848 .f32 :=
  Host.dotGeneral dot_S8x8192x1024_S1024x2848_S8x8192x2848_2_0_01_1_n_n none (norm x g) w

theorem inp_apply (x : FVec Ideal S8x8192x1024 .f32) (g : FVec Ideal S1024 .f32) (w : FVec Ideal S1024x2848 .f32) (b : Fin 8)
    (t : Fin 8192) (d : Fin 2848) : inp x g w (ix3 b t d)
      = inRow (rmsRow (fun k => x (ix3 b t k)) (fun k => g (ix1 k))) (fun k d => w (ix2 k d)) d := by
  pointwise [inp, inRow, norm_apply]

/-- The gated product of the projection's first two groups of columns. -/
def glu (y : FVec Ideal S8x8192x2848 .f32) : FVec Ideal S8x8192x512 .f32 :=
  mulf (extractStridedSlice S8x8192x512 ![0, 0, 0] (extractStridedSlice S8x8192x1024 ![0, 0, 0] y
      slices_S8x8192x2848_S8x8192x1024_0_0_0) slices_S8x8192x1024_S8x8192x512_0_0_0)
    (Host.divf (broadcastInDim S8x8192x512 ![] bcast_S_S8x8192x512 (constant S_ .f32 0x3F800000#32))
      (addf (broadcastInDim S8x8192x512 ![] bcast_S_S8x8192x512 (constant S_ .f32 0x3F800000#32))
        (Host.exp (Host.negf (extractStridedSlice S8x8192x512 ![0, 0, 512] (extractStridedSlice S8x8192x1024 ![0, 0, 0] y
          slices_S8x8192x2848_S8x8192x1024_0_0_0) slices_S8x8192x1024_S8x8192x512_0_0_512)))))

theorem glu_apply (y : FVec Ideal S8x8192x2848 .f32) (b : Fin 8) (t : Fin 8192) (c : Fin 512) :
    glu y (ix3 b t c) = y (ix3 b t ⟨c.val, by omega⟩) * Ideal.logistic (y (ix3 b t ⟨512 + c.val, by omega⟩)) := by
  pointwise [glu]
  rfl

theorem sitofp_zero : FloatOps.sitofp (F := Ideal) .f32 (0#32 : BitVec 32) = (0 : EReal) := by
  show ((((0#32 : BitVec 32).toInt : ℝ)) : EReal) = 0
  simp

/-- The gated rows with 30 rows of zeros in front. -/
def front (u : FVec Ideal S8x8192x512 .f32) : FVec Ideal S8x8222x512 .f32 :=
  pad S8x8222x512 ![0, 30, 0] ![0, 0, 0] ![0, 0, 0] u (sitofp .f32 (constantI S_ 32 0#32)) pads_S8x8192x512_S8x8222x512_000_3000_000 h_S_

theorem front_apply (u : FVec Ideal S8x8192x512 .f32) (b : Fin 8) (n : Fin 8222) (c : Fin 512) :
    front u (ix3 b n c) = if h : 30 ≤ n.val then u (ix3 b ⟨n.val - 30, by omega⟩ c) else 0 := by
  by_cases h : 30 ≤ n.val
  · rw [dif_pos h]
    pointwise [front]
    exact dif_pos ⟨h, by omega⟩
  · rw [dif_neg h]
    pointwise [front]
    exact (dif_neg fun h' => h h'.1).trans sitofp_zero

theorem front_eq (x : FVec Ideal S8x8192x1024 .f32) (g : FVec Ideal S1024 .f32) (w : FVec Ideal S1024x2848 .f32) (b : Fin 8)
    (n : Fin 8222) (c : Fin 512) : front (glu (inp x g w)) (ix3 b n c)
      = padded (fun t k => x (ix3 b t k)) (fun k => g (ix1 k)) (fun k d => w (ix2 k d)) (n.val + 2) c := by
  rw [front_apply]
  unfold padded
  by_cases h : 30 ≤ n.val
  · rw [dif_pos h, if_neg (by omega), dif_pos (by omega), glu_apply, inp_apply, inp_apply]
    have e : (⟨n.val - 30, by omega⟩ : Fin 8192) = ⟨n.val + 2 - 32, by omega⟩ := Fin.ext (by show n.val - 30 = n.val + 2 - 32; omega)
    rw [e]
    rfl
  · rw [dif_neg h, if_pos (by omega)]

/-- The first `n` taps started from zero, as the reference adds them. -/
def chain (H : ℕ → Fin 512 → EReal) (cw : Fin 31 → Fin 512 → EReal) : ℕ → ℕ → Fin 512 → EReal
  | 0, _, _ => 0
  | n + 1, t, c => chain H cw n t c + H (t + 2 + n) c * (if h : n < 31 then cw ⟨n, h⟩ c else 0)

/-- Adding the bias last or first gives the same. -/
theorem chain_conv (H : ℕ → Fin 512 → EReal) (cw : Fin 31 → Fin 512 → EReal) (cb : Fin 512 → EReal) (t : ℕ) (c : Fin 512) :
    ∀ n, chain H cw n t c + cb c = conv H cw cb n t c
  | 0 => zero_add _
  | n + 1 => by
    unfold chain conv
    rw [← chain_conv H cw cb t c n, add_right_comm]

/-- A running array after `n` taps. -/
def IsChain (H : Fin 8 → ℕ → Fin 512 → EReal) (cw : FVec Ideal S31x512 .f32) (n : ℕ) (a : FVec Ideal S8x8192x512 .f32) : Prop :=
  ∀ (b : Fin 8) (t : Fin 8192) (c : Fin 512), a (ix3 b t c) = chain (H b) (fun j c => cw (ix2 j c)) n t.val c

theorem base (H : Fin 8 → ℕ → Fin 512 → EReal) (cw : FVec Ideal S31x512 .f32) :
    IsChain H cw 0 (broadcastInDim S8x8192x512 ![] bcast_S_S8x8192x512 (constant S_ .f32 0x00000000#32)) := by
  intro b t c
  unfold chain
  pointwise

theorem cut_apply (v : FVec Ideal S8x8222x512 .f32) (n : ℕ) (hn : n < 31)
    (h1 : S8x8222x512.Slices ![0, n, 0] S8x8192x512) (b : Fin 8) (t : Fin 8192) (c : Fin 512) :
    extractStridedSlice S8x8192x512 ![0, n, 0] v h1 (ix3 b t c) = v (ix3 b ⟨n + t.val, by omega⟩ c) := by
  pointwise

theorem weight_apply (cw : FVec Ideal S31x512 .f32) (n : ℕ) (hn : n < 31) (h2 : S31x512.Slices ![n, 0] S1x512) (b : Fin 8)
    (t : Fin 8192) (c : Fin 512) :
    broadcastInDim S8x8192x512 ![0, 1, 2] bcast_S1x1x512_S8x8192x512_0_1_2 (broadcastInDim S1x1x512 ![2] bcast_S512_S1x1x512_2
      (shapeCast S512 (extractStridedSlice S1x512 ![n, 0] cw h2) shapeCasts_S1x512_S512)) (ix3 b t c) = cw (ix2 ⟨n, hn⟩ c) := by
  pointwise

/-- One more tap. -/
theorem step {H : Fin 8 → ℕ → Fin 512 → EReal} {cw : FVec Ideal S31x512 .f32} {v : FVec Ideal S8x8222x512 .f32}
    (hv : ∀ (b : Fin 8) (n : Fin 8222) (c : Fin 512), v (ix3 b n c) = H b (n.val + 2) c) {a : FVec Ideal S8x8192x512 .f32} (n : ℕ)
    (hn : n < 31) (h1 : S8x8222x512.Slices ![0, n, 0] S8x8192x512) (h2 : S31x512.Slices ![n, 0] S1x512)
    (ha : IsChain H cw n a) : IsChain H cw (n + 1) (addf a (mulf (extractStridedSlice S8x8192x512 ![0, n, 0] v h1)
      (broadcastInDim S8x8192x512 ![0, 1, 2] bcast_S1x1x512_S8x8192x512_0_1_2 (broadcastInDim S1x1x512 ![2] bcast_S512_S1x1x512_2
        (shapeCast S512 (extractStridedSlice S1x512 ![n, 0] cw h2) shapeCasts_S1x512_S512))))) := by
  intro b t c
  refine (congrArg₂ (· + ·) (ha b t c) (congrArg₂ (· * ·) (cut_apply v n hn h1 b t c) (weight_apply cw n hn h2 b t c))).trans ?_
  conv_rhs => unfold chain
  rw [hv, dif_pos hn, show n + t.val + 2 = t.val + 2 + n by omega]

/-- The padded rows that the reference reads. -/
def rowsOf (x : FVec Ideal S8x8192x1024 .f32) (g : FVec Ideal S1024 .f32) (w : FVec Ideal S1024x2848 .f32) (b : Fin 8) :
    ℕ → Fin 512 → EReal := padded (fun t k => x (ix3 b t k)) (fun k => g (ix1 k)) (fun k d => w (ix2 k d))

variable (V0 : Valuation τ sig (Elt Ideal))

abbrev A0 : FVec Ideal S8x8192x1024 .f32 := V0 (Proc.devRef .tc main_arg0)
abbrev A1 : FVec Ideal S1024 .f32 := V0 (Proc.devRef .tc main_arg1)
abbrev A2 : FVec Ideal S1024x2848 .f32 := V0 (Proc.devRef .tc main_arg2)
abbrev A3 : FVec Ideal S31x512 .f32 := V0 (Proc.devRef .tc main_arg3)
abbrev A4 : FVec Ideal S512 .f32 := V0 (Proc.devRef .tc main_arg4)
abbrev A5 : FVec Ideal S512 .f32 := V0 (Proc.devRef .tc main_arg5)
abbrev A6 : FVec Ideal S512 .f32 := V0 (Proc.devRef .tc main_arg6)

theorem v24_eq (b : Fin 8) (n : Fin 8222) (c : Fin 512) : (Value.res_main_v24 V0 : FVec Ideal S8x8222x512 .f32) (ix3 b n c)
    = rowsOf (A0 V0) (A1 V0) (A2 V0) b (n.val + 2) c := front_eq (A0 V0) (A1 V0) (A2 V0) b n c

theorem v102_eq : IsChain (rowsOf (A0 V0) (A1 V0) (A2 V0)) (A3 V0) 11 (Value.res_main_v102 V0) := by
  have hv := v24_eq V0
  unfold Value.res_main_v102
  exact
    step hv 10 (by decide) _ _ (step hv 9 (by decide) _ _ (step hv 8 (by decide) _ _ (step hv 7 (by decide) _ _ (step
    hv 6 (by decide) _ _ (step hv 5 (by decide) _ _ (step hv 4 (by decide) _ _ (step hv 3 (by decide) _ _ (step hv 2
    (by decide) _ _ (step hv 1 (by decide) _ _ (step hv 0 (by decide) _ _ (base _ _)))))))))))

theorem v179_eq : IsChain (rowsOf (A0 V0) (A1 V0) (A2 V0)) (A3 V0) 22 (Value.res_main_v179 V0) := by
  have hv := v24_eq V0
  unfold Value.res_main_v179
  exact
    step hv 21 (by decide) _ _ (step hv 20 (by decide) _ _ (step hv 19 (by decide) _ _ (step hv 18 (by decide) _ _
    (step hv 17 (by decide) _ _ (step hv 16 (by decide) _ _ (step hv 15 (by decide) _ _ (step hv 14 (by decide) _ _
    (step hv 13 (by decide) _ _ (step hv 12 (by decide) _ _ (step hv 11 (by decide) _ _ (v102_eq V0)))))))))))

/-- The convolution with its bias. -/
theorem v245_eq (b : Fin 8) (t : Fin 8192) (c : Fin 512) : (Value.res_main_v245 V0 : FVec Ideal S8x8192x512 .f32) (ix3 b t c)
    = conv (rowsOf (A0 V0) (A1 V0) (A2 V0) b) (fun j c => A3 V0 (ix2 j c)) (fun c => A4 V0 (ix1 c)) 31 t.val c := by
  have hv := v24_eq V0
  have bias : ∀ (a : FVec Ideal S8x8192x512 .f32) (cb : FVec Ideal S512 .f32), addf a (broadcastInDim S8x8192x512 ![0, 1, 2]
      bcast_S1x1x512_S8x8192x512_0_1_2 (broadcastInDim S1x1x512 ![2] bcast_S512_S1x1x512_2 cb)) (ix3 b t c)
        = a (ix3 b t c) + cb (ix1 c) := by
    intro a cb
    pointwise
  rw [← chain_conv]
  unfold Value.res_main_v245
  refine (bias _ (A4 V0)).trans (congrArg (· + A4 V0 (ix1 c)) ?_)
  refine (?_ : IsChain (rowsOf (A0 V0) (A1 V0) (A2 V0)) (A3 V0) 31 _) b t c
  exact
    step hv 30 (by decide) _ _ (step hv 29 (by decide) _ _ (step hv 28 (by decide) _ _ (step hv 27 (by decide) _ _
    (step hv 26 (by decide) _ _ (step hv 25 (by decide) _ _ (step hv 24 (by decide) _ _ (step hv 23 (by decide) _ _
    (step hv 22 (by decide) _ _ (v179_eq V0)))))))))

/-- The reference's layer normalisation. -/
def lnorm (u : FVec Ideal S8x8192x512 .f32) (lg lb : FVec Ideal S512 .f32) : FVec Ideal S8x8192x512 .f32 :=
  let mu : FVec Ideal S8x8192x1 .f32 := Host.divf (broadcastInDim S8x8192x1 ![0, 1] bcast_S8x8192_S8x8192x1_0_1
    (Host.reduceAdd u (constant S_ .f32 0x00000000#32) reducesTo_S8x8192x512_S8x8192_d2 h_S_))
    (broadcastInDim S8x8192x1 ![] bcast_S_S8x8192x1 (constant S_ .f32 0x44000000#32))
  let e : FVec Ideal S8x8192x512 .f32 := subf u (broadcastInDim S8x8192x512 ![0, 1, 2] bcast_S8x8192x1_S8x8192x512_0_1_2 mu)
  addf (mulf (mulf e (broadcastInDim S8x8192x512 ![0, 1, 2] bcast_S8x8192x1_S8x8192x512_0_1_2 (Host.rsqrt (addf (Host.divf
      (broadcastInDim S8x8192x1 ![0, 1] bcast_S8x8192_S8x8192x1_0_1 (Host.reduceAdd (mulf e e) (constant S_ .f32 0x00000000#32)
        reducesTo_S8x8192x512_S8x8192_d2 h_S_)) (broadcastInDim S8x8192x1 ![] bcast_S_S8x8192x1 (constant S_ .f32 0x44000000#32)))
      (broadcastInDim S8x8192x1 ![] bcast_S_S8x8192x1 (constant S_ .f32 0x3727C5AC#32))))))
    (broadcastInDim S8x8192x512 ![0, 1, 2] bcast_S1x1x512_S8x8192x512_0_1_2 (broadcastInDim S1x1x512 ![2] bcast_S512_S1x1x512_2 lg)))
    (broadcastInDim S8x8192x512 ![0, 1, 2] bcast_S1x1x512_S8x8192x512_0_1_2 (broadcastInDim S1x1x512 ![2] bcast_S512_S1x1x512_2 lb))

theorem lnorm_apply (u : FVec Ideal S8x8192x512 .f32) (lg lb : FVec Ideal S512 .f32) (b : Fin 8) (t : Fin 8192) (c : Fin 512) :
    lnorm u lg lb (ix3 b t c) = lnRow (fun k => u (ix3 b t k)) (fun k => lg (ix1 k)) (fun k => lb (ix1 k)) c := by
  pointwise [lnorm, lnRow, mean512]

theorem silu_apply (u : FVec Ideal S8x8192x512 .f32) (b : Fin 8) (t : Fin 8192) (c : Fin 512) :
    (truncf .bf16 (mulf u (Host.divf (broadcastInDim S8x8192x512 ![] bcast_S_S8x8192x512 (constant S_ .f32 0x3F800000#32))
      (addf (broadcastInDim S8x8192x512 ![] bcast_S_S8x8192x512 (constant S_ .f32 0x3F800000#32)) (Host.exp (Host.negf u)))))
      bitsLt_bf16_f32 : FVec Ideal S8x8192x512 .bf16) (ix3 b t c) = u (ix3 b t c) * Ideal.logistic (u (ix3 b t c)) := by
  pointwise
  rfl

theorem ref8_eq : (truncf .bf16 (mulf (Value.res_main_v269 V0) (Host.divf (broadcastInDim S8x8192x512 ![] bcast_S_S8x8192x512
      (constant S_ .f32 0x3F800000#32)) (addf (broadcastInDim S8x8192x512 ![] bcast_S_S8x8192x512 (constant S_ .f32 0x3F800000#32))
        (Host.exp (Host.negf (Value.res_main_v269 V0)))))) bitsLt_bf16_f32 : FVec Ideal S8x8192x512 .bf16)
      = R8 (A0 V0) (A1 V0) (A2 V0) (A3 V0) (A4 V0) (A5 V0) (A6 V0) := by
  funext i
  obtain ⟨b, t, c, rfl⟩ : ∃ (b : Fin 8) (t : Fin 8192) (c : Fin 512), i = ix3 b t c := ⟨i 0, i 1, i 2, eq_ix3 i⟩
  rw [silu_apply]
  have e : (Value.res_main_v269 V0 : FVec Ideal S8x8192x512 .f32) (ix3 b t c) = lnRow (conv (rowsOf (A0 V0) (A1 V0) (A2 V0) b)
      (fun j c => A3 V0 (ix2 j c)) (fun c => A4 V0 (ix1 c)) 31 t.val) (fun k => A5 V0 (ix1 k)) (fun k => A6 V0 (ix1 k)) c := by
    refine (lnorm_apply (Value.res_main_v245 V0) (A5 V0) (A6 V0) b t c).trans ?_
    rw [show (fun k => (Value.res_main_v245 V0 : FVec Ideal S8x8192x512 .f32) (ix3 b t k)) = _ from funext fun k => v245_eq V0 b t k]
  rw [e]
  rfl

theorem rest_apply (y : FVec Ideal S8x8192x2848 .f32) (b : Fin 8) (t : Fin 8192) (d : Fin 1920) :
    (truncf .bf16 (pad S8x8192x1920 ![0, 0, 0] ![0, 0, 96] ![0, 0, 0] (extractStridedSlice S8x8192x1824 ![0, 0, 1024] y
      slices_S8x8192x2848_S8x8192x1824_0_0_1024) (sitofp .f32 (constantI S_ 32 0#32)) pads_S8x8192x1824_S8x8192x1920_000_000_0960 h_S_)
      bitsLt_bf16_f32 : FVec Ideal S8x8192x1920 .bf16) (ix3 b t d)
      = if hd : d.val < 1824 then y (ix3 b t ⟨1024 + d.val, by omega⟩) else 0 := by
  by_cases hd : d.val < 1824
  · rw [dif_pos hd]
    pointwise
    rw [dif_pos hd]
  · rw [dif_neg hd]
    pointwise
    rw [dif_neg hd]
    exact sitofp_zero

theorem ref9_eq : (truncf .bf16 (pad S8x8192x1920 ![0, 0, 0] ![0, 0, 96] ![0, 0, 0] (extractStridedSlice S8x8192x1824 ![0, 0, 1024]
      (Value.res_main_v13 V0) slices_S8x8192x2848_S8x8192x1824_0_0_1024) (sitofp .f32 (constantI S_ 32 0#32))
      pads_S8x8192x1824_S8x8192x1920_000_000_0960 h_S_) bitsLt_bf16_f32 : FVec Ideal S8x8192x1920 .bf16)
      = R9 (A0 V0) (A1 V0) (A2 V0) := by
  funext i
  obtain ⟨b, t, d, rfl⟩ : ∃ (b : Fin 8) (t : Fin 8192) (d : Fin 1920), i = ix3 b t d := ⟨i 0, i 1, i 2, eq_ix3 i⟩
  rw [rest_apply]
  show _ = restRow (rmsRow (fun k => A0 V0 (ix3 b t k)) (fun k => A1 V0 (ix1 k))) (fun k d => A2 V0 (ix2 k d)) d
  unfold restRow
  by_cases hd : d.val < 1824
  · rw [dif_pos hd]
    simp only [dif_pos hd]
    exact inp_apply (A0 V0) (A1 V0) (A2 V0) b t ⟨1024 + d.val, by omega⟩
  · rw [dif_neg hd]
    simp only [dif_neg hd, mul_zero, Finset.sum_const_zero]

/-- The two results over a launch's arguments. -/
theorem out8 (m : (ℓ : Loc nD τ sig) → Buf (Elt Ideal) ℓ) (c : Dev nD) :
    (truncf .bf16 (mulf (Value.res_main_v269 (StableHlo.launchContents m c)) (Host.divf (broadcastInDim S8x8192x512 ![] bcast_S_S8x8192x512
      (constant S_ .f32 0x3F800000#32)) (addf (broadcastInDim S8x8192x512 ![] bcast_S_S8x8192x512 (constant S_ .f32 0x3F800000#32))
        (Host.exp (Host.negf (Value.res_main_v269 (StableHlo.launchContents m c))))))) bitsLt_bf16_f32 : FVec Ideal S8x8192x512 .bf16)
      = R8 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := ref8_eq (StableHlo.launchContents m c)

theorem out9 (m : (ℓ : Loc nD τ sig) → Buf (Elt Ideal) ℓ) (c : Dev nD) :
    (truncf .bf16 (pad S8x8192x1920 ![0, 0, 0] ![0, 0, 96] ![0, 0, 0] (extractStridedSlice S8x8192x1824 ![0, 0, 1024]
      (Value.res_main_v13 (StableHlo.launchContents m c)) slices_S8x8192x2848_S8x8192x1824_0_0_1024) (sitofp .f32 (constantI S_ 32 0#32))
      pads_S8x8192x1824_S8x8192x1920_000_000_0960 h_S_) bitsLt_bf16_f32 : FVec Ideal S8x8192x1920 .bf16)
      = R9 (m ((c : Thread nD τ).loc main_arg0)) (m ((c : Thread nD τ).loc main_arg1)) (m ((c : Thread nD τ).loc main_arg2)) :=
  ref9_eq (StableHlo.launchContents m c)

end Cert.ConvRefIdeal.Arr

end
-- ==== Proof.lean ====
module

public import proofs.«01_k».proof.Defs
public import proofs.«01_k».proof.Proof.XattnRef
public import proofs.«01_k».proof.Proof.SwigluRun
public import proofs.«01_k».proof.Proof.Gen.SwigluRefIdeal.Run
public import proofs.«01_k».proof.Proof.Gen.ReferenceIdeal.Run
public import proofs.«01_k».proof.Proof.Gen.SwigluIdeal.Value
public import proofs.«01_k».proof.Proof.Gen.KernelIdeal.Value
public import proofs.«01_k».proof.Proof.MemKvRun
public import proofs.«01_k».proof.Proof.Gen.MemKvIdeal.Value
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvRefIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.ConvRun
public import proofs.«01_k».proof.Proof.ConvRef
public import proofs.«01_k».proof.Proof.Gen.ConvIdeal.Value
public import proofs.«01_k».proof.Proof.Gen.ConvRefIdeal.Run
public import Idealize.ShloMosaic.Adequacy
public import Idealize.ShloMosaic.Init

@[expose] public section

noncomputable section

namespace Cert.Proof

open Idealize.ShloMosaic Idealize.ShloMosaic.TcCoe Idealize.SL.Sem
open Cert

/-- The kernel's run and the reference's run end with the same result. -/
theorem algebraic_KernelIdeal : Cert.algebraic_KernelIdeal_ReferenceIdeal :=
  fun m ρ m' ρ' _ hag => ⟨fun c => KernelIdeal.Arr.G (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8)) (m ((c : Thread KernelIdeal.nD KernelIdeal.τ).loc KernelIdeal.main_arg9)),
    (θ_run _ _ _).mono (fun _ h c => ⟨(h c).1.trans (KernelIdeal.Arr.final m c), (h c).2⟩) (KernelIdeal.Value.run_blocks m ρ),
    (θ_run _ _ _).mono (fun _ h c => ⟨(h c).1.trans ((ReferenceIdeal.Arr.ref_eq m' c).trans (by rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2])), (h c).2⟩)
      (ReferenceIdeal.Value.run m' ρ')⟩

/-- The reference's run keeps its arguments; it has no semaphore. -/
theorem frame_ReferenceIdeal : Cert.quiescent_ReferenceIdeal :=
  fun m ρ _ => (θ_run _ _ _).mono (fun r h => ⟨fun c => (h c).2, sem_eq_zero_of_no_sems (by decide) r.2⟩) (ReferenceIdeal.Value.run m ρ)

/-- The kernel's run and the reference's run end with the same result. -/
theorem algebraic_SwigluIdeal : Cert.algebraic_SwigluIdeal_SwigluRefIdeal :=
  fun m ρ m' ρ' _ hag => ⟨fun c => SwigluIdeal.Arr.G (m ((c : Thread SwigluIdeal.nD SwigluIdeal.τ).loc SwigluIdeal.main_arg0)) (m ((c : Thread SwigluIdeal.nD SwigluIdeal.τ).loc SwigluIdeal.main_arg1)) (m ((c : Thread SwigluIdeal.nD SwigluIdeal.τ).loc SwigluIdeal.main_arg2)) (m ((c : Thread SwigluIdeal.nD SwigluIdeal.τ).loc SwigluIdeal.main_arg3)) (m ((c : Thread SwigluIdeal.nD SwigluIdeal.τ).loc SwigluIdeal.main_arg4)),
    (θ_run _ _ _).mono (fun _ h c => ⟨(h c).1.trans (SwigluIdeal.Arr.final m c), (h c).2⟩) (SwigluIdeal.Value.run_blocks m ρ),
    (θ_run _ _ _).mono (fun _ h c => ⟨(h c).1.trans ((SwigluRefIdeal.Arr.ref_eq m' c).trans (by rw [(hag c).1, (hag c).2.1, (hag c).2.2.1, (hag c).2.2.2.1, (hag c).2.2.2.2])), (h c).2⟩)
      (SwigluRefIdeal.Value.run m' ρ')⟩

/-- The reference's run keeps its arguments; it has no semaphore. -/
theorem frame_SwigluRefIdeal : Cert.quiescent_SwigluRefIdeal :=
  fun m ρ _ => (θ_run _ _ _).mono (fun r h => ⟨fun c => (h c).2, sem_eq_zero_of_no_sems (by decide) r.2⟩) (SwigluRefIdeal.Value.run m ρ)

/-- The memory's keys and values: the kernel's run and the reference's run end with the same result. -/
theorem algebraic_MemKvIdeal : Cert.algebraic_MemKvIdeal_MemKvRefIdeal :=
  fun m ρ m' ρ' _ hag => ⟨fun c => MemKvIdeal.Arr.G (m ((c : Thread MemKvIdeal.nD MemKvIdeal.τ).loc MemKvIdeal.main_arg0)) (m ((c : Thread MemKvIdeal.nD MemKvIdeal.τ).loc MemKvIdeal.main_arg1)) (m ((c : Thread MemKvIdeal.nD MemKvIdeal.τ).loc MemKvIdeal.main_arg2)),
    (θ_run _ _ _).mono (fun _ h c => ⟨(h c).1.trans (MemKvIdeal.Arr.final m c), (h c).2⟩) (MemKvIdeal.Value.run_blocks m ρ),
    (θ_run _ _ _).mono (fun _ h c => ⟨(h c).1.trans ((MemKvRefIdeal.Arr.ref_eq m' c).trans (by rw [(hag c).1, (hag c).2.1, (hag c).2.2])), (h c).2⟩)
      (MemKvRefIdeal.Value.run m' ρ')⟩

/-- The reference's run keeps its arguments; it has no semaphore. -/
theorem frame_MemKvRefIdeal : Cert.quiescent_MemKvRefIdeal :=
  fun m ρ _ => (θ_run _ _ _).mono (fun r h => ⟨fun c => (h c).2, sem_eq_zero_of_no_sems (by decide) r.2⟩) (MemKvRefIdeal.Value.run m ρ)

/-- The input projection and the convolution: both results agree between the kernel's run and the reference's. -/
theorem algebraic_ConvIdeal : Cert.algebraic_ConvIdeal_ConvRefIdeal :=
  fun m ρ m' ρ' _ hag => ⟨fun c => ConvIdeal.Arr.R8 (m ((c : Thread ConvIdeal.nD ConvIdeal.τ).loc ConvIdeal.main_arg0)) (m ((c : Thread ConvIdeal.nD ConvIdeal.τ).loc ConvIdeal.main_arg1)) (m ((c : Thread ConvIdeal.nD ConvIdeal.τ).loc ConvIdeal.main_arg2)) (m ((c : Thread ConvIdeal.nD ConvIdeal.τ).loc ConvIdeal.main_arg3)) (m ((c : Thread ConvIdeal.nD ConvIdeal.τ).loc ConvIdeal.main_arg4)) (m ((c : Thread ConvIdeal.nD ConvIdeal.τ).loc ConvIdeal.main_arg5)) (m ((c : Thread ConvIdeal.nD ConvIdeal.τ).loc ConvIdeal.main_arg6)),
    fun c => ConvIdeal.Arr.R9 (m ((c : Thread ConvIdeal.nD ConvIdeal.τ).loc ConvIdeal.main_arg0)) (m ((c : Thread ConvIdeal.nD ConvIdeal.τ).loc ConvIdeal.main_arg1)) (m ((c : Thread ConvIdeal.nD ConvIdeal.τ).loc ConvIdeal.main_arg2)),
    (θ_run _ _ _).mono (fun _ h c => ⟨(h c).1.trans (ConvIdeal.Arr.final8 m c), (h c).2.1.trans (ConvIdeal.Arr.final9 m c), (h c).2.2⟩) (ConvIdeal.Value.run_blocks m ρ),
    (θ_run _ _ _).mono (fun _ h c => ⟨(h c).1.trans ((ConvRefIdeal.Arr.out8 m' c).trans (by rw [(hag c).1, (hag c).2.1, (hag c).2.2.1, (hag c).2.2.2.1, (hag c).2.2.2.2.1, (hag c).2.2.2.2.2.1, (hag c).2.2.2.2.2.2]; rfl)),
      (h c).2.1.trans ((ConvRefIdeal.Arr.out9 m' c).trans (by rw [(hag c).1, (hag c).2.1, (hag c).2.2.1]; rfl)), (h c).2.2⟩)
      (ConvRefIdeal.Value.run m' ρ')⟩

/-- The reference's run keeps its arguments; it has no semaphore. -/
theorem frame_ConvRefIdeal : Cert.quiescent_ConvRefIdeal :=
  fun m ρ _ => (θ_run _ _ _).mono (fun r h => ⟨fun c => (h c).2.2, sem_eq_zero_of_no_sems (by decide) r.2⟩) (ConvRefIdeal.Value.run m ρ)

theorem claim : Cert.Claim := ⟨Cert.Kernel.Gen.facts, Cert.KernelIdeal.Gen.facts, Cert.ReferenceIdeal.Gen.facts, Cert.Swiglu.Gen.facts, Cert.SwigluIdeal.Gen.facts, Cert.SwigluRefIdeal.Gen.facts, Cert.MemKv.Gen.facts, Cert.MemKvIdeal.Gen.facts, Cert.MemKvRefIdeal.Gen.facts, Cert.Conv.Gen.facts, Cert.ConvIdeal.Gen.facts, Cert.ConvRefIdeal.Gen.facts,
  fun m ρ _ => Cert.Kernel.Gen.frame m ρ, fun m ρ _ => Cert.KernelIdeal.Gen.frame m ρ, frame_ReferenceIdeal,
  fun m ρ _ => Cert.Swiglu.Gen.frame m ρ, fun m ρ _ => Cert.SwigluIdeal.Gen.frame m ρ, frame_SwigluRefIdeal,
  fun m ρ _ => Cert.MemKv.Gen.frame m ρ, fun m ρ _ => Cert.MemKvIdeal.Gen.frame m ρ, frame_MemKvRefIdeal,
  fun m ρ _ => Cert.Conv.Gen.frame m ρ, fun m ρ _ => Cert.ConvIdeal.Gen.frame m ρ, frame_ConvRefIdeal,
  trivial, algebraic_KernelIdeal, trivial, algebraic_SwigluIdeal, trivial, algebraic_MemKvIdeal,
  trivial, algebraic_ConvIdeal⟩

end Cert.Proof

end
